-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![1, 8192, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 8, 128]⟩ ⟨4, ![1, 8192, 8, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 8192, 8, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = Layout.block ⟨3, ![1, 2048, 1024]⟩ ⟨3, ![1, 8192, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x2048x1024 : Shape := ⟨3, ![1, 2048, 1024]⟩
abbrev S1024x1024 : Shape := ⟨2, ![1024, 1024]⟩
abbrev S1x2048x8x128 : Shape := ⟨4, ![1, 2048, 8, 128]⟩
abbrev S_ : Shape := ⟨0, ![]⟩

class Facts : Prop where
  bitsLt_bf16_f32 : FTy.bits .bf16 < FTy.bits .f32
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x8x128 : S_.BroadcastsInDim S1x2048x8x128 (![] : Fin 0 → Fin S1x2048x8x128.rank)
  reducesTo_S1x2048x8x128_S_d0_1_2_3 : S1x2048x8x128.ReducesTo [0, 1, 2, 3] S_

variable [Facts]

def fn {F : FTy → Type} [FloatOps F] (main_arg0 : FVec F S1x2048x1024 .bf16) (main_arg1 : FVec F S1024x1024 .bf16) (main_arg2 : FVec F S1x2048x8x128 .bf16) (main_arg3 : FVec F S1x2048x8x128 .bf16) (main_arg4 : FVec F S1024x1024 .bf16) : IVec S_ 1 :=
  let main_v0 : FVec F S1x2048x1024 .f32 := (extf .f32 · bitsLt_bf16_f32) main_arg0
  let main_v1 : FVec F S1x2048x1024 .f32 := Host.absf main_v0
  let main_cst : FVec F S_ .f32 := constant S_ .f32 0x7F800000#32
  let main_v2 : FVec F S1x2048x1024 .f32 := broadcastInDim S1x2048x1024 ![] bcast_S_S1x2048x1024 main_cst
  let main_v3 : IVec S1x2048x1024 1 := cmpf .olt main_v1 main_v2
  let main_c : IVec S_ 1 := constantI S_ 1 1#1
  let main_v4 : IVec S_ 1 := (fun x v => Host.reduce IntOp.andi x v reducesTo_S1x2048x1024_S_d0_1_2 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S1x2048x8x128 .f32 := (extf .f32 · bitsLt_bf16_f32) main_arg2
  let main_v12 : FVec F S1x2048x8x128 .f32 := Host.absf main_v11
  let main_cst_2 : FVec F S_ .f32 := constant S_ .f32 0x7F800000#32
  let main_v13 : FVec F S1x2048x8x128 .f32 := broadcastInDim S1x2048x8x128 ![] bcast_S_S1x2048x8x128 main_cst_2
  let main_v14 : IVec S1x2048x8x128 1 := cmpf .olt main_v12 main_v13
  let main_c_3 : IVec S_ 1 := constantI S_ 1 1#1
  let main_v15 : IVec S_ 1 := (fun x v => Host.reduce IntOp.andi x v reducesTo_S1x2048x8x128_S_d0_1_2_3 h_S_) main_v14 main_c_3
  let main_v16 : IVec S_ 1 := andi main_v10 main_v15
  main_v16
-- ==== Pre_finite_ReferenceIdeal.lean ====
abbrev S1x8192x1024 : Shape := ⟨3, ![1, 8192, 1024]⟩
abbrev S1024x1024 : Shape := ⟨2, ![1024, 1024]⟩
abbrev S1x8192x8x128 : Shape := ⟨4, ![1, 8192, 8, 128]⟩
abbrev S_ : Shape := ⟨0, ![]⟩

class Facts : Prop where
  bitsLt_bf16_f32 : FTy.bits .bf16 < FTy.bits .f32
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x8192x8x128 : S_.BroadcastsInDim S1x8192x8x128 (![] : Fin 0 → Fin S1x8192x8x128.rank)
  reducesTo_S1x8192x8x128_S_d0_1_2_3 : S1x8192x8x128.ReducesTo [0, 1, 2, 3] S_

variable [Facts]

def fn {F : FTy → Type} [FloatOps F] (main_arg0 : FVec F S1x8192x1024 .bf16) (main_arg1 : FVec F S1024x1024 .bf16) (main_arg2 : FVec F S1x8192x8x128 .bf16) (main_arg3 : FVec F S1x8192x8x128 .bf16) (main_arg4 : FVec F S1024x1024 .bf16) : IVec S_ 1 :=
  let main_v0 : FVec F S1x8192x1024 .f32 := (extf .f32 · bitsLt_bf16_f32) main_arg0
  let main_v1 : FVec F S1x8192x1024 .f32 := Host.absf main_v0
  let main_cst : FVec F S_ .f32 := constant S_ .f32 0x7F800000#32
  let main_v2 : FVec F S1x8192x1024 .f32 := broadcastInDim S1x8192x1024 ![] bcast_S_S1x8192x1024 main_cst
  let main_v3 : IVec S1x8192x1024 1 := cmpf .olt main_v1 main_v2
  let main_c : IVec S_ 1 := constantI S_ 1 1#1
  let main_v4 : IVec S_ 1 := (fun x v => Host.reduce IntOp.andi x v reducesTo_S1x8192x1024_S_d0_1_2 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S1x8192x8x128 .f32 := (extf .f32 · bitsLt_bf16_f32) main_arg2
  let main_v12 : FVec F S1x8192x8x128 .f32 := Host.absf main_v11
  let main_cst_2 : FVec F S_ .f32 := constant S_ .f32 0x7F800000#32
  let main_v13 : FVec F S1x8192x8x128 .f32 := broadcastInDim S1x8192x8x128 ![] bcast_S_S1x8192x8x128 main_cst_2
  let main_v14 : IVec S1x8192x8x128 1 := cmpf .olt main_v12 main_v13
  let main_c_3 : IVec S_ 1 := constantI S_ 1 1#1
  let main_v15 : IVec S_ 1 := (fun x v => Host.reduce IntOp.andi x v reducesTo_S1x8192x8x128_S_d0_1_2_3 h_S_) main_v14 main_c_3
  let main_v16 : IVec S_ 1 := andi main_v10 main_v15
  main_v16
-- ==== Kernel.lean ====
abbrev S1x2048x1024 : Shape := ⟨3, ![1, 2048, 1024]⟩
abbrev S1024x1024 : Shape := ⟨2, ![1024, 1024]⟩
abbrev S1x2048x8x128 : Shape := ⟨4, ![1, 2048, 8, 128]⟩
abbrev S2048x1024 : Shape := ⟨2, ![2048, 1024]⟩
abbrev S2048x8x128 : Shape := ⟨3, ![2048, 8, 128]⟩
abbrev S8x2048x128 : Shape := ⟨3, ![8, 2048, 128]⟩
abbrev S8x2048x256 : Shape := ⟨3, ![8, 2048, 256]⟩
abbrev S4x8x2048x256 : Shape := ⟨4, ![4, 8, 2048, 256]⟩
abbrev S64x128x256 : Shape := ⟨3, ![64, 128, 256]⟩
abbrev S64x1x256 : Shape := ⟨3, ![64, 1, 256]⟩
abbrev S1024x2048 : Shape := ⟨2, ![1024, 2048]⟩
abbrev S_ : Shape := ⟨0, ![]⟩
abbrev S3 : Shape := ⟨1, ![3]⟩
abbrev S4 : Shape := ⟨1, ![4]⟩
abbrev S1 : Shape := ⟨1, ![1]⟩
abbrev S1x8x2048x256 : Shape := ⟨4, ![1, 8, 2048, 256]⟩
abbrev S1024x256 : Shape := ⟨2, ![1024, 256]⟩
abbrev S2048x256 : Shape := ⟨2, ![2048, 256]⟩
abbrev S2048x128 : Shape := ⟨2, ![2048, 128]⟩
abbrev S1x2048x128 : Shape := ⟨3, ![1, 2048, 128]⟩
abbrev S1x256x128 : Shape := ⟨3, ![1, 256, 128]⟩
abbrev S256x128 : Shape := ⟨2, ![256, 128]⟩
abbrev S256x256 : Shape := ⟨2, ![256, 256]⟩
abbrev S256x1 : Shape := ⟨2, ![256, 1]⟩
abbrev S1x256 : Shape := ⟨2, ![1, 256]⟩
abbrev S1x1x256 : Shape := ⟨3, ![1, 1, 256]⟩
abbrev S256 : Shape := ⟨1, ![256]⟩
abbrev S1x128x256 : Shape := ⟨3, ![1, 128, 256]⟩
abbrev S128x256 : Shape := ⟨2, ![128, 256]⟩
abbrev S1x512x128 : Shape := ⟨3, ![1, 512, 128]⟩
abbrev S512x128 : Shape := ⟨2, ![512, 128]⟩
abbrev S512x256 : Shape := ⟨2, ![512, 256]⟩
abbrev S512x1 : Shape := ⟨2, ![512, 1]⟩
abbrev S1x768x128 : Shape := ⟨3, ![1, 768, 128]⟩
abbrev S768x128 : Shape := ⟨2, ![768, 128]⟩
abbrev S768x256 : Shape := ⟨2, ![768, 256]⟩
abbrev S768x1 : Shape := ⟨2, ![768, 1]⟩
abbrev S1x1024x128 : Shape := ⟨3, ![1, 1024, 128]⟩
abbrev S1024x128 : Shape := ⟨2, ![1024, 128]⟩
abbrev S1024x1 : Shape := ⟨2, ![1024, 1]⟩
abbrev S1x1280x128 : Shape := ⟨3, ![1, 1280, 128]⟩
abbrev S1280x128 : Shape := ⟨2, ![1280, 128]⟩
abbrev S1280x256 : Shape := ⟨2, ![1280, 256]⟩
abbrev S1280x1 : Shape := ⟨2, ![1280, 1]⟩
abbrev S1x1536x128 : Shape := ⟨3, ![1, 1536, 128]⟩
abbrev S1536x128 : Shape := ⟨2, ![1536, 128]⟩
abbrev S1536x256 : Shape := ⟨2, ![1536, 256]⟩
abbrev S1536x1 : Shape := ⟨2, ![1536, 1]⟩
abbrev S1x1792x128 : Shape := ⟨3, ![1, 1792, 128]⟩
abbrev S1792x128 : Shape := ⟨2, ![1792, 128]⟩
abbrev S1792x256 : Shape := ⟨2, ![1792, 256]⟩
abbrev S1792x1 : Shape := ⟨2, ![1792, 1]⟩
abbrev S2048x1 : Shape := ⟨2, ![2048, 1]⟩
abbrev S1024x512 : Shape := ⟨2, ![1024, 512]⟩
abbrev S512x1024 : Shape := ⟨2, ![512, 1024]⟩
abbrev S1x512x1024 : Shape := ⟨3, ![1, 512, 1024]⟩

abbrev nBuf : Space → Nat
  | .hbm => 13
  | .vmem => 10
  | .smem => 0
  | _ => 0

abbrev bufTy : (tb : Table) → Fin (tcTables nBuf tb) → BufTy
  | .hbm, ⟨0, _⟩ => ⟨S1x2048x1024, .bf16⟩
  | .hbm, ⟨1, _⟩ => ⟨S1024x1024, .bf16⟩
  | .hbm, ⟨2, _⟩ => ⟨S1x2048x8x128, .bf16⟩
  | .hbm, ⟨3, _⟩ => ⟨S1x2048x8x128, .bf16⟩
  | .hbm, ⟨4, _⟩ => ⟨S1024x1024, .bf16⟩
  | .hbm, ⟨5, _⟩ => ⟨S2048x1024, .bf16⟩
  | .hbm, ⟨6, _⟩ => ⟨S2048x8x128, .bf16⟩
  | .hbm, ⟨7, _⟩ => ⟨S8x2048x128, .bf16⟩
  | .hbm, ⟨8, _⟩ => ⟨S2048x8x128, .bf16⟩
  | .hbm, ⟨9, _⟩ => ⟨S8x2048x128, .bf16⟩
  | .hbm, ⟨10, _⟩ => ⟨S8x2048x256, .bf16⟩
  | .hbm, ⟨11, _⟩ => ⟨S1x2048x1024, .f32⟩
  | .hbm, ⟨12, _⟩ => ⟨S4x8x2048x256, .bf16⟩
  | .local _ .vmem, ⟨0, _⟩ => ⟨S2048x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x2048x1024, .f32⟩
  | .local _ .vmem, ⟨4, _⟩ => ⟨S8x2048x128, .bf16⟩
  | .local _ .vmem, ⟨5, _⟩ => ⟨S8x2048x256, .bf16⟩
  | .local _ .vmem, ⟨6, _⟩ => ⟨S64x128x256, .f32⟩
  | .local _ .vmem, ⟨7, _⟩ => ⟨S64x1x256, .f32⟩
  | .local _ .vmem, ⟨8, _⟩ => ⟨S64x1x256, .f32⟩
  | .local _ .vmem, ⟨9, _⟩ => ⟨S1024x2048, .bf16⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v16 : BitVec 32 := Scalar.addi v2 c1_i32_13
  let c3_i32_14 : BitVec 32 := 3#32
  let v17 : BitVec 1 := Scalar.cmpi .sle v16 c3_i32_14
  let v18 : BitVec 32 := Scalar.extui v17
  let c0_i32_15 : BitVec 32 := 0#32
  let v19 : BitVec 1 := Scalar.cmpi .ne v18 c0_i32_15
  v19

def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off2 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_128 : BitVec 32 := 0#32
  let c0_i32_129 : BitVec 32 := 0#32
  let c0_i32_130 : BitVec 32 := 0#32
  ![v2.toNat, 0, 0, 0]
def k0_dev4 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_124 : BitVec 32 := 1#32
  let v165 : BitVec 32 := Scalar.addi v2 c1_i32_124
  let c1_i32_126 : BitVec 32 := 1#32
  let v166 : BitVec 32 := Scalar.muli v165 c1_i32_126
  let v167 : BitVec 32 := Scalar.addi c0_i32_127 v166
  v167.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_16 : BitVec 32 := 2#32
  let v20 : BitVec 32 := Scalar.addi v2 c2_i32_16
  let c3_i32_17 : BitVec 32 := 3#32
  let v21 : BitVec 1 := Scalar.cmpi .sle v20 c3_i32_17
  let v22 : BitVec 32 := Scalar.extui v21
  let c0_i32_18 : BitVec 32 := 0#32
  let v23 : BitVec 1 := Scalar.cmpi .ne v22 c0_i32_18
  v23

def k0_off3 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off4 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_128 : BitVec 32 := 0#32
  let c0_i32_129 : BitVec 32 := 0#32
  let c0_i32_130 : BitVec 32 := 0#32
  ![v2.toNat, 0, 0, 0]
def k0_dev5 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_124 : BitVec 32 := 2#32
  let v165 : BitVec 32 := Scalar.addi v2 c2_i32_124
  let c1_i32_126 : BitVec 32 := 1#32
  let v166 : BitVec 32 := Scalar.muli v165 c1_i32_126
  let v167 : BitVec 32 := Scalar.addi c0_i32_127 v166
  v167.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_19 : BitVec 32 := 3#32
  let v24 : BitVec 32 := Scalar.addi v2 c3_i32_19
  let c3_i32_20 : BitVec 32 := 3#32
  let v25 : BitVec 1 := Scalar.cmpi .sle v24 c3_i32_20
  let v26 : BitVec 32 := Scalar.extui v25
  let c0_i32_21 : BitVec 32 := 0#32
  let v27 : BitVec 1 := Scalar.cmpi .ne v26 c0_i32_21
  v27

def k0_off5 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off6 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_128 : BitVec 32 := 0#32
  let c0_i32_129 : BitVec 32 := 0#32
  let c0_i32_130 : BitVec 32 := 0#32
  ![v2.toNat, 0, 0, 0]
def k0_dev6 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_124 : BitVec 32 := 3#32
  let v165 : BitVec 32 := Scalar.addi v2 c3_i32_124
  let c1_i32_126 : BitVec 32 := 1#32
  let v166 : BitVec 32 := Scalar.muli v165 c1_i32_126
  let v167 : BitVec 32 := Scalar.addi c0_i32_127 v166
  v167.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_70 : BitVec 32 := 0#32
  let v108 : BitVec 32 := Scalar.subi v2 c0_i32_70
  let c0_i32_71 : BitVec 32 := 0#32
  let v109 : BitVec 1 := Scalar.cmpi .sge v108 c0_i32_71
  let v110 : BitVec 32 := Scalar.extui v109
  let c0_i32_72 : BitVec 32 := 0#32
  let v111 : BitVec 1 := Scalar.cmpi .ne v110 c0_i32_72
  v111

@[reducible] def k0_t1_loop : Scf.Loop 32 :=
  let c0_i32_124 : BitVec 32 := 0#32
  let c4_i32_125 : BitVec 32 := 4#32
  let v165 : BitVec 32 := Scalar.addi c0_i32_124 c4_i32_125
  let c1_i32_126 : BitVec 32 := 1#32
  ⟨c0_i32_124, v165, c1_i32_126⟩
def k0_off7 (k0_t1 : Fin k0_t1_loop.trips) : Fin 3 → Nat :=
  let c2_i32_156 : BitVec 32 := 2#32
  let c0_i32_124 : BitVec 32 := 0#32
  let c1_i32_126 : BitVec 32 := 1#32
  let arg15 : BitVec 32 := Scf.iv c0_i32_124 c1_i32_126 k0_t1
  let v173 : BitVec 32 := Scalar.muli c2_i32_156 arg15
  let v176 : Index := Scalar.indexCast v173
  let c0_159 : Index := 0#32
  let c0_160 : Index := 0#32
  ![v176.toNat, 0, 0]
def k0_off8 (k0_t1 : Fin k0_t1_loop.trips) : Fin 3 → Nat :=
  let c2_i32_156 : BitVec 32 := 2#32
  let c0_i32_124 : BitVec 32 := 0#32
  let c1_i32_126 : BitVec 32 := 1#32
  let arg15 : BitVec 32 := Scf.iv c0_i32_124 c1_i32_126 k0_t1
  let v173 : BitVec 32 := Scalar.muli c2_i32_156 arg15
  let v179 : Index := Scalar.indexCast v173
  let c0_161 : Index := 0#32
  let c0_162 : Index := 0#32
  ![v179.toNat, 0, 0]
def k0_off9 (k0_t1 : Fin k0_t1_loop.trips) : Fin 3 → Nat :=
  let c2_i32_157 : BitVec 32 := 2#32
  let c0_i32_124 : BitVec 32 := 0#32
  let c1_i32_126 : BitVec 32 := 1#32
  let arg15 : BitVec 32 := Scf.iv c0_i32_124 c1_i32_126 k0_t1
  let v174 : BitVec 32 := Scalar.muli c2_i32_157 arg15
  let c1_i32_158 : BitVec 32 := 1#32
  let v175 : BitVec 32 := Scalar.addi v174 c1_i32_158
  let v183 : Index := Scalar.indexCast v175
  let c0_164 : Index := 0#32
  let c0_165 : Index := 0#32
  ![v183.toNat, 0, 0]
def k0_off10 (k0_t1 : Fin k0_t1_loop.trips) : Fin 3 → Nat :=
  let c2_i32_157 : BitVec 32 := 2#32
  let c0_i32_124 : BitVec 32 := 0#32
  let c1_i32_126 : BitVec 32 := 1#32
  let arg15 : BitVec 32 := Scf.iv c0_i32_124 c1_i32_126 k0_t1
  let v174 : BitVec 32 := Scalar.muli c2_i32_157 arg15
  let c1_i32_158 : BitVec 32 := 1#32
  let v175 : BitVec 32 := Scalar.addi v174 c1_i32_158
  let v186 : Index := Scalar.indexCast v175
  let c0_166 : Index := 0#32
  let c0_167 : Index := 0#32
  ![v186.toNat, 0, 0]
def k0_off11 (k0_t1 : Fin k0_t1_loop.trips) : Fin 3 → Nat :=
  let c2_i32_156 : BitVec 32 := 2#32
  let c0_i32_124 : BitVec 32 := 0#32
  let c1_i32_126 : BitVec 32 := 1#32
  let arg15 : BitVec 32 := Scf.iv c0_i32_124 c1_i32_126 k0_t1
  let v173 : BitVec 32 := Scalar.muli c2_i32_156 arg15
  let v245 : Index := Scalar.indexCast v173
  let c0_184 : Index := 0#32
  let c128 : Index := 128#32
  ![v245.toNat, 0, 128]
def k0_off12 (k0_t1 : Fin k0_t1_loop.trips) : Fin 3 → Nat :=
  let c2_i32_156 : BitVec 32 := 2#32
  let c0_i32_124 : BitVec 32 := 0#32
  let c1_i32_126 : BitVec 32 := 1#32
  let arg15 : BitVec 32 := Scf.iv c0_i32_124 c1_i32_126 k0_t1
  let v173 : BitVec 32 := Scalar.muli c2_i32_156 arg15
  let c8_i32 : BitVec 32 := 8#32
  let v248 : BitVec 32 := Scalar.muli v173 c8_i32
  let c0_i32_185 : BitVec 32 := 0#32
  let v249 : BitVec 32 := Scalar.addi v248 c0_i32_185
  let v252 : Index := Scalar.indexCast v249
  let c0_187 : Index := 0#32
  let c0_188 : Index := 0#32
  ![v252.toNat, 0, 0]
def k0_off13 (k0_t1 : Fin k0_t1_loop.trips) : Fin 3 → Nat :=
  let c2_i32_156 : BitVec 32 := 2#32
  let c0_i32_124 : BitVec 32 := 0#32
  let c1_i32_126 : BitVec 32 := 1#32
  let arg15 : BitVec 32 := Scf.iv c0_i32_124 c1_i32_126 k0_t1
  let v173 : BitVec 32 := Scalar.muli c2_i32_156 arg15
  let c8_i32 : BitVec 32 := 8#32
  let v248 : BitVec 32 := Scalar.muli v173 c8_i32
  let c0_i32_185 : BitVec 32 := 0#32
  let v249 : BitVec 32 := Scalar.addi v248 c0_i32_185
  let v274 : Index := Scalar.indexCast v249
  let c0_195 : Index := 0#32
  let c0_196 : Index := 0#32
  ![v274.toNat, 0, 0]
def k0_off14 (k0_t1 : Fin k0_t1_loop.trips) : Fin 3 → Nat :=
  let c2_i32_157 : BitVec 32 := 2#32
  let c0_i32_124 : BitVec 32 := 0#32
  let c1_i32_126 : BitVec 32 := 1#32
  let arg15 : BitVec 32 := Scf.iv c0_i32_124 c1_i32_126 k0_t1
  let v174 : BitVec 32 := Scalar.muli c2_i32_157 arg15
  let c1_i32_158 : BitVec 32 := 1#32
  let v175 : BitVec 32 := Scalar.addi v174 c1_i32_158
  let v290 : Index := Scalar.indexCast v175
  let c0_202 : Index := 0#32
  let c128_203 : Index := 128#32
  ![v290.toNat, 0, 128]
def k0_off15 (k0_t1 : Fin k0_t1_loop.trips) : Fin 3 → Nat :=
  let c2_i32_157 : BitVec 32 := 2#32
  let c0_i32_124 : BitVec 32 := 0#32
  let c1_i32_126 : BitVec 32 := 1#32
  let arg15 : BitVec 32 := Scf.iv c0_i32_124 c1_i32_126 k0_t1
  let v174 : BitVec 32 := Scalar.muli c2_i32_157 arg15
  let c1_i32_158 : BitVec 32 := 1#32
  let v175 : BitVec 32 := Scalar.addi v174 c1_i32_158
  let c8_i32_204 : BitVec 32 := 8#32
  let v293 : BitVec 32 := Scalar.muli v175 c8_i32_204
  let c0_i32_205 : BitVec 32 := 0#32
  let v294 : BitVec 32 := Scalar.addi v293 c0_i32_205
  let v297 : Index := Scalar.indexCast v294
  let c0_207 : Index := 0#32
  let c0_208 : Index := 0#32
  ![v297.toNat, 0, 0]
def k0_off16 (k0_t1 : Fin k0_t1_loop.trips) : Fin 3 → Nat :=
  let c2_i32_157 : BitVec 32 := 2#32
  let c0_i32_124 : BitVec 32 := 0#32
  let c1_i32_126 : BitVec 32 := 1#32
  let arg15 : BitVec 32 := Scf.iv c0_i32_124 c1_i32_126 k0_t1
  let v174 : BitVec 32 := Scalar.muli c2_i32_157 arg15
  let c1_i32_158 : BitVec 32 := 1#32
  let v175 : BitVec 32 := Scalar.addi v174 c1_i32_158
  let c8_i32_204 : BitVec 32 := 8#32
  let v293 : BitVec 32 := Scalar.muli v175 c8_i32_204
  let c0_i32_205 : BitVec 32 := 0#32
  let v294 : BitVec 32 := Scalar.addi v293 c0_i32_205
  let v319 : Index := Scalar.indexCast v294
  let c0_215 : Index := 0#32
  let c0_216 : Index := 0#32
  ![v319.toNat, 0, 0]
@[reducible] def k0_t2_loop : Scf.Loop 32 :=
  let c0_i32_128 : BitVec 32 := 0#32
  let c4_i32_129 : BitVec 32 := 4#32
  let v166 : BitVec 32 := Scalar.addi c0_i32_128 c4_i32_129
  let c1_i32_130 : BitVec 32 := 1#32
  ⟨c0_i32_128, v166, c1_i32_130⟩
def k0_off17 (k0_t2 : Fin k0_t2_loop.trips) : Fin 3 → Nat :=
  let c2_i32_156 : BitVec 32 := 2#32
  let c0_i32_128 : BitVec 32 := 0#32
  let c1_i32_130 : BitVec 32 := 1#32
  let arg15 : BitVec 32 := Scf.iv c0_i32_128 c1_i32_130 k0_t2
  let v173 : BitVec 32 := Scalar.muli c2_i32_156 arg15
  let v176 : Index := Scalar.indexCast v173
  let c256_159 : Index := 256#32
  let c0_160 : Index := 0#32
  ![v176.toNat, 256, 0]
def k0_off18 (k0_t2 : Fin k0_t2_loop.trips) : Fin 3 → Nat :=
  let c2_i32_156 : BitVec 32 := 2#32
  let c0_i32_128 : BitVec 32 := 0#32
  let c1_i32_130 : BitVec 32 := 1#32
  let arg15 : BitVec 32 := Scf.iv c0_i32_128 c1_i32_130 k0_t2
  let v173 : BitVec 32 := Scalar.muli c2_i32_156 arg15
  let v179 : Index := Scalar.indexCast v173
  let c0_161 : Index := 0#32
  let c0_162 : Index := 0#32
  ![v179.toNat, 0, 0]
def k0_off19 (k0_t2 : Fin k0_t2_loop.trips) : Fin 3 → Nat :=
  let c2_i32_157 : BitVec 32 := 2#32
  let c0_i32_128 : BitVec 32 := 0#32
  let c1_i32_130 : BitVec 32 := 1#32
  let arg15 : BitVec 32 := Scf.iv c0_i32_128 c1_i32_130 k0_t2
  let v174 : BitVec 32 := Scalar.muli c2_i32_157 arg15
  let c1_i32_158 : BitVec 32 := 1#32
  let v175 : BitVec 32 := Scalar.addi v174 c1_i32_158
  let v183 : Index := Scalar.indexCast v175
  let c256_164 : Index := 256#32
  let c0_165 : Index := 0#32
  ![v183.toNat, 256, 0]
def k0_off20 (k0_t2 : Fin k0_t2_loop.trips) : Fin 3 → Nat :=
  let c2_i32_157 : BitVec 32 := 2#32
  let c0_i32_128 : BitVec 32 := 0#32
  let c1_i32_130 : BitVec 32 := 1#32
  let arg15 : BitVec 32 := Scf.iv c0_i32_128 c1_i32_130 k0_t2
  let v174 : BitVec 32 := Scalar.muli c2_i32_157 arg15
  let c1_i32_158 : BitVec 32 := 1#32
  let v175 : BitVec 32 := Scalar.addi v174 c1_i32_158
  let v186 : Index := Scalar.indexCast v175
  let c0_166 : Index := 0#32
  let c0_167 : Index := 0#32
  ![v186.toNat, 0, 0]
def k0_off21 (k0_t2 : Fin k0_t2_loop.trips) : Fin 3 → Nat :=
  let c2_i32_156 : BitVec 32 := 2#32
  let c0_i32_128 : BitVec 32 := 0#32
  let c1_i32_130 : BitVec 32 := 1#32
  let arg15 : BitVec 32 := Scf.iv c0_i32_128 c1_i32_130 k0_t2
  let v173 : BitVec 32 := Scalar.muli c2_i32_156 arg15
  let v245 : Index := Scalar.indexCast v173
  let c0_183 : Index := 0#32
  let c128 : Index := 128#32
  ![v245.toNat, 0, 128]
def k0_off22 (k0_t2 : Fin k0_t2_loop.trips) : Fin 3 → Nat :=
  let c2_i32_156 : BitVec 32 := 2#32
  let c0_i32_128 : BitVec 32 := 0#32
  let c1_i32_130 : BitVec 32 := 1#32
  let arg15 : BitVec 32 := Scf.iv c0_i32_128 c1_i32_130 k0_t2
  let v173 : BitVec 32 := Scalar.muli c2_i32_156 arg15
  let c8_i32 : BitVec 32 := 8#32
  let v248 : BitVec 32 := Scalar.muli v173 c8_i32
  let c1_i32_184 : BitVec 32 := 1#32
  let v249 : BitVec 32 := Scalar.addi v248 c1_i32_184
  let v252 : Index := Scalar.indexCast v249
  let c0_186 : Index := 0#32
  let c0_187 : Index := 0#32
  ![v252.toNat, 0, 0]
def k0_off23 (k0_t2 : Fin k0_t2_loop.trips) : Fin 3 → Nat :=
  let c2_i32_156 : BitVec 32 := 2#32
  let c0_i32_128 : BitVec 32 := 0#32
  let c1_i32_130 : BitVec 32 := 1#32
  let arg15 : BitVec 32 := Scf.iv c0_i32_128 c1_i32_130 k0_t2
  let v173 : BitVec 32 := Scalar.muli c2_i32_156 arg15
  let c8_i32 : BitVec 32 := 8#32
  let v248 : BitVec 32 := Scalar.muli v173 c8_i32
  let c1_i32_184 : BitVec 32 := 1#32
  let v249 : BitVec 32 := Scalar.addi v248 c1_i32_184
  let v274 : Index := Scalar.indexCast v249
  let c0_194 : Index := 0#32
  let c0_195 : Index := 0#32
  ![v274.toNat, 0, 0]
def k0_off24 (k0_t2 : Fin k0_t2_loop.trips) : Fin 3 → Nat :=
  let c2_i32_157 : BitVec 32 := 2#32
  let c0_i32_128 : BitVec 32 := 0#32
  let c1_i32_130 : BitVec 32 := 1#32
  let arg15 : BitVec 32 := Scf.iv c0_i32_128 c1_i32_130 k0_t2
  let v174 : BitVec 32 := Scalar.muli c2_i32_157 arg15
  let c1_i32_158 : BitVec 32 := 1#32
  let v175 : BitVec 32 := Scalar.addi v174 c1_i32_158
  let v290 : Index := Scalar.indexCast v175
  let c0_201 : Index := 0#32
  let c128_202 : Index := 128#32
  ![v290.toNat, 0, 128]
def k0_off25 (k0_t2 : Fin k0_t2_loop.trips) : Fin 3 → Nat :=
  let c2_i32_157 : BitVec 32 := 2#32
  let c0_i32_128 : BitVec 32 := 0#32
  let c1_i32_130 : BitVec 32 := 1#32
  let arg15 : BitVec 32 := Scf.iv c0_i32_128 c1_i32_130 k0_t2
  let v174 : BitVec 32 := Scalar.muli c2_i32_157 arg15
  let c1_i32_158 : BitVec 32 := 1#32
  let v175 : BitVec 32 := Scalar.addi v174 c1_i32_158
  let c8_i32_203 : BitVec 32 := 8#32
  let v293 : BitVec 32 := Scalar.muli v175 c8_i32_203
  let c1_i32_204 : BitVec 32 := 1#32
  let v294 : BitVec 32 := Scalar.addi v293 c1_i32_204
  let v297 : Index := Scalar.indexCast v294
  let c0_206 : Index := 0#32
  let c0_207 : Index := 0#32
  ![v297.toNat, 0, 0]
def k0_off26 (k0_t2 : Fin k0_t2_loop.trips) : Fin 3 → Nat :=
  let c2_i32_157 : BitVec 32 := 2#32
  let c0_i32_128 : BitVec 32 := 0#32
  let c1_i32_130 : BitVec 32 := 1#32
  let arg15 : BitVec 32 := Scf.iv c0_i32_128 c1_i32_130 k0_t2
  let v174 : BitVec 32 := Scalar.muli c2_i32_157 arg15
  let c1_i32_158 : BitVec 32 := 1#32
  let v175 : BitVec 32 := Scalar.addi v174 c1_i32_158
  let c8_i32_203 : BitVec 32 := 8#32
  let v293 : BitVec 32 := Scalar.muli v175 c8_i32_203
  let c1_i32_204 : BitVec 32 := 1#32
  let v294 : BitVec 32 := Scalar.addi v293 c1_i32_204
  let v319 : Index := Scalar.indexCast v294
  let c0_214 : Index := 0#32
  let c0_215 : Index := 0#32
  ![v319.toNat, 0, 0]
@[reducible] def k0_t3_loop : Scf.Loop 32 :=
  let c0_i32_132 : BitVec 32 := 0#32
  let c4_i32_133 : BitVec 32 := 4#32
  let v167 : BitVec 32 := Scalar.addi c0_i32_132 c4_i32_133
  let c1_i32_134 : BitVec 32 := 1#32
  ⟨c0_i32_132, v167, c1_i32_134⟩
def k0_off27 (k0_t3 : Fin k0_t3_loop.trips) : Fin 3 → Nat :=
  let c2_i32_156 : BitVec 32 := 2#32
  let c0_i32_132 : BitVec 32 := 0#32
  let c1_i32_134 : BitVec 32 := 1#32
  let arg15 : BitVec 32 := Scf.iv c0_i32_132 c1_i32_134 k0_t3
  let v173 : BitVec 32 := Scalar.muli c2_i32_156 arg15
  let v176 : Index := Scalar.indexCast v173
  let c512_159 : Index := 512#32
  let c0_160 : Index := 0#32
  ![v176.toNat, 512, 0]
def k0_off28 (k0_t3 : Fin k0_t3_loop.trips) : Fin 3 → Nat :=
  let c2_i32_156 : BitVec 32 := 2#32
  let c0_i32_132 : BitVec 32 := 0#32
  let c1_i32_134 : BitVec 32 := 1#32
  let arg15 : BitVec 32 := Scf.iv c0_i32_132 c1_i32_134 k0_t3
  let v173 : BitVec 32 := Scalar.muli c2_i32_156 arg15
  let v179 : Index := Scalar.indexCast v173
  let c0_161 : Index := 0#32
  let c0_162 : Index := 0#32
  ![v179.toNat, 0, 0]
def k0_off29 (k0_t3 : Fin k0_t3_loop.trips) : Fin 3 → Nat :=
  let c2_i32_157 : BitVec 32 := 2#32
  let c0_i32_132 : BitVec 32 := 0#32
  let c1_i32_134 : BitVec 32 := 1#32
  let arg15 : BitVec 32 := Scf.iv c0_i32_132 c1_i32_134 k0_t3
  let v174 : BitVec 32 := Scalar.muli c2_i32_157 arg15
  let c1_i32_158 : BitVec 32 := 1#32
  let v175 : BitVec 32 := Scalar.addi v174 c1_i32_158
  let v183 : Index := Scalar.indexCast v175
  let c512_164 : Index := 512#32
  let c0_165 : Index := 0#32
  ![v183.toNat, 512, 0]
def k0_off30 (k0_t3 : Fin k0_t3_loop.trips) : Fin 3 → Nat :=
  let c2_i32_157 : BitVec 32 := 2#32
  let c0_i32_132 : BitVec 32 := 0#32
  let c1_i32_134 : BitVec 32 := 1#32
  let arg15 : BitVec 32 := Scf.iv c0_i32_132 c1_i32_134 k0_t3
  let v174 : BitVec 32 := Scalar.muli c2_i32_157 arg15
  let c1_i32_158 : BitVec 32 := 1#32
  let v175 : BitVec 32 := Scalar.addi v174 c1_i32_158
  let v186 : Index := Scalar.indexCast v175
  let c0_166 : Index := 0#32
  let c0_167 : Index := 0#32
  ![v186.toNat, 0, 0]
def k0_off31 (k0_t3 : Fin k0_t3_loop.trips) : Fin 3 → Nat :=
  let c2_i32_156 : BitVec 32 := 2#32
  let c0_i32_132 : BitVec 32 := 0#32
  let c1_i32_134 : BitVec 32 := 1#32
  let arg15 : BitVec 32 := Scf.iv c0_i32_132 c1_i32_134 k0_t3
  let v173 : BitVec 32 := Scalar.muli c2_i32_156 arg15
  let v245 : Index := Scalar.indexCast v173
  let c0_183 : Index := 0#32
  let c128 : Index := 128#32
  ![v245.toNat, 0, 128]
def k0_off32 (k0_t3 : Fin k0_t3_loop.trips) : Fin 3 → Nat :=
  let c2_i32_156 : BitVec 32 := 2#32
  let c0_i32_132 : BitVec 32 := 0#32
  let c1_i32_134 : BitVec 32 := 1#32
  let arg15 : BitVec 32 := Scf.iv c0_i32_132 c1_i32_134 k0_t3
  let v173 : BitVec 32 := Scalar.muli c2_i32_156 arg15
  let c8_i32 : BitVec 32 := 8#32
  let v248 : BitVec 32 := Scalar.muli v173 c8_i32
  let c2_i32_184 : BitVec 32 := 2#32
  let v249 : BitVec 32 := Scalar.addi v248 c2_i32_184
  let v252 : Index := Scalar.indexCast v249
  let c0_186 : Index := 0#32
  let c0_187 : Index := 0#32
  ![v252.toNat, 0, 0]
def k0_off33 (k0_t3 : Fin k0_t3_loop.trips) : Fin 3 → Nat :=
  let c2_i32_156 : BitVec 32 := 2#32
  let c0_i32_132 : BitVec 32 := 0#32
  let c1_i32_134 : BitVec 32 := 1#32
  let arg15 : BitVec 32 := Scf.iv c0_i32_132 c1_i32_134 k0_t3
  let v173 : BitVec 32 := Scalar.muli c2_i32_156 arg15
  let c8_i32 : BitVec 32 := 8#32
  let v248 : BitVec 32 := Scalar.muli v173 c8_i32
  let c2_i32_184 : BitVec 32 := 2#32
  let v249 : BitVec 32 := Scalar.addi v248 c2_i32_184
  let v274 : Index := Scalar.indexCast v249
  let c0_194 : Index := 0#32
  let c0_195 : Index := 0#32
  ![v274.toNat, 0, 0]
def k0_off34 (k0_t3 : Fin k0_t3_loop.trips) : Fin 3 → Nat :=
  let c2_i32_157 : BitVec 32 := 2#32
  let c0_i32_132 : BitVec 32 := 0#32
  let c1_i32_134 : BitVec 32 := 1#32
  let arg15 : BitVec 32 := Scf.iv c0_i32_132 c1_i32_134 k0_t3
  let v174 : BitVec 32 := Scalar.muli c2_i32_157 arg15
  let c1_i32_158 : BitVec 32 := 1#32
  let v175 : BitVec 32 := Scalar.addi v174 c1_i32_158
  let v290 : Index := Scalar.indexCast v175
  let c0_201 : Index := 0#32
  let c128_202 : Index := 128#32
  ![v290.toNat, 0, 128]
def k0_off35 (k0_t3 : Fin k0_t3_loop.trips) : Fin 3 → Nat :=
  let c2_i32_157 : BitVec 32 := 2#32
  let c0_i32_132 : BitVec 32 := 0#32
  let c1_i32_134 : BitVec 32 := 1#32
  let arg15 : BitVec 32 := Scf.iv c0_i32_132 c1_i32_134 k0_t3
  let v174 : BitVec 32 := Scalar.muli c2_i32_157 arg15
  let c1_i32_158 : BitVec 32 := 1#32
  let v175 : BitVec 32 := Scalar.addi v174 c1_i32_158
  let c8_i32_203 : BitVec 32 := 8#32
  let v293 : BitVec 32 := Scalar.muli v175 c8_i32_203
  let c2_i32_204 : BitVec 32 := 2#32
  let v294 : BitVec 32 := Scalar.addi v293 c2_i32_204
  let v297 : Index := Scalar.indexCast v294
  let c0_206 : Index := 0#32
  let c0_207 : Index := 0#32
  ![v297.toNat, 0, 0]
def k0_off36 (k0_t3 : Fin k0_t3_loop.trips) : Fin 3 → Nat :=
  let c2_i32_157 : BitVec 32 := 2#32
  let c0_i32_132 : BitVec 32 := 0#32
  let c1_i32_134 : BitVec 32 := 1#32
  let arg15 : BitVec 32 := Scf.iv c0_i32_132 c1_i32_134 k0_t3
  let v174 : BitVec 32 := Scalar.muli c2_i32_157 arg15
  let c1_i32_158 : BitVec 32 := 1#32
  let v175 : BitVec 32 := Scalar.addi v174 c1_i32_158
  let c8_i32_203 : BitVec 32 := 8#32
  let v293 : BitVec 32 := Scalar.muli v175 c8_i32_203
  let c2_i32_204 : BitVec 32 := 2#32
  let v294 : BitVec 32 := Scalar.addi v293 c2_i32_204
  let v319 : Index := Scalar.indexCast v294
  let c0_214 : Index := 0#32
  let c0_215 : Index := 0#32
  ![v319.toNat, 0, 0]
@[reducible] def k0_t4_loop : Scf.Loop 32 :=
  let c0_i32_136 : BitVec 32 := 0#32
  let c4_i32_137 : BitVec 32 := 4#32
  let v168 : BitVec 32 := Scalar.addi c0_i32_136 c4_i32_137
  let c1_i32_138 : BitVec 32 := 1#32
  ⟨c0_i32_136, v168, c1_i32_138⟩
def k0_off37 (k0_t4 : Fin k0_t4_loop.trips) : Fin 3 → Nat :=
  let c2_i32_156 : BitVec 32 := 2#32
  let c0_i32_136 : BitVec 32 := 0#32
  let c1_i32_138 : BitVec 32 := 1#32
  let arg15 : BitVec 32 := Scf.iv c0_i32_136 c1_i32_138 k0_t4
  let v173 : BitVec 32 := Scalar.muli c2_i32_156 arg15
  let v176 : Index := Scalar.indexCast v173
  let c768_159 : Index := 768#32
  let c0_160 : Index := 0#32
  ![v176.toNat, 768, 0]
def k0_off38 (k0_t4 : Fin k0_t4_loop.trips) : Fin 3 → Nat :=
  let c2_i32_156 : BitVec 32 := 2#32
  let c0_i32_136 : BitVec 32 := 0#32
  let c1_i32_138 : BitVec 32 := 1#32
  let arg15 : BitVec 32 := Scf.iv c0_i32_136 c1_i32_138 k0_t4
  let v173 : BitVec 32 := Scalar.muli c2_i32_156 arg15
  let v179 : Index := Scalar.indexCast v173
  let c0_161 : Index := 0#32
  let c0_162 : Index := 0#32
  ![v179.toNat, 0, 0]
def k0_off39 (k0_t4 : Fin k0_t4_loop.trips) : Fin 3 → Nat :=
  let c2_i32_157 : BitVec 32 := 2#32
  let c0_i32_136 : BitVec 32 := 0#32
  let c1_i32_138 : BitVec 32 := 1#32
  let arg15 : BitVec 32 := Scf.iv c0_i32_136 c1_i32_138 k0_t4
  let v174 : BitVec 32 := Scalar.muli c2_i32_157 arg15
  let c1_i32_158 : BitVec 32 := 1#32
  let v175 : BitVec 32 := Scalar.addi v174 c1_i32_158
  let v183 : Index := Scalar.indexCast v175
  let c768_164 : Index := 768#32
  let c0_165 : Index := 0#32
  ![v183.toNat, 768, 0]
def k0_off40 (k0_t4 : Fin k0_t4_loop.trips) : Fin 3 → Nat :=
  let c2_i32_157 : BitVec 32 := 2#32
  let c0_i32_136 : BitVec 32 := 0#32
  let c1_i32_138 : BitVec 32 := 1#32
  let arg15 : BitVec 32 := Scf.iv c0_i32_136 c1_i32_138 k0_t4
  let v174 : BitVec 32 := Scalar.muli c2_i32_157 arg15
  let c1_i32_158 : BitVec 32 := 1#32
  let v175 : BitVec 32 := Scalar.addi v174 c1_i32_158
  let v186 : Index := Scalar.indexCast v175
  let c0_166 : Index := 0#32
  let c0_167 : Index := 0#32
  ![v186.toNat, 0, 0]
def k0_off41 (k0_t4 : Fin k0_t4_loop.trips) : Fin 3 → Nat :=
  let c2_i32_156 : BitVec 32 := 2#32
  let c0_i32_136 : BitVec 32 := 0#32
  let c1_i32_138 : BitVec 32 := 1#32
  let arg15 : BitVec 32 := Scf.iv c0_i32_136 c1_i32_138 k0_t4
  let v173 : BitVec 32 := Scalar.muli c2_i32_156 arg15
  let v245 : Index := Scalar.indexCast v173
  let c0_183 : Index := 0#32
  let c128 : Index := 128#32
  ![v245.toNat, 0, 128]
def k0_off42 (k0_t4 : Fin k0_t4_loop.trips) : Fin 3 → Nat :=
  let c2_i32_156 : BitVec 32 := 2#32
  let c0_i32_136 : BitVec 32 := 0#32
  let c1_i32_138 : BitVec 32 := 1#32
  let arg15 : BitVec 32 := Scf.iv c0_i32_136 c1_i32_138 k0_t4
  let v173 : BitVec 32 := Scalar.muli c2_i32_156 arg15
  let c8_i32 : BitVec 32 := 8#32
  let v248 : BitVec 32 := Scalar.muli v173 c8_i32
  let c3_i32_184 : BitVec 32 := 3#32
  let v249 : BitVec 32 := Scalar.addi v248 c3_i32_184
  let v252 : Index := Scalar.indexCast v249
  let c0_186 : Index := 0#32
  let c0_187 : Index := 0#32
  ![v252.toNat, 0, 0]
def k0_off43 (k0_t4 : Fin k0_t4_loop.trips) : Fin 3 → Nat :=
  let c2_i32_156 : BitVec 32 := 2#32
  let c0_i32_136 : BitVec 32 := 0#32
  let c1_i32_138 : BitVec 32 := 1#32
  let arg15 : BitVec 32 := Scf.iv c0_i32_136 c1_i32_138 k0_t4
  let v173 : BitVec 32 := Scalar.muli c2_i32_156 arg15
  let c8_i32 : BitVec 32 := 8#32
  let v248 : BitVec 32 := Scalar.muli v173 c8_i32
  let c3_i32_184 : BitVec 32 := 3#32
  let v249 : BitVec 32 := Scalar.addi v248 c3_i32_184
  let v274 : Index := Scalar.indexCast v249
  let c0_194 : Index := 0#32
  let c0_195 : Index := 0#32
  ![v274.toNat, 0, 0]
def k0_off44 (k0_t4 : Fin k0_t4_loop.trips) : Fin 3 → Nat :=
  let c2_i32_157 : BitVec 32 := 2#32
  let c0_i32_136 : BitVec 32 := 0#32
  let c1_i32_138 : BitVec 32 := 1#32
  let arg15 : BitVec 32 := Scf.iv c0_i32_136 c1_i32_138 k0_t4
  let v174 : BitVec 32 := Scalar.muli c2_i32_157 arg15
  let c1_i32_158 : BitVec 32 := 1#32
  let v175 : BitVec 32 := Scalar.addi v174 c1_i32_158
  let v290 : Index := Scalar.indexCast v175
  let c0_201 : Index := 0#32
  let c128_202 : Index := 128#32
  ![v290.toNat, 0, 128]
def k0_off45 (k0_t4 : Fin k0_t4_loop.trips) : Fin 3 → Nat :=
  let c2_i32_157 : BitVec 32 := 2#32
  let c0_i32_136 : BitVec 32 := 0#32
  let c1_i32_138 : BitVec 32 := 1#32
  let arg15 : BitVec 32 := Scf.iv c0_i32_136 c1_i32_138 k0_t4
  let v174 : BitVec 32 := Scalar.muli c2_i32_157 arg15
  let c1_i32_158 : BitVec 32 := 1#32
  let v175 : BitVec 32 := Scalar.addi v174 c1_i32_158
  let c8_i32_203 : BitVec 32 := 8#32
  let v293 : BitVec 32 := Scalar.muli v175 c8_i32_203
  let c3_i32_204 : BitVec 32 := 3#32
  let v294 : BitVec 32 := Scalar.addi v293 c3_i32_204
  let v297 : Index := Scalar.indexCast v294
  let c0_206 : Index := 0#32
  let c0_207 : Index := 0#32
  ![v297.toNat, 0, 0]
def k0_off46 (k0_t4 : Fin k0_t4_loop.trips) : Fin 3 → Nat :=
  let c2_i32_157 : BitVec 32 := 2#32
  let c0_i32_136 : BitVec 32 := 0#32
  let c1_i32_138 : BitVec 32 := 1#32
  let arg15 : BitVec 32 := Scf.iv c0_i32_136 c1_i32_138 k0_t4
  let v174 : BitVec 32 := Scalar.muli c2_i32_157 arg15
  let c1_i32_158 : BitVec 32 := 1#32
  let v175 : BitVec 32 := Scalar.addi v174 c1_i32_158
  let c8_i32_203 : BitVec 32 := 8#32
  let v293 : BitVec 32 := Scalar.muli v175 c8_i32_203
  let c3_i32_204 : BitVec 32 := 3#32
  let v294 : BitVec 32 := Scalar.addi v293 c3_i32_204
  let v319 : Index := Scalar.indexCast v294
  let c0_214 : Index := 0#32
  let c0_215 : Index := 0#32
  ![v319.toNat, 0, 0]
@[reducible] def k0_t5_loop : Scf.Loop 32 :=
  let c0_i32_140 : BitVec 32 := 0#32
  let c4_i32_141 : BitVec 32 := 4#32
  let v169 : BitVec 32 := Scalar.addi c0_i32_140 c4_i32_141
  let c1_i32_142 : BitVec 32 := 1#32
  ⟨c0_i32_140, v169, c1_i32_142⟩
def k0_off47 (k0_t5 : Fin k0_t5_loop.trips) : Fin 3 → Nat :=
  let c2_i32_156 : BitVec 32 := 2#32
  let c0_i32_140 : BitVec 32 := 0#32
  let c1_i32_142 : BitVec 32 := 1#32
  let arg15 : BitVec 32 := Scf.iv c0_i32_140 c1_i32_142 k0_t5
  let v173 : BitVec 32 := Scalar.muli c2_i32_156 arg15
  let v176 : Index := Scalar.indexCast v173
  let c1024_159 : Index := 1024#32
  let c0_160 : Index := 0#32
  ![v176.toNat, 1024, 0]
def k0_off48 (k0_t5 : Fin k0_t5_loop.trips) : Fin 3 → Nat :=
  let c2_i32_156 : BitVec 32 := 2#32
  let c0_i32_140 : BitVec 32 := 0#32
  let c1_i32_142 : BitVec 32 := 1#32
  let arg15 : BitVec 32 := Scf.iv c0_i32_140 c1_i32_142 k0_t5
  let v173 : BitVec 32 := Scalar.muli c2_i32_156 arg15
  let v179 : Index := Scalar.indexCast v173
  let c0_161 : Index := 0#32
  let c0_162 : Index := 0#32
  ![v179.toNat, 0, 0]
def k0_off49 (k0_t5 : Fin k0_t5_loop.trips) : Fin 3 → Nat :=
  let c2_i32_157 : BitVec 32 := 2#32
  let c0_i32_140 : BitVec 32 := 0#32
  let c1_i32_142 : BitVec 32 := 1#32
  let arg15 : BitVec 32 := Scf.iv c0_i32_140 c1_i32_142 k0_t5
  let v174 : BitVec 32 := Scalar.muli c2_i32_157 arg15
  let c1_i32_158 : BitVec 32 := 1#32
  let v175 : BitVec 32 := Scalar.addi v174 c1_i32_158
  let v183 : Index := Scalar.indexCast v175
  let c1024_164 : Index := 1024#32
  let c0_165 : Index := 0#32
  ![v183.toNat, 1024, 0]
def k0_off50 (k0_t5 : Fin k0_t5_loop.trips) : Fin 3 → Nat :=
  let c2_i32_157 : BitVec 32 := 2#32
  let c0_i32_140 : BitVec 32 := 0#32
  let c1_i32_142 : BitVec 32 := 1#32
  let arg15 : BitVec 32 := Scf.iv c0_i32_140 c1_i32_142 k0_t5
  let v174 : BitVec 32 := Scalar.muli c2_i32_157 arg15
  let c1_i32_158 : BitVec 32 := 1#32
  let v175 : BitVec 32 := Scalar.addi v174 c1_i32_158
  let v186 : Index := Scalar.indexCast v175
  let c0_166 : Index := 0#32
  let c0_167 : Index := 0#32
  ![v186.toNat, 0, 0]
def k0_off51 (k0_t5 : Fin k0_t5_loop.trips) : Fin 3 → Nat :=
  let c2_i32_156 : BitVec 32 := 2#32
  let c0_i32_140 : BitVec 32 := 0#32
  let c1_i32_142 : BitVec 32 := 1#32
  let arg15 : BitVec 32 := Scf.iv c0_i32_140 c1_i32_142 k0_t5
  let v173 : BitVec 32 := Scalar.muli c2_i32_156 arg15
  let v245 : Index := Scalar.indexCast v173
  let c0_183 : Index := 0#32
  let c128 : Index := 128#32
  ![v245.toNat, 0, 128]
def k0_off52 (k0_t5 : Fin k0_t5_loop.trips) : Fin 3 → Nat :=
  let c2_i32_156 : BitVec 32 := 2#32
  let c0_i32_140 : BitVec 32 := 0#32
  let c1_i32_142 : BitVec 32 := 1#32
  let arg15 : BitVec 32 := Scf.iv c0_i32_140 c1_i32_142 k0_t5
  let v173 : BitVec 32 := Scalar.muli c2_i32_156 arg15
  let c8_i32 : BitVec 32 := 8#32
  let v248 : BitVec 32 := Scalar.muli v173 c8_i32
  let c4_i32_184 : BitVec 32 := 4#32
  let v249 : BitVec 32 := Scalar.addi v248 c4_i32_184
  let v252 : Index := Scalar.indexCast v249
  let c0_186 : Index := 0#32
  let c0_187 : Index := 0#32
  ![v252.toNat, 0, 0]
def k0_off53 (k0_t5 : Fin k0_t5_loop.trips) : Fin 3 → Nat :=
  let c2_i32_156 : BitVec 32 := 2#32
  let c0_i32_140 : BitVec 32 := 0#32
  let c1_i32_142 : BitVec 32 := 1#32
  let arg15 : BitVec 32 := Scf.iv c0_i32_140 c1_i32_142 k0_t5
  let v173 : BitVec 32 := Scalar.muli c2_i32_156 arg15
  let c8_i32 : BitVec 32 := 8#32
  let v248 : BitVec 32 := Scalar.muli v173 c8_i32
  let c4_i32_184 : BitVec 32 := 4#32
  let v249 : BitVec 32 := Scalar.addi v248 c4_i32_184
  let v274 : Index := Scalar.indexCast v249
  let c0_194 : Index := 0#32
  let c0_195 : Index := 0#32
  ![v274.toNat, 0, 0]
def k0_off54 (k0_t5 : Fin k0_t5_loop.trips) : Fin 3 → Nat :=
  let c2_i32_157 : BitVec 32 := 2#32
  let c0_i32_140 : BitVec 32 := 0#32
  let c1_i32_142 : BitVec 32 := 1#32
  let arg15 : BitVec 32 := Scf.iv c0_i32_140 c1_i32_142 k0_t5
  let v174 : BitVec 32 := Scalar.muli c2_i32_157 arg15
  let c1_i32_158 : BitVec 32 := 1#32
  let v175 : BitVec 32 := Scalar.addi v174 c1_i32_158
  let v290 : Index := Scalar.indexCast v175
  let c0_201 : Index := 0#32
  let c128_202 : Index := 128#32
  ![v290.toNat, 0, 128]
def k0_off55 (k0_t5 : Fin k0_t5_loop.trips) : Fin 3 → Nat :=
  let c2_i32_157 : BitVec 32 := 2#32
  let c0_i32_140 : BitVec 32 := 0#32
  let c1_i32_142 : BitVec 32 := 1#32
  let arg15 : BitVec 32 := Scf.iv c0_i32_140 c1_i32_142 k0_t5
  let v174 : BitVec 32 := Scalar.muli c2_i32_157 arg15
  let c1_i32_158 : BitVec 32 := 1#32
  let v175 : BitVec 32 := Scalar.addi v174 c1_i32_158
  let c8_i32_203 : BitVec 32 := 8#32
  let v293 : BitVec 32 := Scalar.muli v175 c8_i32_203
  let c4_i32_204 : BitVec 32 := 4#32
  let v294 : BitVec 32 := Scalar.addi v293 c4_i32_204
  let v297 : Index := Scalar.indexCast v294
  let c0_206 : Index := 0#32
  let c0_207 : Index := 0#32
  ![v297.toNat, 0, 0]
def k0_off56 (k0_t5 : Fin k0_t5_loop.trips) : Fin 3 → Nat :=
  let c2_i32_157 : BitVec 32 := 2#32
  let c0_i32_140 : BitVec 32 := 0#32
  let c1_i32_142 : BitVec 32 := 1#32
  let arg15 : BitVec 32 := Scf.iv c0_i32_140 c1_i32_142 k0_t5
  let v174 : BitVec 32 := Scalar.muli c2_i32_157 arg15
  let c1_i32_158 : BitVec 32 := 1#32
  let v175 : BitVec 32 := Scalar.addi v174 c1_i32_158
  let c8_i32_203 : BitVec 32 := 8#32
  let v293 : BitVec 32 := Scalar.muli v175 c8_i32_203
  let c4_i32_204 : BitVec 32 := 4#32
  let v294 : BitVec 32 := Scalar.addi v293 c4_i32_204
  let v319 : Index := Scalar.indexCast v294
  let c0_214 : Index := 0#32
  let c0_215 : Index := 0#32
  ![v319.toNat, 0, 0]
@[reducible] def k0_t6_loop : Scf.Loop 32 :=
  let c0_i32_144 : BitVec 32 := 0#32
  let c4_i32_145 : BitVec 32 := 4#32
  let v170 : BitVec 32 := Scalar.addi c0_i32_144 c4_i32_145
  let c1_i32_146 : BitVec 32 := 1#32
  ⟨c0_i32_144, v170, c1_i32_146⟩
def k0_off57 (k0_t6 : Fin k0_t6_loop.trips) : Fin 3 → Nat :=
  let c2_i32_156 : BitVec 32 := 2#32
  let c0_i32_144 : BitVec 32 := 0#32
  let c1_i32_146 : BitVec 32 := 1#32
  let arg15 : BitVec 32 := Scf.iv c0_i32_144 c1_i32_146 k0_t6
  let v173 : BitVec 32 := Scalar.muli c2_i32_156 arg15
  let v176 : Index := Scalar.indexCast v173
  let c1280 : Index := 1280#32
  let c0_159 : Index := 0#32
  ![v176.toNat, 1280, 0]
def k0_off58 (k0_t6 : Fin k0_t6_loop.trips) : Fin 3 → Nat :=
  let c2_i32_156 : BitVec 32 := 2#32
  let c0_i32_144 : BitVec 32 := 0#32
  let c1_i32_146 : BitVec 32 := 1#32
  let arg15 : BitVec 32 := Scf.iv c0_i32_144 c1_i32_146 k0_t6
  let v173 : BitVec 32 := Scalar.muli c2_i32_156 arg15
  let v179 : Index := Scalar.indexCast v173
  let c0_160 : Index := 0#32
  let c0_161 : Index := 0#32
  ![v179.toNat, 0, 0]
def k0_off59 (k0_t6 : Fin k0_t6_loop.trips) : Fin 3 → Nat :=
  let c2_i32_157 : BitVec 32 := 2#32
  let c0_i32_144 : BitVec 32 := 0#32
  let c1_i32_146 : BitVec 32 := 1#32
  let arg15 : BitVec 32 := Scf.iv c0_i32_144 c1_i32_146 k0_t6
  let v174 : BitVec 32 := Scalar.muli c2_i32_157 arg15
  let c1_i32_158 : BitVec 32 := 1#32
  let v175 : BitVec 32 := Scalar.addi v174 c1_i32_158
  let v183 : Index := Scalar.indexCast v175
  let c1280_163 : Index := 1280#32
  let c0_164 : Index := 0#32
  ![v183.toNat, 1280, 0]
def k0_off60 (k0_t6 : Fin k0_t6_loop.trips) : Fin 3 → Nat :=
  let c2_i32_157 : BitVec 32 := 2#32
  let c0_i32_144 : BitVec 32 := 0#32
  let c1_i32_146 : BitVec 32 := 1#32
  let arg15 : BitVec 32 := Scf.iv c0_i32_144 c1_i32_146 k0_t6
  let v174 : BitVec 32 := Scalar.muli c2_i32_157 arg15
  let c1_i32_158 : BitVec 32 := 1#32
  let v175 : BitVec 32 := Scalar.addi v174 c1_i32_158
  let v186 : Index := Scalar.indexCast v175
  let c0_165 : Index := 0#32
  let c0_166 : Index := 0#32
  ![v186.toNat, 0, 0]
def k0_off61 (k0_t6 : Fin k0_t6_loop.trips) : Fin 3 → Nat :=
  let c2_i32_156 : BitVec 32 := 2#32
  let c0_i32_144 : BitVec 32 := 0#32
  let c1_i32_146 : BitVec 32 := 1#32
  let arg15 : BitVec 32 := Scf.iv c0_i32_144 c1_i32_146 k0_t6
  let v173 : BitVec 32 := Scalar.muli c2_i32_156 arg15
  let v245 : Index := Scalar.indexCast v173
  let c0_182 : Index := 0#32
  let c128 : Index := 128#32
  ![v245.toNat, 0, 128]
def k0_off62 (k0_t6 : Fin k0_t6_loop.trips) : Fin 3 → Nat :=
  let c2_i32_156 : BitVec 32 := 2#32
  let c0_i32_144 : BitVec 32 := 0#32
  let c1_i32_146 : BitVec 32 := 1#32
  let arg15 : BitVec 32 := Scf.iv c0_i32_144 c1_i32_146 k0_t6
  let v173 : BitVec 32 := Scalar.muli c2_i32_156 arg15
  let c8_i32 : BitVec 32 := 8#32
  let v248 : BitVec 32 := Scalar.muli v173 c8_i32
  let c5_i32 : BitVec 32 := 5#32
  let v249 : BitVec 32 := Scalar.addi v248 c5_i32
  let v252 : Index := Scalar.indexCast v249
  let c0_184 : Index := 0#32
  let c0_185 : Index := 0#32
  ![v252.toNat, 0, 0]
def k0_off63 (k0_t6 : Fin k0_t6_loop.trips) : Fin 3 → Nat :=
  let c2_i32_156 : BitVec 32 := 2#32
  let c0_i32_144 : BitVec 32 := 0#32
  let c1_i32_146 : BitVec 32 := 1#32
  let arg15 : BitVec 32 := Scf.iv c0_i32_144 c1_i32_146 k0_t6
  let v173 : BitVec 32 := Scalar.muli c2_i32_156 arg15
  let c8_i32 : BitVec 32 := 8#32
  let v248 : BitVec 32 := Scalar.muli v173 c8_i32
  let c5_i32 : BitVec 32 := 5#32
  let v249 : BitVec 32 := Scalar.addi v248 c5_i32
  let v274 : Index := Scalar.indexCast v249
  let c0_192 : Index := 0#32
  let c0_193 : Index := 0#32
  ![v274.toNat, 0, 0]
def k0_off64 (k0_t6 : Fin k0_t6_loop.trips) : Fin 3 → Nat :=
  let c2_i32_157 : BitVec 32 := 2#32
  let c0_i32_144 : BitVec 32 := 0#32
  let c1_i32_146 : BitVec 32 := 1#32
  let arg15 : BitVec 32 := Scf.iv c0_i32_144 c1_i32_146 k0_t6
  let v174 : BitVec 32 := Scalar.muli c2_i32_157 arg15
  let c1_i32_158 : BitVec 32 := 1#32
  let v175 : BitVec 32 := Scalar.addi v174 c1_i32_158
  let v290 : Index := Scalar.indexCast v175
  let c0_199 : Index := 0#32
  let c128_200 : Index := 128#32
  ![v290.toNat, 0, 128]
def k0_off65 (k0_t6 : Fin k0_t6_loop.trips) : Fin 3 → Nat :=
  let c2_i32_157 : BitVec 32 := 2#32
  let c0_i32_144 : BitVec 32 := 0#32
  let c1_i32_146 : BitVec 32 := 1#32
  let arg15 : BitVec 32 := Scf.iv c0_i32_144 c1_i32_146 k0_t6
  let v174 : BitVec 32 := Scalar.muli c2_i32_157 arg15
  let c1_i32_158 : BitVec 32 := 1#32
  let v175 : BitVec 32 := Scalar.addi v174 c1_i32_158
  let c8_i32_201 : BitVec 32 := 8#32
  let v293 : BitVec 32 := Scalar.muli v175 c8_i32_201
  let c5_i32_202 : BitVec 32 := 5#32
  let v294 : BitVec 32 := Scalar.addi v293 c5_i32_202
  let v297 : Index := Scalar.indexCast v294
  let c0_204 : Index := 0#32
  let c0_205 : Index := 0#32
  ![v297.toNat, 0, 0]
def k0_off66 (k0_t6 : Fin k0_t6_loop.trips) : Fin 3 → Nat :=
  let c2_i32_157 : BitVec 32 := 2#32
  let c0_i32_144 : BitVec 32 := 0#32
  let c1_i32_146 : BitVec 32 := 1#32
  let arg15 : BitVec 32 := Scf.iv c0_i32_144 c1_i32_146 k0_t6
  let v174 : BitVec 32 := Scalar.muli c2_i32_157 arg15
  let c1_i32_158 : BitVec 32 := 1#32
  let v175 : BitVec 32 := Scalar.addi v174 c1_i32_158
  let c8_i32_201 : BitVec 32 := 8#32
  let v293 : BitVec 32 := Scalar.muli v175 c8_i32_201
  let c5_i32_202 : BitVec 32 := 5#32
  let v294 : BitVec 32 := Scalar.addi v293 c5_i32_202
  let v319 : Index := Scalar.indexCast v294
  let c0_212 : Index := 0#32
  let c0_213 : Index := 0#32
  ![v319.toNat, 0, 0]
@[reducible] def k0_t7_loop : Scf.Loop 32 :=
  let c0_i32_148 : BitVec 32 := 0#32
  let c4_i32_149 : BitVec 32 := 4#32
  let v171 : BitVec 32 := Scalar.addi c0_i32_148 c4_i32_149
  let c1_i32_150 : BitVec 32 := 1#32
  ⟨c0_i32_148, v171, c1_i32_150⟩
def k0_off67 (k0_t7 : Fin k0_t7_loop.trips) : Fin 3 → Nat :=
  let c2_i32_156 : BitVec 32 := 2#32
  let c0_i32_148 : BitVec 32 := 0#32
  let c1_i32_150 : BitVec 32 := 1#32
  let arg15 : BitVec 32 := Scf.iv c0_i32_148 c1_i32_150 k0_t7
  let v173 : BitVec 32 := Scalar.muli c2_i32_156 arg15
  let v176 : Index := Scalar.indexCast v173
  let c1536_159 : Index := 1536#32
  let c0_160 : Index := 0#32
  ![v176.toNat, 1536, 0]
def k0_off68 (k0_t7 : Fin k0_t7_loop.trips) : Fin 3 → Nat :=
  let c2_i32_156 : BitVec 32 := 2#32
  let c0_i32_148 : BitVec 32 := 0#32
  let c1_i32_150 : BitVec 32 := 1#32
  let arg15 : BitVec 32 := Scf.iv c0_i32_148 c1_i32_150 k0_t7
  let v173 : BitVec 32 := Scalar.muli c2_i32_156 arg15
  let v179 : Index := Scalar.indexCast v173
  let c0_161 : Index := 0#32
  let c0_162 : Index := 0#32
  ![v179.toNat, 0, 0]
def k0_off69 (k0_t7 : Fin k0_t7_loop.trips) : Fin 3 → Nat :=
  let c2_i32_157 : BitVec 32 := 2#32
  let c0_i32_148 : BitVec 32 := 0#32
  let c1_i32_150 : BitVec 32 := 1#32
  let arg15 : BitVec 32 := Scf.iv c0_i32_148 c1_i32_150 k0_t7
  let v174 : BitVec 32 := Scalar.muli c2_i32_157 arg15
  let c1_i32_158 : BitVec 32 := 1#32
  let v175 : BitVec 32 := Scalar.addi v174 c1_i32_158
  let v183 : Index := Scalar.indexCast v175
  let c1536_164 : Index := 1536#32
  let c0_165 : Index := 0#32
  ![v183.toNat, 1536, 0]
def k0_off70 (k0_t7 : Fin k0_t7_loop.trips) : Fin 3 → Nat :=
  let c2_i32_157 : BitVec 32 := 2#32
  let c0_i32_148 : BitVec 32 := 0#32
  let c1_i32_150 : BitVec 32 := 1#32
  let arg15 : BitVec 32 := Scf.iv c0_i32_148 c1_i32_150 k0_t7
  let v174 : BitVec 32 := Scalar.muli c2_i32_157 arg15
  let c1_i32_158 : BitVec 32 := 1#32
  let v175 : BitVec 32 := Scalar.addi v174 c1_i32_158
  let v186 : Index := Scalar.indexCast v175
  let c0_166 : Index := 0#32
  let c0_167 : Index := 0#32
  ![v186.toNat, 0, 0]
def k0_off71 (k0_t7 : Fin k0_t7_loop.trips) : Fin 3 → Nat :=
  let c2_i32_156 : BitVec 32 := 2#32
  let c0_i32_148 : BitVec 32 := 0#32
  let c1_i32_150 : BitVec 32 := 1#32
  let arg15 : BitVec 32 := Scf.iv c0_i32_148 c1_i32_150 k0_t7
  let v173 : BitVec 32 := Scalar.muli c2_i32_156 arg15
  let v245 : Index := Scalar.indexCast v173
  let c0_183 : Index := 0#32
  let c128 : Index := 128#32
  ![v245.toNat, 0, 128]
def k0_off72 (k0_t7 : Fin k0_t7_loop.trips) : Fin 3 → Nat :=
  let c2_i32_156 : BitVec 32 := 2#32
  let c0_i32_148 : BitVec 32 := 0#32
  let c1_i32_150 : BitVec 32 := 1#32
  let arg15 : BitVec 32 := Scf.iv c0_i32_148 c1_i32_150 k0_t7
  let v173 : BitVec 32 := Scalar.muli c2_i32_156 arg15
  let c8_i32 : BitVec 32 := 8#32
  let v248 : BitVec 32 := Scalar.muli v173 c8_i32
  let c6_i32 : BitVec 32 := 6#32
  let v249 : BitVec 32 := Scalar.addi v248 c6_i32
  let v252 : Index := Scalar.indexCast v249
  let c0_185 : Index := 0#32
  let c0_186 : Index := 0#32
  ![v252.toNat, 0, 0]
def k0_off73 (k0_t7 : Fin k0_t7_loop.trips) : Fin 3 → Nat :=
  let c2_i32_156 : BitVec 32 := 2#32
  let c0_i32_148 : BitVec 32 := 0#32
  let c1_i32_150 : BitVec 32 := 1#32
  let arg15 : BitVec 32 := Scf.iv c0_i32_148 c1_i32_150 k0_t7
  let v173 : BitVec 32 := Scalar.muli c2_i32_156 arg15
  let c8_i32 : BitVec 32 := 8#32
  let v248 : BitVec 32 := Scalar.muli v173 c8_i32
  let c6_i32 : BitVec 32 := 6#32
  let v249 : BitVec 32 := Scalar.addi v248 c6_i32
  let v274 : Index := Scalar.indexCast v249
  let c0_193 : Index := 0#32
  let c0_194 : Index := 0#32
  ![v274.toNat, 0, 0]
def k0_off74 (k0_t7 : Fin k0_t7_loop.trips) : Fin 3 → Nat :=
  let c2_i32_157 : BitVec 32 := 2#32
  let c0_i32_148 : BitVec 32 := 0#32
  let c1_i32_150 : BitVec 32 := 1#32
  let arg15 : BitVec 32 := Scf.iv c0_i32_148 c1_i32_150 k0_t7
  let v174 : BitVec 32 := Scalar.muli c2_i32_157 arg15
  let c1_i32_158 : BitVec 32 := 1#32
  let v175 : BitVec 32 := Scalar.addi v174 c1_i32_158
  let v290 : Index := Scalar.indexCast v175
  let c0_200 : Index := 0#32
  let c128_201 : Index := 128#32
  ![v290.toNat, 0, 128]
def k0_off75 (k0_t7 : Fin k0_t7_loop.trips) : Fin 3 → Nat :=
  let c2_i32_157 : BitVec 32 := 2#32
  let c0_i32_148 : BitVec 32 := 0#32
  let c1_i32_150 : BitVec 32 := 1#32
  let arg15 : BitVec 32 := Scf.iv c0_i32_148 c1_i32_150 k0_t7
  let v174 : BitVec 32 := Scalar.muli c2_i32_157 arg15
  let c1_i32_158 : BitVec 32 := 1#32
  let v175 : BitVec 32 := Scalar.addi v174 c1_i32_158
  let c8_i32_202 : BitVec 32 := 8#32
  let v293 : BitVec 32 := Scalar.muli v175 c8_i32_202
  let c6_i32_203 : BitVec 32 := 6#32
  let v294 : BitVec 32 := Scalar.addi v293 c6_i32_203
  let v297 : Index := Scalar.indexCast v294
  let c0_205 : Index := 0#32
  let c0_206 : Index := 0#32
  ![v297.toNat, 0, 0]
def k0_off76 (k0_t7 : Fin k0_t7_loop.trips) : Fin 3 → Nat :=
  let c2_i32_157 : BitVec 32 := 2#32
  let c0_i32_148 : BitVec 32 := 0#32
  let c1_i32_150 : BitVec 32 := 1#32
  let arg15 : BitVec 32 := Scf.iv c0_i32_148 c1_i32_150 k0_t7
  let v174 : BitVec 32 := Scalar.muli c2_i32_157 arg15
  let c1_i32_158 : BitVec 32 := 1#32
  let v175 : BitVec 32 := Scalar.addi v174 c1_i32_158
  let c8_i32_202 : BitVec 32 := 8#32
  let v293 : BitVec 32 := Scalar.muli v175 c8_i32_202
  let c6_i32_203 : BitVec 32 := 6#32
  let v294 : BitVec 32 := Scalar.addi v293 c6_i32_203
  let v319 : Index := Scalar.indexCast v294
  let c0_213 : Index := 0#32
  let c0_214 : Index := 0#32
  ![v319.toNat, 0, 0]
@[reducible] def k0_t8_loop : Scf.Loop 32 :=
  let c0_i32_152 : BitVec 32 := 0#32
  let c4_i32_153 : BitVec 32 := 4#32
  let v172 : BitVec 32 := Scalar.addi c0_i32_152 c4_i32_153
  let c1_i32_154 : BitVec 32 := 1#32
  ⟨c0_i32_152, v172, c1_i32_154⟩
def k0_off77 (k0_t8 : Fin k0_t8_loop.trips) : Fin 3 → Nat :=
  let c2_i32_156 : BitVec 32 := 2#32
  let c0_i32_152 : BitVec 32 := 0#32
  let c1_i32_154 : BitVec 32 := 1#32
  let arg15 : BitVec 32 := Scf.iv c0_i32_152 c1_i32_154 k0_t8
  let v173 : BitVec 32 := Scalar.muli c2_i32_156 arg15
  let v176 : Index := Scalar.indexCast v173
  let c1792 : Index := 1792#32
  let c0_159 : Index := 0#32
  ![v176.toNat, 1792, 0]
def k0_off78 (k0_t8 : Fin k0_t8_loop.trips) : Fin 3 → Nat :=
  let c2_i32_156 : BitVec 32 := 2#32
  let c0_i32_152 : BitVec 32 := 0#32
  let c1_i32_154 : BitVec 32 := 1#32
  let arg15 : BitVec 32 := Scf.iv c0_i32_152 c1_i32_154 k0_t8
  let v173 : BitVec 32 := Scalar.muli c2_i32_156 arg15
  let v179 : Index := Scalar.indexCast v173
  let c0_160 : Index := 0#32
  let c0_161 : Index := 0#32
  ![v179.toNat, 0, 0]
def k0_off79 (k0_t8 : Fin k0_t8_loop.trips) : Fin 3 → Nat :=
  let c2_i32_157 : BitVec 32 := 2#32
  let c0_i32_152 : BitVec 32 := 0#32
  let c1_i32_154 : BitVec 32 := 1#32
  let arg15 : BitVec 32 := Scf.iv c0_i32_152 c1_i32_154 k0_t8
  let v174 : BitVec 32 := Scalar.muli c2_i32_157 arg15
  let c1_i32_158 : BitVec 32 := 1#32
  let v175 : BitVec 32 := Scalar.addi v174 c1_i32_158
  let v183 : Index := Scalar.indexCast v175
  let c1792_163 : Index := 1792#32
  let c0_164 : Index := 0#32
  ![v183.toNat, 1792, 0]
def k0_off80 (k0_t8 : Fin k0_t8_loop.trips) : Fin 3 → Nat :=
  let c2_i32_157 : BitVec 32 := 2#32
  let c0_i32_152 : BitVec 32 := 0#32
  let c1_i32_154 : BitVec 32 := 1#32
  let arg15 : BitVec 32 := Scf.iv c0_i32_152 c1_i32_154 k0_t8
  let v174 : BitVec 32 := Scalar.muli c2_i32_157 arg15
  let c1_i32_158 : BitVec 32 := 1#32
  let v175 : BitVec 32 := Scalar.addi v174 c1_i32_158
  let v186 : Index := Scalar.indexCast v175
  let c0_165 : Index := 0#32
  let c0_166 : Index := 0#32
  ![v186.toNat, 0, 0]
def k0_off81 (k0_t8 : Fin k0_t8_loop.trips) : Fin 3 → Nat :=
  let c2_i32_156 : BitVec 32 := 2#32
  let c0_i32_152 : BitVec 32 := 0#32
  let c1_i32_154 : BitVec 32 := 1#32
  let arg15 : BitVec 32 := Scf.iv c0_i32_152 c1_i32_154 k0_t8
  let v173 : BitVec 32 := Scalar.muli c2_i32_156 arg15
  let v245 : Index := Scalar.indexCast v173
  let c0_182 : Index := 0#32
  let c128 : Index := 128#32
  ![v245.toNat, 0, 128]
def k0_off82 (k0_t8 : Fin k0_t8_loop.trips) : Fin 3 → Nat :=
  let c2_i32_156 : BitVec 32 := 2#32
  let c0_i32_152 : BitVec 32 := 0#32
  let c1_i32_154 : BitVec 32 := 1#32
  let arg15 : BitVec 32 := Scf.iv c0_i32_152 c1_i32_154 k0_t8
  let v173 : BitVec 32 := Scalar.muli c2_i32_156 arg15
  let c8_i32 : BitVec 32 := 8#32
  let v248 : BitVec 32 := Scalar.muli v173 c8_i32
  let c7_i32 : BitVec 32 := 7#32
  let v249 : BitVec 32 := Scalar.addi v248 c7_i32
  let v252 : Index := Scalar.indexCast v249
  let c0_184 : Index := 0#32
  let c0_185 : Index := 0#32
  ![v252.toNat, 0, 0]
def k0_off83 (k0_t8 : Fin k0_t8_loop.trips) : Fin 3 → Nat :=
  let c2_i32_156 : BitVec 32 := 2#32
  let c0_i32_152 : BitVec 32 := 0#32
  let c1_i32_154 : BitVec 32 := 1#32
  let arg15 : BitVec 32 := Scf.iv c0_i32_152 c1_i32_154 k0_t8
  let v173 : BitVec 32 := Scalar.muli c2_i32_156 arg15
  let c8_i32 : BitVec 32 := 8#32
  let v248 : BitVec 32 := Scalar.muli v173 c8_i32
  let c7_i32 : BitVec 32 := 7#32
  let v249 : BitVec 32 := Scalar.addi v248 c7_i32
  let v274 : Index := Scalar.indexCast v249
  let c0_192 : Index := 0#32
  let c0_193 : Index := 0#32
  ![v274.toNat, 0, 0]
def k0_off84 (k0_t8 : Fin k0_t8_loop.trips) : Fin 3 → Nat :=
  let c2_i32_157 : BitVec 32 := 2#32
  let c0_i32_152 : BitVec 32 := 0#32
  let c1_i32_154 : BitVec 32 := 1#32
  let arg15 : BitVec 32 := Scf.iv c0_i32_152 c1_i32_154 k0_t8
  let v174 : BitVec 32 := Scalar.muli c2_i32_157 arg15
  let c1_i32_158 : BitVec 32 := 1#32
  let v175 : BitVec 32 := Scalar.addi v174 c1_i32_158
  let v290 : Index := Scalar.indexCast v175
  let c0_199 : Index := 0#32
  let c128_200 : Index := 128#32
  ![v290.toNat, 0, 128]
def k0_off85 (k0_t8 : Fin k0_t8_loop.trips) : Fin 3 → Nat :=
  let c2_i32_157 : BitVec 32 := 2#32
  let c0_i32_152 : BitVec 32 := 0#32
  let c1_i32_154 : BitVec 32 := 1#32
  let arg15 : BitVec 32 := Scf.iv c0_i32_152 c1_i32_154 k0_t8
  let v174 : BitVec 32 := Scalar.muli c2_i32_157 arg15
  let c1_i32_158 : BitVec 32 := 1#32
  let v175 : BitVec 32 := Scalar.addi v174 c1_i32_158
  let c8_i32_201 : BitVec 32 := 8#32
  let v293 : BitVec 32 := Scalar.muli v175 c8_i32_201
  let c7_i32_202 : BitVec 32 := 7#32
  let v294 : BitVec 32 := Scalar.addi v293 c7_i32_202
  let v297 : Index := Scalar.indexCast v294
  let c0_204 : Index := 0#32
  let c0_205 : Index := 0#32
  ![v297.toNat, 0, 0]
def k0_off86 (k0_t8 : Fin k0_t8_loop.trips) : Fin 3 → Nat :=
  let c2_i32_157 : BitVec 32 := 2#32
  let c0_i32_152 : BitVec 32 := 0#32
  let c1_i32_154 : BitVec 32 := 1#32
  let arg15 : BitVec 32 := Scf.iv c0_i32_152 c1_i32_154 k0_t8
  let v174 : BitVec 32 := Scalar.muli c2_i32_157 arg15
  let c1_i32_158 : BitVec 32 := 1#32
  let v175 : BitVec 32 := Scalar.addi v174 c1_i32_158
  let c8_i32_201 : BitVec 32 := 8#32
  let v293 : BitVec 32 := Scalar.muli v175 c8_i32_201
  let c7_i32_202 : BitVec 32 := 7#32
  let v294 : BitVec 32 := Scalar.addi v293 c7_i32_202
  let v319 : Index := Scalar.indexCast v294
  let c0_212 : Index := 0#32
  let c0_213 : Index := 0#32
  ![v319.toNat, 0, 0]
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_73 : BitVec 32 := 1#32
  let v112 : BitVec 32 := Scalar.subi v2 c1_i32_73
  let c0_i32_74 : BitVec 32 := 0#32
  let v113 : BitVec 1 := Scalar.cmpi .sge v112 c0_i32_74
  let v114 : BitVec 32 := Scalar.extui v113
  let c0_i32_75 : BitVec 32 := 0#32
  let v115 : BitVec 1 := Scalar.cmpi .ne v114 c0_i32_75
  v115

def k0_off87 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_73 : BitVec 32 := 1#32
  let v112 : BitVec 32 := Scalar.subi v2 c1_i32_73
  ![v112.toNat]
def k0_off88 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_73 : BitVec 32 := 1#32
  let v112 : BitVec 32 := Scalar.subi v2 c1_i32_73
  let c0_i32_127 : BitVec 32 := 0#32
  let c0_i32_128 : BitVec 32 := 0#32
  let c0_i32_129 : BitVec 32 := 0#32
  ![v112.toNat, 0, 0, 0]
@[reducible] def k0_t9_loop : Scf.Loop 32 :=
  let c0_i32_139 : BitVec 32 := 0#32
  let c32_i32 : BitVec 32 := 32#32
  let v177 : BitVec 32 := Scalar.addi c0_i32_139 c32_i32
  let c1_i32_140 : BitVec 32 := 1#32
  ⟨c0_i32_139, v177, c1_i32_140⟩
def k0_off89 (k0_t9 : Fin k0_t9_loop.trips) : Fin 3 → Nat :=
  let c2_i32_142 : BitVec 32 := 2#32
  let c0_i32_139 : BitVec 32 := 0#32
  let c1_i32_140 : BitVec 32 := 1#32
  let arg15 : BitVec 32 := Scf.iv c0_i32_139 c1_i32_140 k0_t9
  let v178 : BitVec 32 := Scalar.muli c2_i32_142 arg15
  let c0_i32_145 : BitVec 32 := 0#32
  let v182 : BitVec 1 := Scalar.cmpi .sgt v178 c0_i32_145
  let v183 : BitVec 32 := Scalar.extui v182
  let c0_i32_146 : BitVec 32 := 0#32
  let v184 : BitVec 1 := Scalar.cmpi .slt v178 c0_i32_146
  let v185 : BitVec 32 := Scalar.extui v184
  let v186 : BitVec 32 := Scalar.subi v183 v185
  let c8_i32 : BitVec 32 := 8#32
  let c0_i32_147 : BitVec 32 := 0#32
  let v187 : BitVec 1 := Scalar.cmpi .sgt c8_i32 c0_i32_147
  let v188 : BitVec 32 := Scalar.extui v187
  let c0_i32_148 : BitVec 32 := 0#32
  let v189 : BitVec 1 := Scalar.cmpi .slt c8_i32 c0_i32_148
  let v190 : BitVec 32 := Scalar.extui v189
  let v191 : BitVec 32 := Scalar.subi v188 v190
  let v192 : BitVec 1 := Scalar.cmpi .ne v186 v191
  let v193 : BitVec 32 := Scalar.remsi v178 c8_i32
  let c0_i32_149 : BitVec 32 := 0#32
  let v194 : BitVec 1 := Scalar.cmpi .ne v193 c0_i32_149
  let v195 : BitVec 1 := Scalar.andi v192 v194
  let v181 : BitVec 32 := Scalar.divsi v178 c8_i32
  let c1_i32_150 : BitVec 32 := 1#32
  let v196 : BitVec 32 := Scalar.subi v181 c1_i32_150
  let v197 : BitVec 32 := Scalar.select v195 v196 v181
  let v209 : Index := Scalar.indexCast v197
  let c8_i32_151 : BitVec 32 := 8#32
  let c0_i32_152 : BitVec 32 := 0#32
  let v198 : BitVec 1 := Scalar.cmpi .eq c8_i32_151 c0_i32_152
  let c1_i32_153 : BitVec 32 := 1#32
  let v199 : BitVec 32 := Scalar.select v198 c1_i32_153 c8_i32_151
  let v200 : BitVec 32 := Scalar.remsi v178 v199
  let c0_i32_155 : BitVec 32 := 0#32
  let v202 : BitVec 1 := Scalar.cmpi .slt v200 c0_i32_155
  let c0_i32_156 : BitVec 32 := 0#32
  let v203 : BitVec 1 := Scalar.cmpi .slt v199 c0_i32_156
  let v204 : BitVec 1 := Scalar.xori v202 v203
  let c0_i32_154 : BitVec 32 := 0#32
  let v201 : BitVec 1 := Scalar.cmpi .ne v200 c0_i32_154
  let v205 : BitVec 1 := Scalar.andi v204 v201
  let v206 : BitVec 32 := Scalar.addi v200 v199
  let v207 : BitVec 32 := Scalar.select v205 v206 v200
  let c256_i32 : BitVec 32 := 256#32
  let v208 : BitVec 32 := Scalar.muli v207 c256_i32
  let v210 : Index := Scalar.indexCast v208
  let c0_157 : Index := 0#32
  ![v209.toNat, v210.toNat, 0]
def k0_off90 (k0_t9 : Fin k0_t9_loop.trips) : Fin 3 → Nat :=
  let c2_i32_142 : BitVec 32 := 2#32
  let c0_i32_139 : BitVec 32 := 0#32
  let c1_i32_140 : BitVec 32 := 1#32
  let arg15 : BitVec 32 := Scf.iv c0_i32_139 c1_i32_140 k0_t9
  let v178 : BitVec 32 := Scalar.muli c2_i32_142 arg15
  let c0_i32_145 : BitVec 32 := 0#32
  let v182 : BitVec 1 := Scalar.cmpi .sgt v178 c0_i32_145
  let v183 : BitVec 32 := Scalar.extui v182
  let c0_i32_146 : BitVec 32 := 0#32
  let v184 : BitVec 1 := Scalar.cmpi .slt v178 c0_i32_146
  let v185 : BitVec 32 := Scalar.extui v184
  let v186 : BitVec 32 := Scalar.subi v183 v185
  let c8_i32 : BitVec 32 := 8#32
  let c0_i32_147 : BitVec 32 := 0#32
  let v187 : BitVec 1 := Scalar.cmpi .sgt c8_i32 c0_i32_147
  let v188 : BitVec 32 := Scalar.extui v187
  let c0_i32_148 : BitVec 32 := 0#32
  let v189 : BitVec 1 := Scalar.cmpi .slt c8_i32 c0_i32_148
  let v190 : BitVec 32 := Scalar.extui v189
  let v191 : BitVec 32 := Scalar.subi v188 v190
  let v192 : BitVec 1 := Scalar.cmpi .ne v186 v191
  let v193 : BitVec 32 := Scalar.remsi v178 c8_i32
  let c0_i32_149 : BitVec 32 := 0#32
  let v194 : BitVec 1 := Scalar.cmpi .ne v193 c0_i32_149
  let v195 : BitVec 1 := Scalar.andi v192 v194
  let v181 : BitVec 32 := Scalar.divsi v178 c8_i32
  let c1_i32_150 : BitVec 32 := 1#32
  let v196 : BitVec 32 := Scalar.subi v181 c1_i32_150
  let v197 : BitVec 32 := Scalar.select v195 v196 v181
  let v213 : Index := Scalar.indexCast v197
  let c0_158 : Index := 0#32
  let c0_159 : Index := 0#32
  ![v213.toNat, 0, 0]
def k0_off91 (k0_t9 : Fin k0_t9_loop.trips) : Fin 3 → Nat :=
  let c2_i32_143 : BitVec 32 := 2#32
  let c0_i32_139 : BitVec 32 := 0#32
  let c1_i32_140 : BitVec 32 := 1#32
  let arg15 : BitVec 32 := Scf.iv c0_i32_139 c1_i32_140 k0_t9
  let v179 : BitVec 32 := Scalar.muli c2_i32_143 arg15
  let c1_i32_144 : BitVec 32 := 1#32
  let v180 : BitVec 32 := Scalar.addi v179 c1_i32_144
  let c0_i32_162 : BitVec 32 := 0#32
  let v219 : BitVec 1 := Scalar.cmpi .sgt v180 c0_i32_162
  let v220 : BitVec 32 := Scalar.extui v219
  let c0_i32_163 : BitVec 32 := 0#32
  let v221 : BitVec 1 := Scalar.cmpi .slt v180 c0_i32_163
  let v222 : BitVec 32 := Scalar.extui v221
  let v223 : BitVec 32 := Scalar.subi v220 v222
  let c8_i32_161 : BitVec 32 := 8#32
  let c0_i32_164 : BitVec 32 := 0#32
  let v224 : BitVec 1 := Scalar.cmpi .sgt c8_i32_161 c0_i32_164
  let v225 : BitVec 32 := Scalar.extui v224
  let c0_i32_165 : BitVec 32 := 0#32
  let v226 : BitVec 1 := Scalar.cmpi .slt c8_i32_161 c0_i32_165
  let v227 : BitVec 32 := Scalar.extui v226
  let v228 : BitVec 32 := Scalar.subi v225 v227
  let v229 : BitVec 1 := Scalar.cmpi .ne v223 v228
  let v230 : BitVec 32 := Scalar.remsi v180 c8_i32_161
  let c0_i32_166 : BitVec 32 := 0#32
  let v231 : BitVec 1 := Scalar.cmpi .ne v230 c0_i32_166
  let v232 : BitVec 1 := Scalar.andi v229 v231
  let v218 : BitVec 32 := Scalar.divsi v180 c8_i32_161
  let c1_i32_167 : BitVec 32 := 1#32
  let v233 : BitVec 32 := Scalar.subi v218 c1_i32_167
  let v234 : BitVec 32 := Scalar.select v232 v233 v218
  let v246 : Index := Scalar.indexCast v234
  let c8_i32_168 : BitVec 32 := 8#32
  let c0_i32_169 : BitVec 32 := 0#32
  let v235 : BitVec 1 := Scalar.cmpi .eq c8_i32_168 c0_i32_169
  let c1_i32_170 : BitVec 32 := 1#32
  let v236 : BitVec 32 := Scalar.select v235 c1_i32_170 c8_i32_168
  let v237 : BitVec 32 := Scalar.remsi v180 v236
  let c0_i32_172 : BitVec 32 := 0#32
  let v239 : BitVec 1 := Scalar.cmpi .slt v237 c0_i32_172
  let c0_i32_173 : BitVec 32 := 0#32
  let v240 : BitVec 1 := Scalar.cmpi .slt v236 c0_i32_173
  let v241 : BitVec 1 := Scalar.xori v239 v240
  let c0_i32_171 : BitVec 32 := 0#32
  let v238 : BitVec 1 := Scalar.cmpi .ne v237 c0_i32_171
  let v242 : BitVec 1 := Scalar.andi v241 v238
  let v243 : BitVec 32 := Scalar.addi v237 v236
  let v244 : BitVec 32 := Scalar.select v242 v243 v237
  let c256_i32_174 : BitVec 32 := 256#32
  let v245 : BitVec 32 := Scalar.muli v244 c256_i32_174
  let v247 : Index := Scalar.indexCast v245
  let c0_175 : Index := 0#32
  ![v246.toNat, v247.toNat, 0]
def k0_off92 (k0_t9 : Fin k0_t9_loop.trips) : Fin 3 → Nat :=
  let c2_i32_143 : BitVec 32 := 2#32
  let c0_i32_139 : BitVec 32 := 0#32
  let c1_i32_140 : BitVec 32 := 1#32
  let arg15 : BitVec 32 := Scf.iv c0_i32_139 c1_i32_140 k0_t9
  let v179 : BitVec 32 := Scalar.muli c2_i32_143 arg15
  let c1_i32_144 : BitVec 32 := 1#32
  let v180 : BitVec 32 := Scalar.addi v179 c1_i32_144
  let c0_i32_162 : BitVec 32 := 0#32
  let v219 : BitVec 1 := Scalar.cmpi .sgt v180 c0_i32_162
  let v220 : BitVec 32 := Scalar.extui v219
  let c0_i32_163 : BitVec 32 := 0#32
  let v221 : BitVec 1 := Scalar.cmpi .slt v180 c0_i32_163
  let v222 : BitVec 32 := Scalar.extui v221
  let v223 : BitVec 32 := Scalar.subi v220 v222
  let c8_i32_161 : BitVec 32 := 8#32
  let c0_i32_164 : BitVec 32 := 0#32
  let v224 : BitVec 1 := Scalar.cmpi .sgt c8_i32_161 c0_i32_164
  let v225 : BitVec 32 := Scalar.extui v224
  let c0_i32_165 : BitVec 32 := 0#32
  let v226 : BitVec 1 := Scalar.cmpi .slt c8_i32_161 c0_i32_165
  let v227 : BitVec 32 := Scalar.extui v226
  let v228 : BitVec 32 := Scalar.subi v225 v227
  let v229 : BitVec 1 := Scalar.cmpi .ne v223 v228
  let v230 : BitVec 32 := Scalar.remsi v180 c8_i32_161
  let c0_i32_166 : BitVec 32 := 0#32
  let v231 : BitVec 1 := Scalar.cmpi .ne v230 c0_i32_166
  let v232 : BitVec 1 := Scalar.andi v229 v231
  let v218 : BitVec 32 := Scalar.divsi v180 c8_i32_161
  let c1_i32_167 : BitVec 32 := 1#32
  let v233 : BitVec 32 := Scalar.subi v218 c1_i32_167
  let v234 : BitVec 32 := Scalar.select v232 v233 v218
  let v250 : Index := Scalar.indexCast v234
  let c0_176 : Index := 0#32
  let c0_177 : Index := 0#32
  ![v250.toNat, 0, 0]
def k0_off93 (k0_t9 : Fin k0_t9_loop.trips) : Fin 3 → Nat :=
  let c2_i32_142 : BitVec 32 := 2#32
  let c0_i32_139 : BitVec 32 := 0#32
  let c1_i32_140 : BitVec 32 := 1#32
  let arg15 : BitVec 32 := Scf.iv c0_i32_139 c1_i32_140 k0_t9
  let v178 : BitVec 32 := Scalar.muli c2_i32_142 arg15
  let c0_i32_180 : BitVec 32 := 0#32
  let v256 : BitVec 1 := Scalar.cmpi .sgt v178 c0_i32_180
  let v257 : BitVec 32 := Scalar.extui v256
  let c0_i32_181 : BitVec 32 := 0#32
  let v258 : BitVec 1 := Scalar.cmpi .slt v178 c0_i32_181
  let v259 : BitVec 32 := Scalar.extui v258
  let v260 : BitVec 32 := Scalar.subi v257 v259
  let c8_i32_179 : BitVec 32 := 8#32
  let c0_i32_182 : BitVec 32 := 0#32
  let v261 : BitVec 1 := Scalar.cmpi .sgt c8_i32_179 c0_i32_182
  let v262 : BitVec 32 := Scalar.extui v261
  let c0_i32_183 : BitVec 32 := 0#32
  let v263 : BitVec 1 := Scalar.cmpi .slt c8_i32_179 c0_i32_183
  let v264 : BitVec 32 := Scalar.extui v263
  let v265 : BitVec 32 := Scalar.subi v262 v264
  let v266 : BitVec 1 := Scalar.cmpi .ne v260 v265
  let v267 : BitVec 32 := Scalar.remsi v178 c8_i32_179
  let c0_i32_184 : BitVec 32 := 0#32
  let v268 : BitVec 1 := Scalar.cmpi .ne v267 c0_i32_184
  let v269 : BitVec 1 := Scalar.andi v266 v268
  let v255 : BitVec 32 := Scalar.divsi v178 c8_i32_179
  let c1_i32_185 : BitVec 32 := 1#32
  let v270 : BitVec 32 := Scalar.subi v255 c1_i32_185
  let v271 : BitVec 32 := Scalar.select v269 v270 v255
  let v272 : Index := Scalar.indexCast v271
  let c0_186 : Index := 0#32
  let c128 : Index := 128#32
  ![v272.toNat, 0, 128]
def k0_off94 (k0_t9 : Fin k0_t9_loop.trips) : Fin 3 → Nat :=
  let c2_i32_142 : BitVec 32 := 2#32
  let c0_i32_139 : BitVec 32 := 0#32
  let c1_i32_140 : BitVec 32 := 1#32
  let arg15 : BitVec 32 := Scf.iv c0_i32_139 c1_i32_140 k0_t9
  let v178 : BitVec 32 := Scalar.muli c2_i32_142 arg15
  let v276 : Index := Scalar.indexCast v178
  let c0_187 : Index := 0#32
  let c0_188 : Index := 0#32
  ![v276.toNat, 0, 0]
def k0_off95 (k0_t9 : Fin k0_t9_loop.trips) : Fin 3 → Nat :=
  let c2_i32_142 : BitVec 32 := 2#32
  let c0_i32_139 : BitVec 32 := 0#32
  let c1_i32_140 : BitVec 32 := 1#32
  let arg15 : BitVec 32 := Scf.iv c0_i32_139 c1_i32_140 k0_t9
  let v178 : BitVec 32 := Scalar.muli c2_i32_142 arg15
  let v298 : Index := Scalar.indexCast v178
  let c0_195 : Index := 0#32
  let c0_196 : Index := 0#32
  ![v298.toNat, 0, 0]
def k0_off96 (k0_t9 : Fin k0_t9_loop.trips) : Fin 3 → Nat :=
  let c2_i32_143 : BitVec 32 := 2#32
  let c0_i32_139 : BitVec 32 := 0#32
  let c1_i32_140 : BitVec 32 := 1#32
  let arg15 : BitVec 32 := Scf.iv c0_i32_139 c1_i32_140 k0_t9
  let v179 : BitVec 32 := Scalar.muli c2_i32_143 arg15
  let c1_i32_144 : BitVec 32 := 1#32
  let v180 : BitVec 32 := Scalar.addi v179 c1_i32_144
  let c0_i32_203 : BitVec 32 := 0#32
  let v315 : BitVec 1 := Scalar.cmpi .sgt v180 c0_i32_203
  let v316 : BitVec 32 := Scalar.extui v315
  let c0_i32_204 : BitVec 32 := 0#32
  let v317 : BitVec 1 := Scalar.cmpi .slt v180 c0_i32_204
  let v318 : BitVec 32 := Scalar.extui v317
  let v319 : BitVec 32 := Scalar.subi v316 v318
  let c8_i32_202 : BitVec 32 := 8#32
  let c0_i32_205 : BitVec 32 := 0#32
  let v320 : BitVec 1 := Scalar.cmpi .sgt c8_i32_202 c0_i32_205
  let v321 : BitVec 32 := Scalar.extui v320
  let c0_i32_206 : BitVec 32 := 0#32
  let v322 : BitVec 1 := Scalar.cmpi .slt c8_i32_202 c0_i32_206
  let v323 : BitVec 32 := Scalar.extui v322
  let v324 : BitVec 32 := Scalar.subi v321 v323
  let v325 : BitVec 1 := Scalar.cmpi .ne v319 v324
  let v326 : BitVec 32 := Scalar.remsi v180 c8_i32_202
  let c0_i32_207 : BitVec 32 := 0#32
  let v327 : BitVec 1 := Scalar.cmpi .ne v326 c0_i32_207
  let v328 : BitVec 1 := Scalar.andi v325 v327
  let v314 : BitVec 32 := Scalar.divsi v180 c8_i32_202
  let c1_i32_208 : BitVec 32 := 1#32
  let v329 : BitVec 32 := Scalar.subi v314 c1_i32_208
  let v330 : BitVec 32 := Scalar.select v328 v329 v314
  let v331 : Index := Scalar.indexCast v330
  let c0_209 : Index := 0#32
  let c128_210 : Index := 128#32
  ![v331.toNat, 0, 128]
def k0_off97 (k0_t9 : Fin k0_t9_loop.trips) : Fin 3 → Nat :=
  let c2_i32_143 : BitVec 32 := 2#32
  let c0_i32_139 : BitVec 32 := 0#32
  let c1_i32_140 : BitVec 32 := 1#32
  let arg15 : BitVec 32 := Scf.iv c0_i32_139 c1_i32_140 k0_t9
  let v179 : BitVec 32 := Scalar.muli c2_i32_143 arg15
  let c1_i32_144 : BitVec 32 := 1#32
  let v180 : BitVec 32 := Scalar.addi v179 c1_i32_144
  let v335 : Index := Scalar.indexCast v180
  let c0_211 : Index := 0#32
  let c0_212 : Index := 0#32
  ![v335.toNat, 0, 0]
def k0_off98 (k0_t9 : Fin k0_t9_loop.trips) : Fin 3 → Nat :=
  let c2_i32_143 : BitVec 32 := 2#32
  let c0_i32_139 : BitVec 32 := 0#32
  let c1_i32_140 : BitVec 32 := 1#32
  let arg15 : BitVec 32 := Scf.iv c0_i32_139 c1_i32_140 k0_t9
  let v179 : BitVec 32 := Scalar.muli c2_i32_143 arg15
  let c1_i32_144 : BitVec 32 := 1#32
  let v180 : BitVec 32 := Scalar.addi v179 c1_i32_144
  let v357 : Index := Scalar.indexCast v180
  let c0_219 : Index := 0#32
  let c0_220 : Index := 0#32
  ![v357.toNat, 0, 0]
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_76 : BitVec 32 := 2#32
  let v116 : BitVec 32 := Scalar.subi v2 c2_i32_76
  let c0_i32_77 : BitVec 32 := 0#32
  let v117 : BitVec 1 := Scalar.cmpi .sge v116 c0_i32_77
  let v118 : BitVec 32 := Scalar.extui v117
  let c0_i32_78 : BitVec 32 := 0#32
  let v119 : BitVec 1 := Scalar.cmpi .ne v118 c0_i32_78
  v119

def k0_off99 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_76 : BitVec 32 := 2#32
  let v116 : BitVec 32 := Scalar.subi v2 c2_i32_76
  ![v116.toNat]
def k0_off100 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_76 : BitVec 32 := 2#32
  let v116 : BitVec 32 := Scalar.subi v2 c2_i32_76
  let c0_i32_127 : BitVec 32 := 0#32
  let c0_i32_128 : BitVec 32 := 0#32
  let c0_i32_129 : BitVec 32 := 0#32
  ![v116.toNat, 0, 0, 0]
@[reducible] def k0_t10_loop : Scf.Loop 32 :=
  let c0_i32_139 : BitVec 32 := 0#32
  let c32_i32 : BitVec 32 := 32#32
  let v177 : BitVec 32 := Scalar.addi c0_i32_139 c32_i32
  let c1_i32_140 : BitVec 32 := 1#32
  ⟨c0_i32_139, v177, c1_i32_140⟩
def k0_off101 (k0_t10 : Fin k0_t10_loop.trips) : Fin 3 → Nat :=
  let c2_i32_142 : BitVec 32 := 2#32
  let c0_i32_139 : BitVec 32 := 0#32
  let c1_i32_140 : BitVec 32 := 1#32
  let arg15 : BitVec 32 := Scf.iv c0_i32_139 c1_i32_140 k0_t10
  let v178 : BitVec 32 := Scalar.muli c2_i32_142 arg15
  let c0_i32_145 : BitVec 32 := 0#32
  let v182 : BitVec 1 := Scalar.cmpi .sgt v178 c0_i32_145
  let v183 : BitVec 32 := Scalar.extui v182
  let c0_i32_146 : BitVec 32 := 0#32
  let v184 : BitVec 1 := Scalar.cmpi .slt v178 c0_i32_146
  let v185 : BitVec 32 := Scalar.extui v184
  let v186 : BitVec 32 := Scalar.subi v183 v185
  let c8_i32 : BitVec 32 := 8#32
  let c0_i32_147 : BitVec 32 := 0#32
  let v187 : BitVec 1 := Scalar.cmpi .sgt c8_i32 c0_i32_147
  let v188 : BitVec 32 := Scalar.extui v187
  let c0_i32_148 : BitVec 32 := 0#32
  let v189 : BitVec 1 := Scalar.cmpi .slt c8_i32 c0_i32_148
  let v190 : BitVec 32 := Scalar.extui v189
  let v191 : BitVec 32 := Scalar.subi v188 v190
  let v192 : BitVec 1 := Scalar.cmpi .ne v186 v191
  let v193 : BitVec 32 := Scalar.remsi v178 c8_i32
  let c0_i32_149 : BitVec 32 := 0#32
  let v194 : BitVec 1 := Scalar.cmpi .ne v193 c0_i32_149
  let v195 : BitVec 1 := Scalar.andi v192 v194
  let v181 : BitVec 32 := Scalar.divsi v178 c8_i32
  let c1_i32_150 : BitVec 32 := 1#32
  let v196 : BitVec 32 := Scalar.subi v181 c1_i32_150
  let v197 : BitVec 32 := Scalar.select v195 v196 v181
  let v209 : Index := Scalar.indexCast v197
  let c8_i32_151 : BitVec 32 := 8#32
  let c0_i32_152 : BitVec 32 := 0#32
  let v198 : BitVec 1 := Scalar.cmpi .eq c8_i32_151 c0_i32_152
  let c1_i32_153 : BitVec 32 := 1#32
  let v199 : BitVec 32 := Scalar.select v198 c1_i32_153 c8_i32_151
  let v200 : BitVec 32 := Scalar.remsi v178 v199
  let c0_i32_155 : BitVec 32 := 0#32
  let v202 : BitVec 1 := Scalar.cmpi .slt v200 c0_i32_155
  let c0_i32_156 : BitVec 32 := 0#32
  let v203 : BitVec 1 := Scalar.cmpi .slt v199 c0_i32_156
  let v204 : BitVec 1 := Scalar.xori v202 v203
  let c0_i32_154 : BitVec 32 := 0#32
  let v201 : BitVec 1 := Scalar.cmpi .ne v200 c0_i32_154
  let v205 : BitVec 1 := Scalar.andi v204 v201
  let v206 : BitVec 32 := Scalar.addi v200 v199
  let v207 : BitVec 32 := Scalar.select v205 v206 v200
  let c256_i32 : BitVec 32 := 256#32
  let v208 : BitVec 32 := Scalar.muli v207 c256_i32
  let v210 : Index := Scalar.indexCast v208
  let c0_157 : Index := 0#32
  ![v209.toNat, v210.toNat, 0]
def k0_off102 (k0_t10 : Fin k0_t10_loop.trips) : Fin 3 → Nat :=
  let c2_i32_142 : BitVec 32 := 2#32
  let c0_i32_139 : BitVec 32 := 0#32
  let c1_i32_140 : BitVec 32 := 1#32
  let arg15 : BitVec 32 := Scf.iv c0_i32_139 c1_i32_140 k0_t10
  let v178 : BitVec 32 := Scalar.muli c2_i32_142 arg15
  let c0_i32_145 : BitVec 32 := 0#32
  let v182 : BitVec 1 := Scalar.cmpi .sgt v178 c0_i32_145
  let v183 : BitVec 32 := Scalar.extui v182
  let c0_i32_146 : BitVec 32 := 0#32
  let v184 : BitVec 1 := Scalar.cmpi .slt v178 c0_i32_146
  let v185 : BitVec 32 := Scalar.extui v184
  let v186 : BitVec 32 := Scalar.subi v183 v185
  let c8_i32 : BitVec 32 := 8#32
  let c0_i32_147 : BitVec 32 := 0#32
  let v187 : BitVec 1 := Scalar.cmpi .sgt c8_i32 c0_i32_147
  let v188 : BitVec 32 := Scalar.extui v187
  let c0_i32_148 : BitVec 32 := 0#32
  let v189 : BitVec 1 := Scalar.cmpi .slt c8_i32 c0_i32_148
  let v190 : BitVec 32 := Scalar.extui v189
  let v191 : BitVec 32 := Scalar.subi v188 v190
  let v192 : BitVec 1 := Scalar.cmpi .ne v186 v191
  let v193 : BitVec 32 := Scalar.remsi v178 c8_i32
  let c0_i32_149 : BitVec 32 := 0#32
  let v194 : BitVec 1 := Scalar.cmpi .ne v193 c0_i32_149
  let v195 : BitVec 1 := Scalar.andi v192 v194
  let v181 : BitVec 32 := Scalar.divsi v178 c8_i32
  let c1_i32_150 : BitVec 32 := 1#32
  let v196 : BitVec 32 := Scalar.subi v181 c1_i32_150
  let v197 : BitVec 32 := Scalar.select v195 v196 v181
  let v213 : Index := Scalar.indexCast v197
  let c0_158 : Index := 0#32
  let c0_159 : Index := 0#32
  ![v213.toNat, 0, 0]
def k0_off103 (k0_t10 : Fin k0_t10_loop.trips) : Fin 3 → Nat :=
  let c2_i32_143 : BitVec 32 := 2#32
  let c0_i32_139 : BitVec 32 := 0#32
  let c1_i32_140 : BitVec 32 := 1#32
  let arg15 : BitVec 32 := Scf.iv c0_i32_139 c1_i32_140 k0_t10
  let v179 : BitVec 32 := Scalar.muli c2_i32_143 arg15
  let c1_i32_144 : BitVec 32 := 1#32
  let v180 : BitVec 32 := Scalar.addi v179 c1_i32_144
  let c0_i32_162 : BitVec 32 := 0#32
  let v219 : BitVec 1 := Scalar.cmpi .sgt v180 c0_i32_162
  let v220 : BitVec 32 := Scalar.extui v219
  let c0_i32_163 : BitVec 32 := 0#32
  let v221 : BitVec 1 := Scalar.cmpi .slt v180 c0_i32_163
  let v222 : BitVec 32 := Scalar.extui v221
  let v223 : BitVec 32 := Scalar.subi v220 v222
  let c8_i32_161 : BitVec 32 := 8#32
  let c0_i32_164 : BitVec 32 := 0#32
  let v224 : BitVec 1 := Scalar.cmpi .sgt c8_i32_161 c0_i32_164
  let v225 : BitVec 32 := Scalar.extui v224
  let c0_i32_165 : BitVec 32 := 0#32
  let v226 : BitVec 1 := Scalar.cmpi .slt c8_i32_161 c0_i32_165
  let v227 : BitVec 32 := Scalar.extui v226
  let v228 : BitVec 32 := Scalar.subi v225 v227
  let v229 : BitVec 1 := Scalar.cmpi .ne v223 v228
  let v230 : BitVec 32 := Scalar.remsi v180 c8_i32_161
  let c0_i32_166 : BitVec 32 := 0#32
  let v231 : BitVec 1 := Scalar.cmpi .ne v230 c0_i32_166
  let v232 : BitVec 1 := Scalar.andi v229 v231
  let v218 : BitVec 32 := Scalar.divsi v180 c8_i32_161
  let c1_i32_167 : BitVec 32 := 1#32
  let v233 : BitVec 32 := Scalar.subi v218 c1_i32_167
  let v234 : BitVec 32 := Scalar.select v232 v233 v218
  let v246 : Index := Scalar.indexCast v234
  let c8_i32_168 : BitVec 32 := 8#32
  let c0_i32_169 : BitVec 32 := 0#32
  let v235 : BitVec 1 := Scalar.cmpi .eq c8_i32_168 c0_i32_169
  let c1_i32_170 : BitVec 32 := 1#32
  let v236 : BitVec 32 := Scalar.select v235 c1_i32_170 c8_i32_168
  let v237 : BitVec 32 := Scalar.remsi v180 v236
  let c0_i32_172 : BitVec 32 := 0#32
  let v239 : BitVec 1 := Scalar.cmpi .slt v237 c0_i32_172
  let c0_i32_173 : BitVec 32 := 0#32
  let v240 : BitVec 1 := Scalar.cmpi .slt v236 c0_i32_173
  let v241 : BitVec 1 := Scalar.xori v239 v240
  let c0_i32_171 : BitVec 32 := 0#32
  let v238 : BitVec 1 := Scalar.cmpi .ne v237 c0_i32_171
  let v242 : BitVec 1 := Scalar.andi v241 v238
  let v243 : BitVec 32 := Scalar.addi v237 v236
  let v244 : BitVec 32 := Scalar.select v242 v243 v237
  let c256_i32_174 : BitVec 32 := 256#32
  let v245 : BitVec 32 := Scalar.muli v244 c256_i32_174
  let v247 : Index := Scalar.indexCast v245
  let c0_175 : Index := 0#32
  ![v246.toNat, v247.toNat, 0]
def k0_off104 (k0_t10 : Fin k0_t10_loop.trips) : Fin 3 → Nat :=
  let c2_i32_143 : BitVec 32 := 2#32
  let c0_i32_139 : BitVec 32 := 0#32
  let c1_i32_140 : BitVec 32 := 1#32
  let arg15 : BitVec 32 := Scf.iv c0_i32_139 c1_i32_140 k0_t10
  let v179 : BitVec 32 := Scalar.muli c2_i32_143 arg15
  let c1_i32_144 : BitVec 32 := 1#32
  let v180 : BitVec 32 := Scalar.addi v179 c1_i32_144
  let c0_i32_162 : BitVec 32 := 0#32
  let v219 : BitVec 1 := Scalar.cmpi .sgt v180 c0_i32_162
  let v220 : BitVec 32 := Scalar.extui v219
  let c0_i32_163 : BitVec 32 := 0#32
  let v221 : BitVec 1 := Scalar.cmpi .slt v180 c0_i32_163
  let v222 : BitVec 32 := Scalar.extui v221
  let v223 : BitVec 32 := Scalar.subi v220 v222
  let c8_i32_161 : BitVec 32 := 8#32
  let c0_i32_164 : BitVec 32 := 0#32
  let v224 : BitVec 1 := Scalar.cmpi .sgt c8_i32_161 c0_i32_164
  let v225 : BitVec 32 := Scalar.extui v224
  let c0_i32_165 : BitVec 32 := 0#32
  let v226 : BitVec 1 := Scalar.cmpi .slt c8_i32_161 c0_i32_165
  let v227 : BitVec 32 := Scalar.extui v226
  let v228 : BitVec 32 := Scalar.subi v225 v227
  let v229 : BitVec 1 := Scalar.cmpi .ne v223 v228
  let v230 : BitVec 32 := Scalar.remsi v180 c8_i32_161
  let c0_i32_166 : BitVec 32 := 0#32
  let v231 : BitVec 1 := Scalar.cmpi .ne v230 c0_i32_166
  let v232 : BitVec 1 := Scalar.andi v229 v231
  let v218 : BitVec 32 := Scalar.divsi v180 c8_i32_161
  let c1_i32_167 : BitVec 32 := 1#32
  let v233 : BitVec 32 := Scalar.subi v218 c1_i32_167
  let v234 : BitVec 32 := Scalar.select v232 v233 v218
  let v250 : Index := Scalar.indexCast v234
  let c0_176 : Index := 0#32
  let c0_177 : Index := 0#32
  ![v250.toNat, 0, 0]
def k0_off105 (k0_t10 : Fin k0_t10_loop.trips) : Fin 3 → Nat :=
  let c2_i32_142 : BitVec 32 := 2#32
  let c0_i32_139 : BitVec 32 := 0#32
  let c1_i32_140 : BitVec 32 := 1#32
  let arg15 : BitVec 32 := Scf.iv c0_i32_139 c1_i32_140 k0_t10
  let v178 : BitVec 32 := Scalar.muli c2_i32_142 arg15
  let c0_i32_180 : BitVec 32 := 0#32
  let v256 : BitVec 1 := Scalar.cmpi .sgt v178 c0_i32_180
  let v257 : BitVec 32 := Scalar.extui v256
  let c0_i32_181 : BitVec 32 := 0#32
  let v258 : BitVec 1 := Scalar.cmpi .slt v178 c0_i32_181
  let v259 : BitVec 32 := Scalar.extui v258
  let v260 : BitVec 32 := Scalar.subi v257 v259
  let c8_i32_179 : BitVec 32 := 8#32
  let c0_i32_182 : BitVec 32 := 0#32
  let v261 : BitVec 1 := Scalar.cmpi .sgt c8_i32_179 c0_i32_182
  let v262 : BitVec 32 := Scalar.extui v261
  let c0_i32_183 : BitVec 32 := 0#32
  let v263 : BitVec 1 := Scalar.cmpi .slt c8_i32_179 c0_i32_183
  let v264 : BitVec 32 := Scalar.extui v263
  let v265 : BitVec 32 := Scalar.subi v262 v264
  let v266 : BitVec 1 := Scalar.cmpi .ne v260 v265
  let v267 : BitVec 32 := Scalar.remsi v178 c8_i32_179
  let c0_i32_184 : BitVec 32 := 0#32
  let v268 : BitVec 1 := Scalar.cmpi .ne v267 c0_i32_184
  let v269 : BitVec 1 := Scalar.andi v266 v268
  let v255 : BitVec 32 := Scalar.divsi v178 c8_i32_179
  let c1_i32_185 : BitVec 32 := 1#32
  let v270 : BitVec 32 := Scalar.subi v255 c1_i32_185
  let v271 : BitVec 32 := Scalar.select v269 v270 v255
  let v272 : Index := Scalar.indexCast v271
  let c0_186 : Index := 0#32
  let c128 : Index := 128#32
  ![v272.toNat, 0, 128]
def k0_off106 (k0_t10 : Fin k0_t10_loop.trips) : Fin 3 → Nat :=
  let c2_i32_142 : BitVec 32 := 2#32
  let c0_i32_139 : BitVec 32 := 0#32
  let c1_i32_140 : BitVec 32 := 1#32
  let arg15 : BitVec 32 := Scf.iv c0_i32_139 c1_i32_140 k0_t10
  let v178 : BitVec 32 := Scalar.muli c2_i32_142 arg15
  let v276 : Index := Scalar.indexCast v178
  let c0_187 : Index := 0#32
  let c0_188 : Index := 0#32
  ![v276.toNat, 0, 0]
def k0_off107 (k0_t10 : Fin k0_t10_loop.trips) : Fin 3 → Nat :=
  let c2_i32_142 : BitVec 32 := 2#32
  let c0_i32_139 : BitVec 32 := 0#32
  let c1_i32_140 : BitVec 32 := 1#32
  let arg15 : BitVec 32 := Scf.iv c0_i32_139 c1_i32_140 k0_t10
  let v178 : BitVec 32 := Scalar.muli c2_i32_142 arg15
  let v298 : Index := Scalar.indexCast v178
  let c0_195 : Index := 0#32
  let c0_196 : Index := 0#32
  ![v298.toNat, 0, 0]
def k0_off108 (k0_t10 : Fin k0_t10_loop.trips) : Fin 3 → Nat :=
  let c2_i32_143 : BitVec 32 := 2#32
  let c0_i32_139 : BitVec 32 := 0#32
  let c1_i32_140 : BitVec 32 := 1#32
  let arg15 : BitVec 32 := Scf.iv c0_i32_139 c1_i32_140 k0_t10
  let v179 : BitVec 32 := Scalar.muli c2_i32_143 arg15
  let c1_i32_144 : BitVec 32 := 1#32
  let v180 : BitVec 32 := Scalar.addi v179 c1_i32_144
  let c0_i32_203 : BitVec 32 := 0#32
  let v315 : BitVec 1 := Scalar.cmpi .sgt v180 c0_i32_203
  let v316 : BitVec 32 := Scalar.extui v315
  let c0_i32_204 : BitVec 32 := 0#32
  let v317 : BitVec 1 := Scalar.cmpi .slt v180 c0_i32_204
  let v318 : BitVec 32 := Scalar.extui v317
  let v319 : BitVec 32 := Scalar.subi v316 v318
  let c8_i32_202 : BitVec 32 := 8#32
  let c0_i32_205 : BitVec 32 := 0#32
  let v320 : BitVec 1 := Scalar.cmpi .sgt c8_i32_202 c0_i32_205
  let v321 : BitVec 32 := Scalar.extui v320
  let c0_i32_206 : BitVec 32 := 0#32
  let v322 : BitVec 1 := Scalar.cmpi .slt c8_i32_202 c0_i32_206
  let v323 : BitVec 32 := Scalar.extui v322
  let v324 : BitVec 32 := Scalar.subi v321 v323
  let v325 : BitVec 1 := Scalar.cmpi .ne v319 v324
  let v326 : BitVec 32 := Scalar.remsi v180 c8_i32_202
  let c0_i32_207 : BitVec 32 := 0#32
  let v327 : BitVec 1 := Scalar.cmpi .ne v326 c0_i32_207
  let v328 : BitVec 1 := Scalar.andi v325 v327
  let v314 : BitVec 32 := Scalar.divsi v180 c8_i32_202
  let c1_i32_208 : BitVec 32 := 1#32
  let v329 : BitVec 32 := Scalar.subi v314 c1_i32_208
  let v330 : BitVec 32 := Scalar.select v328 v329 v314
  let v331 : Index := Scalar.indexCast v330
  let c0_209 : Index := 0#32
  let c128_210 : Index := 128#32
  ![v331.toNat, 0, 128]
def k0_off109 (k0_t10 : Fin k0_t10_loop.trips) : Fin 3 → Nat :=
  let c2_i32_143 : BitVec 32 := 2#32
  let c0_i32_139 : BitVec 32 := 0#32
  let c1_i32_140 : BitVec 32 := 1#32
  let arg15 : BitVec 32 := Scf.iv c0_i32_139 c1_i32_140 k0_t10
  let v179 : BitVec 32 := Scalar.muli c2_i32_143 arg15
  let c1_i32_144 : BitVec 32 := 1#32
  let v180 : BitVec 32 := Scalar.addi v179 c1_i32_144
  let v335 : Index := Scalar.indexCast v180
  let c0_211 : Index := 0#32
  let c0_212 : Index := 0#32
  ![v335.toNat, 0, 0]
def k0_off110 (k0_t10 : Fin k0_t10_loop.trips) : Fin 3 → Nat :=
  let c2_i32_143 : BitVec 32 := 2#32
  let c0_i32_139 : BitVec 32 := 0#32
  let c1_i32_140 : BitVec 32 := 1#32
  let arg15 : BitVec 32 := Scf.iv c0_i32_139 c1_i32_140 k0_t10
  let v179 : BitVec 32 := Scalar.muli c2_i32_143 arg15
  let c1_i32_144 : BitVec 32 := 1#32
  let v180 : BitVec 32 := Scalar.addi v179 c1_i32_144
  let v357 : Index := Scalar.indexCast v180
  let c0_219 : Index := 0#32
  let c0_220 : Index := 0#32
  ![v357.toNat, 0, 0]
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_79 : BitVec 32 := 3#32
  let v120 : BitVec 32 := Scalar.subi v2 c3_i32_79
  let c0_i32_80 : BitVec 32 := 0#32
  let v121 : BitVec 1 := Scalar.cmpi .sge v120 c0_i32_80
  let v122 : BitVec 32 := Scalar.extui v121
  let c0_i32_81 : BitVec 32 := 0#32
  let v123 : BitVec 1 := Scalar.cmpi .ne v122 c0_i32_81
  v123

def k0_off111 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_79 : BitVec 32 := 3#32
  let v120 : BitVec 32 := Scalar.subi v2 c3_i32_79
  ![v120.toNat]
def k0_off112 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_79 : BitVec 32 := 3#32
  let v120 : BitVec 32 := Scalar.subi v2 c3_i32_79
  let c0_i32_127 : BitVec 32 := 0#32
  let c0_i32_128 : BitVec 32 := 0#32
  let c0_i32_129 : BitVec 32 := 0#32
  ![v120.toNat, 0, 0, 0]
@[reducible] def k0_t11_loop : Scf.Loop 32 :=
  let c0_i32_139 : BitVec 32 := 0#32
  let c32_i32 : BitVec 32 := 32#32
  let v177 : BitVec 32 := Scalar.addi c0_i32_139 c32_i32
  let c1_i32_140 : BitVec 32 := 1#32
  ⟨c0_i32_139, v177, c1_i32_140⟩
def k0_off113 (k0_t11 : Fin k0_t11_loop.trips) : Fin 3 → Nat :=
  let c2_i32_142 : BitVec 32 := 2#32
  let c0_i32_139 : BitVec 32 := 0#32
  let c1_i32_140 : BitVec 32 := 1#32
  let arg15 : BitVec 32 := Scf.iv c0_i32_139 c1_i32_140 k0_t11
  let v178 : BitVec 32 := Scalar.muli c2_i32_142 arg15
  let c0_i32_145 : BitVec 32 := 0#32
  let v182 : BitVec 1 := Scalar.cmpi .sgt v178 c0_i32_145
  let v183 : BitVec 32 := Scalar.extui v182
  let c0_i32_146 : BitVec 32 := 0#32
  let v184 : BitVec 1 := Scalar.cmpi .slt v178 c0_i32_146
  let v185 : BitVec 32 := Scalar.extui v184
  let v186 : BitVec 32 := Scalar.subi v183 v185
  let c8_i32 : BitVec 32 := 8#32
  let c0_i32_147 : BitVec 32 := 0#32
  let v187 : BitVec 1 := Scalar.cmpi .sgt c8_i32 c0_i32_147
  let v188 : BitVec 32 := Scalar.extui v187
  let c0_i32_148 : BitVec 32 := 0#32
  let v189 : BitVec 1 := Scalar.cmpi .slt c8_i32 c0_i32_148
  let v190 : BitVec 32 := Scalar.extui v189
  let v191 : BitVec 32 := Scalar.subi v188 v190
  let v192 : BitVec 1 := Scalar.cmpi .ne v186 v191
  let v193 : BitVec 32 := Scalar.remsi v178 c8_i32
  let c0_i32_149 : BitVec 32 := 0#32
  let v194 : BitVec 1 := Scalar.cmpi .ne v193 c0_i32_149
  let v195 : BitVec 1 := Scalar.andi v192 v194
  let v181 : BitVec 32 := Scalar.divsi v178 c8_i32
  let c1_i32_150 : BitVec 32 := 1#32
  let v196 : BitVec 32 := Scalar.subi v181 c1_i32_150
  let v197 : BitVec 32 := Scalar.select v195 v196 v181
  let v209 : Index := Scalar.indexCast v197
  let c8_i32_151 : BitVec 32 := 8#32
  let c0_i32_152 : BitVec 32 := 0#32
  let v198 : BitVec 1 := Scalar.cmpi .eq c8_i32_151 c0_i32_152
  let c1_i32_153 : BitVec 32 := 1#32
  let v199 : BitVec 32 := Scalar.select v198 c1_i32_153 c8_i32_151
  let v200 : BitVec 32 := Scalar.remsi v178 v199
  let c0_i32_155 : BitVec 32 := 0#32
  let v202 : BitVec 1 := Scalar.cmpi .slt v200 c0_i32_155
  let c0_i32_156 : BitVec 32 := 0#32
  let v203 : BitVec 1 := Scalar.cmpi .slt v199 c0_i32_156
  let v204 : BitVec 1 := Scalar.xori v202 v203
  let c0_i32_154 : BitVec 32 := 0#32
  let v201 : BitVec 1 := Scalar.cmpi .ne v200 c0_i32_154
  let v205 : BitVec 1 := Scalar.andi v204 v201
  let v206 : BitVec 32 := Scalar.addi v200 v199
  let v207 : BitVec 32 := Scalar.select v205 v206 v200
  let c256_i32 : BitVec 32 := 256#32
  let v208 : BitVec 32 := Scalar.muli v207 c256_i32
  let v210 : Index := Scalar.indexCast v208
  let c0_157 : Index := 0#32
  ![v209.toNat, v210.toNat, 0]
def k0_off114 (k0_t11 : Fin k0_t11_loop.trips) : Fin 3 → Nat :=
  let c2_i32_142 : BitVec 32 := 2#32
  let c0_i32_139 : BitVec 32 := 0#32
  let c1_i32_140 : BitVec 32 := 1#32
  let arg15 : BitVec 32 := Scf.iv c0_i32_139 c1_i32_140 k0_t11
  let v178 : BitVec 32 := Scalar.muli c2_i32_142 arg15
  let c0_i32_145 : BitVec 32 := 0#32
  let v182 : BitVec 1 := Scalar.cmpi .sgt v178 c0_i32_145
  let v183 : BitVec 32 := Scalar.extui v182
  let c0_i32_146 : BitVec 32 := 0#32
  let v184 : BitVec 1 := Scalar.cmpi .slt v178 c0_i32_146
  let v185 : BitVec 32 := Scalar.extui v184
  let v186 : BitVec 32 := Scalar.subi v183 v185
  let c8_i32 : BitVec 32 := 8#32
  let c0_i32_147 : BitVec 32 := 0#32
  let v187 : BitVec 1 := Scalar.cmpi .sgt c8_i32 c0_i32_147
  let v188 : BitVec 32 := Scalar.extui v187
  let c0_i32_148 : BitVec 32 := 0#32
  let v189 : BitVec 1 := Scalar.cmpi .slt c8_i32 c0_i32_148
  let v190 : BitVec 32 := Scalar.extui v189
  let v191 : BitVec 32 := Scalar.subi v188 v190
  let v192 : BitVec 1 := Scalar.cmpi .ne v186 v191
  let v193 : BitVec 32 := Scalar.remsi v178 c8_i32
  let c0_i32_149 : BitVec 32 := 0#32
  let v194 : BitVec 1 := Scalar.cmpi .ne v193 c0_i32_149
  let v195 : BitVec 1 := Scalar.andi v192 v194
  let v181 : BitVec 32 := Scalar.divsi v178 c8_i32
  let c1_i32_150 : BitVec 32 := 1#32
  let v196 : BitVec 32 := Scalar.subi v181 c1_i32_150
  let v197 : BitVec 32 := Scalar.select v195 v196 v181
  let v213 : Index := Scalar.indexCast v197
  let c0_158 : Index := 0#32
  let c0_159 : Index := 0#32
  ![v213.toNat, 0, 0]
def k0_off115 (k0_t11 : Fin k0_t11_loop.trips) : Fin 3 → Nat :=
  let c2_i32_143 : BitVec 32 := 2#32
  let c0_i32_139 : BitVec 32 := 0#32
  let c1_i32_140 : BitVec 32 := 1#32
  let arg15 : BitVec 32 := Scf.iv c0_i32_139 c1_i32_140 k0_t11
  let v179 : BitVec 32 := Scalar.muli c2_i32_143 arg15
  let c1_i32_144 : BitVec 32 := 1#32
  let v180 : BitVec 32 := Scalar.addi v179 c1_i32_144
  let c0_i32_162 : BitVec 32 := 0#32
  let v219 : BitVec 1 := Scalar.cmpi .sgt v180 c0_i32_162
  let v220 : BitVec 32 := Scalar.extui v219
  let c0_i32_163 : BitVec 32 := 0#32
  let v221 : BitVec 1 := Scalar.cmpi .slt v180 c0_i32_163
  let v222 : BitVec 32 := Scalar.extui v221
  let v223 : BitVec 32 := Scalar.subi v220 v222
  let c8_i32_161 : BitVec 32 := 8#32
  let c0_i32_164 : BitVec 32 := 0#32
  let v224 : BitVec 1 := Scalar.cmpi .sgt c8_i32_161 c0_i32_164
  let v225 : BitVec 32 := Scalar.extui v224
  let c0_i32_165 : BitVec 32 := 0#32
  let v226 : BitVec 1 := Scalar.cmpi .slt c8_i32_161 c0_i32_165
  let v227 : BitVec 32 := Scalar.extui v226
  let v228 : BitVec 32 := Scalar.subi v225 v227
  let v229 : BitVec 1 := Scalar.cmpi .ne v223 v228
  let v230 : BitVec 32 := Scalar.remsi v180 c8_i32_161
  let c0_i32_166 : BitVec 32 := 0#32
  let v231 : BitVec 1 := Scalar.cmpi .ne v230 c0_i32_166
  let v232 : BitVec 1 := Scalar.andi v229 v231
  let v218 : BitVec 32 := Scalar.divsi v180 c8_i32_161
  let c1_i32_167 : BitVec 32 := 1#32
  let v233 : BitVec 32 := Scalar.subi v218 c1_i32_167
  let v234 : BitVec 32 := Scalar.select v232 v233 v218
  let v246 : Index := Scalar.indexCast v234
  let c8_i32_168 : BitVec 32 := 8#32
  let c0_i32_169 : BitVec 32 := 0#32
  let v235 : BitVec 1 := Scalar.cmpi .eq c8_i32_168 c0_i32_169
  let c1_i32_170 : BitVec 32 := 1#32
  let v236 : BitVec 32 := Scalar.select v235 c1_i32_170 c8_i32_168
  let v237 : BitVec 32 := Scalar.remsi v180 v236
  let c0_i32_172 : BitVec 32 := 0#32
  let v239 : BitVec 1 := Scalar.cmpi .slt v237 c0_i32_172
  let c0_i32_173 : BitVec 32 := 0#32
  let v240 : BitVec 1 := Scalar.cmpi .slt v236 c0_i32_173
  let v241 : BitVec 1 := Scalar.xori v239 v240
  let c0_i32_171 : BitVec 32 := 0#32
  let v238 : BitVec 1 := Scalar.cmpi .ne v237 c0_i32_171
  let v242 : BitVec 1 := Scalar.andi v241 v238
  let v243 : BitVec 32 := Scalar.addi v237 v236
  let v244 : BitVec 32 := Scalar.select v242 v243 v237
  let c256_i32_174 : BitVec 32 := 256#32
  let v245 : BitVec 32 := Scalar.muli v244 c256_i32_174
  let v247 : Index := Scalar.indexCast v245
  let c0_175 : Index := 0#32
  ![v246.toNat, v247.toNat, 0]
def k0_off116 (k0_t11 : Fin k0_t11_loop.trips) : Fin 3 → Nat :=
  let c2_i32_143 : BitVec 32 := 2#32
  let c0_i32_139 : BitVec 32 := 0#32
  let c1_i32_140 : BitVec 32 := 1#32
  let arg15 : BitVec 32 := Scf.iv c0_i32_139 c1_i32_140 k0_t11
  let v179 : BitVec 32 := Scalar.muli c2_i32_143 arg15
  let c1_i32_144 : BitVec 32 := 1#32
  let v180 : BitVec 32 := Scalar.addi v179 c1_i32_144
  let c0_i32_162 : BitVec 32 := 0#32
  let v219 : BitVec 1 := Scalar.cmpi .sgt v180 c0_i32_162
  let v220 : BitVec 32 := Scalar.extui v219
  let c0_i32_163 : BitVec 32 := 0#32
  let v221 : BitVec 1 := Scalar.cmpi .slt v180 c0_i32_163
  let v222 : BitVec 32 := Scalar.extui v221
  let v223 : BitVec 32 := Scalar.subi v220 v222
  let c8_i32_161 : BitVec 32 := 8#32
  let c0_i32_164 : BitVec 32 := 0#32
  let v224 : BitVec 1 := Scalar.cmpi .sgt c8_i32_161 c0_i32_164
  let v225 : BitVec 32 := Scalar.extui v224
  let c0_i32_165 : BitVec 32 := 0#32
  let v226 : BitVec 1 := Scalar.cmpi .slt c8_i32_161 c0_i32_165
  let v227 : BitVec 32 := Scalar.extui v226
  let v228 : BitVec 32 := Scalar.subi v225 v227
  let v229 : BitVec 1 := Scalar.cmpi .ne v223 v228
  let v230 : BitVec 32 := Scalar.remsi v180 c8_i32_161
  let c0_i32_166 : BitVec 32 := 0#32
  let v231 : BitVec 1 := Scalar.cmpi .ne v230 c0_i32_166
  let v232 : BitVec 1 := Scalar.andi v229 v231
  let v218 : BitVec 32 := Scalar.divsi v180 c8_i32_161
  let c1_i32_167 : BitVec 32 := 1#32
  let v233 : BitVec 32 := Scalar.subi v218 c1_i32_167
  let v234 : BitVec 32 := Scalar.select v232 v233 v218
  let v250 : Index := Scalar.indexCast v234
  let c0_176 : Index := 0#32
  let c0_177 : Index := 0#32
  ![v250.toNat, 0, 0]
def k0_off117 (k0_t11 : Fin k0_t11_loop.trips) : Fin 3 → Nat :=
  let c2_i32_142 : BitVec 32 := 2#32
  let c0_i32_139 : BitVec 32 := 0#32
  let c1_i32_140 : BitVec 32 := 1#32
  let arg15 : BitVec 32 := Scf.iv c0_i32_139 c1_i32_140 k0_t11
  let v178 : BitVec 32 := Scalar.muli c2_i32_142 arg15
  let c0_i32_180 : BitVec 32 := 0#32
  let v256 : BitVec 1 := Scalar.cmpi .sgt v178 c0_i32_180
  let v257 : BitVec 32 := Scalar.extui v256
  let c0_i32_181 : BitVec 32 := 0#32
  let v258 : BitVec 1 := Scalar.cmpi .slt v178 c0_i32_181
  let v259 : BitVec 32 := Scalar.extui v258
  let v260 : BitVec 32 := Scalar.subi v257 v259
  let c8_i32_179 : BitVec 32 := 8#32
  let c0_i32_182 : BitVec 32 := 0#32
  let v261 : BitVec 1 := Scalar.cmpi .sgt c8_i32_179 c0_i32_182
  let v262 : BitVec 32 := Scalar.extui v261
  let c0_i32_183 : BitVec 32 := 0#32
  let v263 : BitVec 1 := Scalar.cmpi .slt c8_i32_179 c0_i32_183
  let v264 : BitVec 32 := Scalar.extui v263
  let v265 : BitVec 32 := Scalar.subi v262 v264
  let v266 : BitVec 1 := Scalar.cmpi .ne v260 v265
  let v267 : BitVec 32 := Scalar.remsi v178 c8_i32_179
  let c0_i32_184 : BitVec 32 := 0#32
  let v268 : BitVec 1 := Scalar.cmpi .ne v267 c0_i32_184
  let v269 : BitVec 1 := Scalar.andi v266 v268
  let v255 : BitVec 32 := Scalar.divsi v178 c8_i32_179
  let c1_i32_185 : BitVec 32 := 1#32
  let v270 : BitVec 32 := Scalar.subi v255 c1_i32_185
  let v271 : BitVec 32 := Scalar.select v269 v270 v255
  let v272 : Index := Scalar.indexCast v271
  let c0_186 : Index := 0#32
  let c128 : Index := 128#32
  ![v272.toNat, 0, 128]
def k0_off118 (k0_t11 : Fin k0_t11_loop.trips) : Fin 3 → Nat :=
  let c2_i32_142 : BitVec 32 := 2#32
  let c0_i32_139 : BitVec 32 := 0#32
  let c1_i32_140 : BitVec 32 := 1#32
  let arg15 : BitVec 32 := Scf.iv c0_i32_139 c1_i32_140 k0_t11
  let v178 : BitVec 32 := Scalar.muli c2_i32_142 arg15
  let v276 : Index := Scalar.indexCast v178
  let c0_187 : Index := 0#32
  let c0_188 : Index := 0#32
  ![v276.toNat, 0, 0]
def k0_off119 (k0_t11 : Fin k0_t11_loop.trips) : Fin 3 → Nat :=
  let c2_i32_142 : BitVec 32 := 2#32
  let c0_i32_139 : BitVec 32 := 0#32
  let c1_i32_140 : BitVec 32 := 1#32
  let arg15 : BitVec 32 := Scf.iv c0_i32_139 c1_i32_140 k0_t11
  let v178 : BitVec 32 := Scalar.muli c2_i32_142 arg15
  let v298 : Index := Scalar.indexCast v178
  let c0_195 : Index := 0#32
  let c0_196 : Index := 0#32
  ![v298.toNat, 0, 0]
def k0_off120 (k0_t11 : Fin k0_t11_loop.trips) : Fin 3 → Nat :=
  let c2_i32_143 : BitVec 32 := 2#32
  let c0_i32_139 : BitVec 32 := 0#32
  let c1_i32_140 : BitVec 32 := 1#32
  let arg15 : BitVec 32 := Scf.iv c0_i32_139 c1_i32_140 k0_t11
  let v179 : BitVec 32 := Scalar.muli c2_i32_143 arg15
  let c1_i32_144 : BitVec 32 := 1#32
  let v180 : BitVec 32 := Scalar.addi v179 c1_i32_144
  let c0_i32_203 : BitVec 32 := 0#32
  let v315 : BitVec 1 := Scalar.cmpi .sgt v180 c0_i32_203
  let v316 : BitVec 32 := Scalar.extui v315
  let c0_i32_204 : BitVec 32 := 0#32
  let v317 : BitVec 1 := Scalar.cmpi .slt v180 c0_i32_204
  let v318 : BitVec 32 := Scalar.extui v317
  let v319 : BitVec 32 := Scalar.subi v316 v318
  let c8_i32_202 : BitVec 32 := 8#32
  let c0_i32_205 : BitVec 32 := 0#32
  let v320 : BitVec 1 := Scalar.cmpi .sgt c8_i32_202 c0_i32_205
  let v321 : BitVec 32 := Scalar.extui v320
  let c0_i32_206 : BitVec 32 := 0#32
  let v322 : BitVec 1 := Scalar.cmpi .slt c8_i32_202 c0_i32_206
  let v323 : BitVec 32 := Scalar.extui v322
  let v324 : BitVec 32 := Scalar.subi v321 v323
  let v325 : BitVec 1 := Scalar.cmpi .ne v319 v324
  let v326 : BitVec 32 := Scalar.remsi v180 c8_i32_202
  let c0_i32_207 : BitVec 32 := 0#32
  let v327 : BitVec 1 := Scalar.cmpi .ne v326 c0_i32_207
  let v328 : BitVec 1 := Scalar.andi v325 v327
  let v314 : BitVec 32 := Scalar.divsi v180 c8_i32_202
  let c1_i32_208 : BitVec 32 := 1#32
  let v329 : BitVec 32 := Scalar.subi v314 c1_i32_208
  let v330 : BitVec 32 := Scalar.select v328 v329 v314
  let v331 : Index := Scalar.indexCast v330
  let c0_209 : Index := 0#32
  let c128_210 : Index := 128#32
  ![v331.toNat, 0, 128]
def k0_off121 (k0_t11 : Fin k0_t11_loop.trips) : Fin 3 → Nat :=
  let c2_i32_143 : BitVec 32 := 2#32
  let c0_i32_139 : BitVec 32 := 0#32
  let c1_i32_140 : BitVec 32 := 1#32
  let arg15 : BitVec 32 := Scf.iv c0_i32_139 c1_i32_140 k0_t11
  let v179 : BitVec 32 := Scalar.muli c2_i32_143 arg15
  let c1_i32_144 : BitVec 32 := 1#32
  let v180 : BitVec 32 := Scalar.addi v179 c1_i32_144
  let v335 : Index := Scalar.indexCast v180
  let c0_211 : Index := 0#32
  let c0_212 : Index := 0#32
  ![v335.toNat, 0, 0]
def k0_off122 (k0_t11 : Fin k0_t11_loop.trips) : Fin 3 → Nat :=
  let c2_i32_143 : BitVec 32 := 2#32
  let c0_i32_139 : BitVec 32 := 0#32
  let c1_i32_140 : BitVec 32 := 1#32
  let arg15 : BitVec 32 := Scf.iv c0_i32_139 c1_i32_140 k0_t11
  let v179 : BitVec 32 := Scalar.muli c2_i32_143 arg15
  let c1_i32_144 : BitVec 32 := 1#32
  let v180 : BitVec 32 := Scalar.addi v179 c1_i32_144
  let v357 : Index := Scalar.indexCast v180
  let c0_219 : Index := 0#32
  let c0_220 : Index := 0#32
  ![v357.toNat, 0, 0]
@[reducible] def k0_t12_loop : Scf.Loop 32 :=
  let c0_i32_82 : BitVec 32 := 0#32
  let c64_i32 : BitVec 32 := 64#32
  let v124 : BitVec 32 := Scalar.addi c0_i32_82 c64_i32
  let c1_i32_83 : BitVec 32 := 1#32
  ⟨c0_i32_82, v124, c1_i32_83⟩
def k0_off123 (k0_t12 : Fin k0_t12_loop.trips) : Fin 3 → Nat :=
  let c0_i32_82 : BitVec 32 := 0#32
  let c1_i32_83 : BitVec 32 := 1#32
  let arg15 : BitVec 32 := Scf.iv c0_i32_82 c1_i32_83 k0_t12
  let v193 : Index := Scalar.indexCast arg15
  let c0_136 : Index := 0#32
  let c0_137 : Index := 0#32
  ![v193.toNat, 0, 0]
def k0_off124 (k0_t12 : Fin k0_t12_loop.trips) : Fin 3 → Nat :=
  let c0_i32_82 : BitVec 32 := 0#32
  let c1_i32_83 : BitVec 32 := 1#32
  let arg15 : BitVec 32 := Scf.iv c0_i32_82 c1_i32_83 k0_t12
  let v196 : Index := Scalar.indexCast arg15
  let c0_138 : Index := 0#32
  let c0_139 : Index := 0#32
  ![v196.toNat, 0, 0]
def k0_off125 (k0_t12 : Fin k0_t12_loop.trips) : Fin 2 → Nat :=
  let c0_i32_82 : BitVec 32 := 0#32
  let c1_i32_83 : BitVec 32 := 1#32
  let arg15 : BitVec 32 := Scf.iv c0_i32_82 c1_i32_83 k0_t12
  let c0_i32_124 : BitVec 32 := 0#32
  let v166 : BitVec 1 := Scalar.cmpi .sgt arg15 c0_i32_124
  let v167 : BitVec 32 := Scalar.extui v166
  let c0_i32_125 : BitVec 32 := 0#32
  let v168 : BitVec 1 := Scalar.cmpi .slt arg15 c0_i32_125
  let v169 : BitVec 32 := Scalar.extui v168
  let v170 : BitVec 32 := Scalar.subi v167 v169
  let c8_i32 : BitVec 32 := 8#32
  let c0_i32_126 : BitVec 32 := 0#32
  let v171 : BitVec 1 := Scalar.cmpi .sgt c8_i32 c0_i32_126
  let v172 : BitVec 32 := Scalar.extui v171
  let c0_i32_127 : BitVec 32 := 0#32
  let v173 : BitVec 1 := Scalar.cmpi .slt c8_i32 c0_i32_127
  let v174 : BitVec 32 := Scalar.extui v173
  let v175 : BitVec 32 := Scalar.subi v172 v174
  let v176 : BitVec 1 := Scalar.cmpi .ne v170 v175
  let v177 : BitVec 32 := Scalar.remsi arg15 c8_i32
  let c0_i32_128 : BitVec 32 := 0#32
  let v178 : BitVec 1 := Scalar.cmpi .ne v177 c0_i32_128
  let v179 : BitVec 1 := Scalar.andi v176 v178
  let v165 : BitVec 32 := Scalar.divsi arg15 c8_i32
  let c1_i32_129 : BitVec 32 := 1#32
  let v180 : BitVec 32 := Scalar.subi v165 c1_i32_129
  let v181 : BitVec 32 := Scalar.select v179 v180 v165
  let c128_i32 : BitVec 32 := 128#32
  let v202 : BitVec 32 := Scalar.muli v181 c128_i32
  let v203 : Index := Scalar.indexCast v202
  let c8_i32_130 : BitVec 32 := 8#32
  let c0_i32_131 : BitVec 32 := 0#32
  let v182 : BitVec 1 := Scalar.cmpi .eq c8_i32_130 c0_i32_131
  let c1_i32_132 : BitVec 32 := 1#32
  let v183 : BitVec 32 := Scalar.select v182 c1_i32_132 c8_i32_130
  let v184 : BitVec 32 := Scalar.remsi arg15 v183
  let c0_i32_134 : BitVec 32 := 0#32
  let v186 : BitVec 1 := Scalar.cmpi .slt v184 c0_i32_134
  let c0_i32_135 : BitVec 32 := 0#32
  let v187 : BitVec 1 := Scalar.cmpi .slt v183 c0_i32_135
  let v188 : BitVec 1 := Scalar.xori v186 v187
  let c0_i32_133 : BitVec 32 := 0#32
  let v185 : BitVec 1 := Scalar.cmpi .ne v184 c0_i32_133
  let v189 : BitVec 1 := Scalar.andi v188 v185
  let v190 : BitVec 32 := Scalar.addi v184 v183
  let v191 : BitVec 32 := Scalar.select v189 v190 v184
  let c256_i32 : BitVec 32 := 256#32
  let v192 : BitVec 32 := Scalar.muli v191 c256_i32
  let v204 : Index := Scalar.indexCast v192
  ![v203.toNat, v204.toNat]
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_115 : BitVec 32 := 1#32
  let v153 : BitVec 32 := Scalar.addi v2 c1_i32_115
  let c3_i32_116 : BitVec 32 := 3#32
  let v154 : BitVec 1 := Scalar.cmpi .sle v153 c3_i32_116
  let v155 : BitVec 32 := Scalar.extui v154
  let c0_i32_117 : BitVec 32 := 0#32
  let v156 : BitVec 1 := Scalar.cmpi .ne v155 c0_i32_117
  v156

def k0_off126 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_127 : BitVec 32 := 0#32
  let c0_i32_128 : BitVec 32 := 0#32
  let c0_i32_129 : BitVec 32 := 0#32
  ![v2.toNat, 0, 0, 0]
def k0_cond9 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_118 : BitVec 32 := 2#32
  let v157 : BitVec 32 := Scalar.addi v2 c2_i32_118
  let c3_i32_119 : BitVec 32 := 3#32
  let v158 : BitVec 1 := Scalar.cmpi .sle v157 c3_i32_119
  let v159 : BitVec 32 := Scalar.extui v158
  let c0_i32_120 : BitVec 32 := 0#32
  let v160 : BitVec 1 := Scalar.cmpi .ne v159 c0_i32_120
  v160

def k0_off127 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_127 : BitVec 32 := 0#32
  let c0_i32_128 : BitVec 32 := 0#32
  let c0_i32_129 : BitVec 32 := 0#32
  ![v2.toNat, 0, 0, 0]
def k0_cond10 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_121 : BitVec 32 := 3#32
  let v161 : BitVec 32 := Scalar.addi v2 c3_i32_121
  let c3_i32_122 : BitVec 32 := 3#32
  let v162 : BitVec 1 := Scalar.cmpi .sle v161 c3_i32_122
  let v163 : BitVec 32 := Scalar.extui v162
  let c0_i32_123 : BitVec 32 := 0#32
  let v164 : BitVec 1 := Scalar.cmpi .ne v163 c0_i32_123
  v164

def k0_off128 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_127 : BitVec 32 := 0#32
  let c0_i32_128 : BitVec 32 := 0#32
  let c0_i32_129 : BitVec 32 := 0#32
  ![v2.toNat, 0, 0, 0]
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x8192x1024 : Shape := ⟨3, ![1, 8192, 1024]⟩
abbrev S1024x1024 : Shape := ⟨2, ![1024, 1024]⟩
abbrev S1x8192x8x128 : Shape := ⟨4, ![1, 8192, 8, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S1x8x8192x8192 : Shape := ⟨4, ![1, 8, 8192, 8192]⟩
abbrev S1x1x8192x8192 : Shape := ⟨4, ![1, 1, 8192, 8192]⟩
abbrev S1x8x8192 : Shape := ⟨3, ![1, 8, 8192]⟩
abbrev S1x8x8192x1 : Shape := ⟨4, ![1, 8, 8192, 1]⟩
abbrev S1x1x8192x1 : Shape := ⟨4, ![1, 1, 8192, 1]⟩
abbrev S1x8x128x8192 : Shape := ⟨4, ![1, 8, 128, 8192]⟩

abbrev nBuf : Space → Nat
  | .hbm => 94
  | .vmem => 0
  | .smem => 0
  | _ => 0

abbrev bufTy : (tb : Table) → Fin (tcTables nBuf tb) → BufTy
  | .hbm, ⟨0, _⟩ => ⟨S1x8192x1024, .bf16⟩
  | .hbm, ⟨1, _⟩ => ⟨S1024x1024, .bf16⟩
  | .hbm, ⟨2, _⟩ => ⟨S1x8192x8x128, .bf16⟩
  | .hbm, ⟨3, _⟩ => ⟨S1x8192x8x128, .bf16⟩
  | .hbm, ⟨4, _⟩ => ⟨S1024x1024, .bf16⟩
  | .hbm, ⟨5, _⟩ => ⟨S1x8192x1024, .f32⟩
  | .hbm, ⟨6, _⟩ => ⟨S1x8192x1024, .bf16⟩
  | .hbm, ⟨7, _⟩ => ⟨S1x8192x8x128, .bf16⟩
  | .hbm, ⟨8, _⟩ => ⟨S8192, .i32⟩
  | .hbm, ⟨9, _⟩ => ⟨S_, .i32⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S8192, .i32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S8192, .i1⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .i32⟩
  | .hbm, ⟨27, _⟩ => ⟨S8192x1, .i32⟩
  | .hbm, ⟨28, _⟩ => ⟨S8192, .i32⟩
  | .hbm, ⟨29, _⟩ => ⟨S_, .i32⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S_, .i32⟩
  | .hbm, ⟨35, _⟩ => ⟨S8192, .i32⟩
  | .hbm, ⟨36, _⟩ => ⟨S8192, .i1⟩
  | .hbm, ⟨37, _⟩ => ⟨S8192, .i32⟩
  | .hbm, ⟨38, _⟩ => ⟨S8192, .i32⟩
  | .hbm, ⟨39, _⟩ => ⟨S_, .i32⟩
  | .hbm, ⟨40, _⟩ => ⟨S8192, .i32⟩
  | .hbm, ⟨41, _⟩ => ⟨S8192, .i1⟩
  | .hbm, ⟨42, _⟩ => ⟨S8192, .i1⟩
  | .hbm, ⟨43, _⟩ => ⟨S_, .i32⟩
  | .hbm, ⟨44, _⟩ => ⟨S8192, .i32⟩
  | .hbm, ⟨45, _⟩ => ⟨S8192, .i32⟩
  | .hbm, ⟨46, _⟩ => ⟨S8192, .i32⟩
  | .hbm, ⟨47, _⟩ => ⟨S1x8192, .i32⟩
  | .hbm, ⟨48, _⟩ => ⟨S8192x8192, .i32⟩
  | .hbm, ⟨49, _⟩ => ⟨S8192x8192, .i32⟩
  | .hbm, ⟨50, _⟩ => ⟨S8192x8192, .i1⟩
  | .hbm, ⟨51, _⟩ => ⟨S1x8x8192x8192, .f32⟩
  | .hbm, ⟨52, _⟩ => ⟨S1x8x8192x8192, .bf16⟩
  | .hbm, ⟨53, _⟩ => ⟨S1x8x8192x8192, .f32⟩
  | .hbm, ⟨54, _⟩ => ⟨S_, .f32⟩
  | .hbm, ⟨55, _⟩ => ⟨S1x8x8192x8192, .f32⟩
  | .hbm, ⟨56, _⟩ => ⟨S1x8x8192x8192, .f32⟩
  | .hbm, ⟨57, _⟩ => ⟨S1x1x8192x8192, .i1⟩
  | .hbm, ⟨58, _⟩ => ⟨S_, .f32⟩
  | .hbm, ⟨59, _⟩ => ⟨S_, .f32⟩
  | .hbm, ⟨60, _⟩ => ⟨S1x8x8192x8192, .i1⟩
  | .hbm, ⟨61, _⟩ => ⟨S1x8x8192x8192, .f32⟩
  | .hbm, ⟨62, _⟩ => ⟨S1x8x8192x8192, .f32⟩
  | .hbm, ⟨63, _⟩ => ⟨S_, .f32⟩
  | .hbm, ⟨64, _⟩ => ⟨S1x8x8192, .f32⟩
  | .hbm, ⟨65, _⟩ => ⟨S1x8x8192x1, .f32⟩
  | .hbm, ⟨66, _⟩ => ⟨S1x8x8192x8192, .f32⟩
  | .hbm, ⟨67, _⟩ => ⟨S1x8x8192x8192, .f32⟩
  | .hbm, ⟨68, _⟩ => ⟨S1x8x8192x8192, .f32⟩
  | .hbm, ⟨69, _⟩ => ⟨S_, .i1⟩
  | .hbm, ⟨70, _⟩ => ⟨S8192, .i1⟩
  | .hbm, ⟨71, _⟩ => ⟨S1x1x8192x1, .i1⟩
  | .hbm, ⟨72, _⟩ => ⟨S_, .f32⟩
  | .hbm, ⟨73, _⟩ => ⟨S1x8x8192, .f32⟩
  | .hbm, ⟨74, _⟩ => ⟨S1x8x8192x1, .f32⟩
  | .hbm, ⟨75, _⟩ => ⟨S_, .f32⟩
  | .hbm, ⟨76, _⟩ => ⟨S_, .f32⟩
  | .hbm, ⟨77, _⟩ => ⟨S1x8x8192x1, .i1⟩
  | .hbm, ⟨78, _⟩ => ⟨S1x8x8192x1, .f32⟩
  | .hbm, ⟨79, _⟩ => ⟨S1x8x8192x1, .f32⟩
  | .hbm, ⟨80, _⟩ => ⟨S1x8x8192x8192, .f32⟩
  | .hbm, ⟨81, _⟩ => ⟨S1x8x8192x8192, .f32⟩
  | .hbm, ⟨82, _⟩ => ⟨S1x1x8192x1, .i1⟩
  | .hbm, ⟨83, _⟩ => ⟨S_, .f32⟩
  | .hbm, ⟨84, _⟩ => ⟨S_, .f32⟩
  | .hbm, ⟨85, _⟩ => ⟨S1x8x8192x8192, .i1⟩
  | .hbm, ⟨86, _⟩ => ⟨S1x8x8192x8192, .f32⟩
  | .hbm, ⟨87, _⟩ => ⟨S1x8x8192x8192, .f32⟩
  | .hbm, ⟨88, _⟩ => ⟨S1x8192x8x128, .f32⟩
  | .hbm, ⟨89, _⟩ => ⟨S1x8x128x8192, .f32⟩
  | .hbm, ⟨90, _⟩ => ⟨S1x8192x8x128, .f32⟩
  | .hbm, ⟨91, _⟩ => ⟨S1x8192x1024, .f32⟩
  | .hbm, ⟨92, _⟩ => ⟨S1024x1024, .f32⟩
  | .hbm, ⟨93, _⟩ => ⟨S1x8192x1024, .f32⟩
  | _, _ => ⟨S1x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_cst : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_cst_1 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v18 : Ref sig .tc := ⟨.hbm, 62, rfl⟩
abbrev main_cst_2 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_c_3 : Ref sig .tc := ⟨.hbm, 69, rfl⟩
abbrev main_v24 : Ref sig .tc := ⟨.hbm, 70, rfl⟩
abbrev main_v25 : Ref sig .tc := ⟨.hbm, 71, rfl⟩
abbrev main_cst_4 : Ref sig .tc := ⟨.hbm, 72, rfl⟩
abbrev main_v26 : Ref sig .tc := ⟨.hbm, 73, rfl⟩
abbrev main_v27 : Ref sig .tc := ⟨.hbm, 74, rfl⟩
abbrev main_cst_5 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_cst_6 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩

abbrev nD : Nat := 1
abbrev τ : Topo := Topo.v7x

variable {F : FTy → Type} [FloatOps F]

def κ : String → Option EReal := fun
  | "mask" => some ⊥
  | _ => none
-- ==== Proof.Base.lean ====
/-
# Names for the run: the resource algebra, the buffers as memrefs, the argument list of the body's parts

The kernel is one grid point on each of four devices. Its body reads its device id `c` and works on the buffers below;
the memory algebra carries two copies of the rounds ghost state, one for the pipeline that stages the windows and one
for the exchange between the devices (duties named by the paying device).
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.FrameBody
public import Idealize.ShloMosaic.Lib.Tactic

@[expose] public section

set_option maxRecDepth 16384

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The exchange's ghost state: duties are named by the device that pays them. -/
abbrev UB : Type := URounds (GSem nD τ sig) (Fin 4)
abbrev UU : Type := UR sig nD τ × (UB × Counters)

/-! ## The buffers -/

abbrev kvpM : Memref sig .tc .hbm S8x2048x256 .bf16 := Memref.whole main_v6
abbrev xM : Memref sig .tc .vmem S2048x1024 .bf16 := Memref.whole cc0_stg0_0
abbrev wqM : Memref sig .tc .vmem S1024x1024 .bf16 := Memref.whole cc0_stg1_0
abbrev woM : Memref sig .tc .vmem S1024x1024 .bf16 := Memref.whole cc0_stg2_0
abbrev outM : Memref sig .tc .vmem S1x2048x1024 .f32 := Memref.whole cc0_stg3_0
abbrev kvallM : Memref sig .tc .hbm S4x8x2048x256 .bf16 := Memref.whole main_v7_1
abbrev qM : Memref sig .tc .vmem S8x2048x128 .bf16 := Memref.whole cc0_scratch0
abbrev kvM : Memref sig .tc .vmem S8x2048x256 .bf16 := Memref.whole cc0_scratch1
abbrev accM : Memref sig .tc .vmem S64x128x256 .f32 := Memref.whole cc0_scratch2
abbrev mM : Memref sig .tc .vmem S64x1x256 .f32 := Memref.whole cc0_scratch3
abbrev lM : Memref sig .tc .vmem S64x1x256 .f32 := Memref.whole cc0_scratch4
abbrev ctxM : Memref sig .tc .vmem S1024x2048 .bf16 := Memref.whole cc0_scratch5

variable {F : FTy → Type} [FloatOps F] [Named F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC₀ : UEmb Counters (MT nD τ sig Unit (Elt F) ℕ UU ℕ) := countersEmb

abbrev 𝒱₀ : Variants := Variants.none

abbrev QC : Type := BufTy.Contents (Elt F) (cc0_scratch0 : Ref sig .tc).ty
abbrev KVC : Type := BufTy.Contents (Elt F) (cc0_scratch1 : Ref sig .tc).ty
abbrev AccC : Type := BufTy.Contents (Elt F) (cc0_scratch2 : Ref sig .tc).ty
abbrev RowC : Type := BufTy.Contents (Elt F) (cc0_scratch3 : Ref sig .tc).ty
abbrev CtxC : Type := BufTy.Contents (Elt F) (cc0_scratch5 : Ref sig .tc).ty

end Cert.Attn

end
-- ==== Proof.Flash.lean ====
/-
# One tile of the attention, over any float values

A tile is 256 query rows of one head against `K` keys: the new running row maxima, row sums and accumulators, as the
kernel's statements compute them.
-/
module

public import proofs.«01_k».proof.Proof.Base

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Shapes with `K` keys -/

abbrev SKD (K : ℕ) : Shape := ⟨2, ![K, 128]⟩
abbrev S1KD (K : ℕ) : Shape := ⟨3, ![1, K, 128]⟩
abbrev SKQ (K : ℕ) : Shape := ⟨2, ![K, 256]⟩
abbrev SK1 (K : ℕ) : Shape := ⟨2, ![K, 1]⟩

/-- What the operations ask of the shapes. -/
structure Geo (K : ℕ) : Prop where
  cast : (S1KD K).ShapeCasts (SKD K)
  row : S1x256.Broadcasts (SKQ K)
  col : (SK1 K).Broadcasts (SKQ K)
  iota : (SK1 K).Iotas .tc 32 [0]
  red : (SKQ K).Reduces [0] S256
  qk : DotDims.WF (SKD K) S256x128 (SKQ K) [1] [1] [0] [0] [] []
  pv : DotDims.WF (SKD K) (SKQ K) S128x256 [0] [0] [1] [1] [] []

variable {K : ℕ} (g : Geo K)

def dotQK : DotDims (SKD K) S256x128 (SKQ K) where
  lhsContracting := [1]
  rhsContracting := [1]
  lhsNonContracting := [0]
  rhsNonContracting := [0]
  lhsBatch := []
  rhsBatch := []
  wf := g.qk
def dotPV : DotDims (SKD K) (SKQ K) S128x256 where
  lhsContracting := [0]
  rhsContracting := [0]
  lhsNonContracting := [1]
  rhsNonContracting := [1]
  lhsBatch := []
  rhsBatch := []
  wf := g.pv

/-! ## Scores -/

/-- Keys against queries. -/
def scores (kt : Vec F (S1KD K) .bf16) (qt : Vec F S1x256x128 .bf16) : FVec F (SKQ K) .f32 :=
  matmul (dotQK g) none (shapeCast (SKD K) kt g.cast) (shapeCast S256x128 qt shapeCasts_S1x256x128_S256x128) (constant (SKQ K) .f32 0x00000000#32)

/-- `⌊n / 64⌋`, as the integer statements spell it: the truncated quotient, less one where the signs differ and the
division leaves a rest. -/
def floorDiv64 {s : Shape} (n : IVec s 32) : IVec s 32 :=
  select
    (andi
      (cmpi .ne (subi (extui 32 (cmpi .sgt n (broadcast s 0#32)) natLt_1_32) (extui 32 (cmpi .slt n (broadcast s 0#32)) natLt_1_32))
        (broadcast s (Scalar.subi (Scalar.extui (Scalar.cmpi .sgt 64#32 0#32)) (Scalar.extui (Scalar.cmpi .slt 64#32 0#32)))))
      (cmpi .ne (remsi n (broadcast s 64#32)) (broadcast s 0#32)))
    (subi (divsi n (broadcast s 64#32)) (broadcast s 1#32))
    (divsi n (broadcast s 64#32))

/-- A key block not after the query's block. -/
def mask (qb : BitVec 32) : IVec (SKQ K) 1 :=
  cmpi .sle (broadcastTo (SKQ K) (floorDiv64 (iota .tc (SK1 K) 32 [0] g.iota)) g.col)
    (broadcastTo (SKQ K) (floorDiv64 (addi (broadcast S1x256 qb) (iota .tc S1x256 32 [1] iota_S1x256_d1_w32))) g.row)

/-- The scores of the device's own keys, those after the query's block masked. -/
def ownSc (qb : BitVec 32) (kt : Vec F (S1KD K) .bf16) (qt : Vec F S1x256x128 .bf16) : FVec F (SKQ K) .f32 :=
  select (mask g qb) (scores g kt qt) (broadcast (SKQ K) (Named.named κ "mask" 0xCE6E6B28#32 : F .f32))

/-- The scores of an earlier device's keys: none masked, kept in the short format for a while. -/
def fullSc (kt : Vec F (S1KD K) .bf16) (qt : Vec F S1x256x128 .bf16) : FVec F (SKQ K) .f32 :=
  extf .f32 (truncf .bf16 (scores g kt qt) bitsLt_bf16_f32) bitsLt_bf16_f32

/-! ## The update -/

variable (s : FVec F (SKQ K) .f32) (m l : Vec F S1x1x256 .f32)

def rowMax : FVec F S1x256 .f32 :=
  maximumf (shapeCast S1x256 m shapeCasts_S1x1x256_S1x256)
    (shapeCast S1x256 (multiReduction .maximumf [0] S256 s 0xFF800000#32 g.red (.inl rfl) rfl) shapeCasts_S256_S1x256)
def rescale : FVec F S1x256 .f32 := exp (subf (shapeCast S1x256 m shapeCasts_S1x1x256_S1x256) (rowMax g s m))
def probs : FVec F (SKQ K) .f32 := exp (subf s (broadcastTo (SKQ K) (rowMax g s m) g.row))
def newM : Vec F S1x1x256 .f32 := shapeCast S1x1x256 (rowMax g s m) shapeCasts_S1x256_S1x1x256
def newL : Vec F S1x1x256 .f32 :=
  shapeCast S1x1x256
    (addf (mulf (shapeCast S1x256 l shapeCasts_S1x1x256_S1x256) (rescale g s m))
      (shapeCast S1x256 (multiReduction .add [0] S256 (probs g s m) 0x00000000#32 g.red (.inl rfl) rfl) shapeCasts_S256_S1x256))
    shapeCasts_S1x256_S1x1x256
def newA (vt : Vec F (S1KD K) .bf16) (a : Vec F S1x128x256 .f32) : Vec F S1x128x256 .f32 :=
  shapeCast S1x128x256
    (addf (mulf (shapeCast S128x256 a shapeCasts_S1x128x256_S128x256) (broadcastTo S128x256 (rescale g s m) broadcasts_S1x256_S128x256))
      (matmul (dotPV g) none (shapeCast (SKD K) vt g.cast) (truncf .bf16 (probs g s m) bitsLt_bf16_f32) (constant S128x256 .f32 0x00000000#32)))
    shapeCasts_S128x256_S1x128x256

/-! ## The sizes in use -/

theorem geo256 : Geo 256 :=
  ⟨shapeCasts_S1x256x128_S256x128, broadcasts_S1x256_S256x256, broadcasts_S256x1_S256x256, iota_S256x1_d0_w32, reduces_S256x256_S256,
    dot_S256x128_S256x128_S256x256_1_1_0_0_n_n_wf, dot_S256x128_S256x256_S128x256_0_0_1_1_n_n_wf⟩
theorem geo512 : Geo 512 :=
  ⟨shapeCasts_S1x512x128_S512x128, broadcasts_S1x256_S512x256, broadcasts_S512x1_S512x256, iota_S512x1_d0_w32, reduces_S512x256_S256,
    dot_S512x128_S256x128_S512x256_1_1_0_0_n_n_wf, dot_S512x128_S512x256_S128x256_0_0_1_1_n_n_wf⟩
theorem geo768 : Geo 768 :=
  ⟨shapeCasts_S1x768x128_S768x128, broadcasts_S1x256_S768x256, broadcasts_S768x1_S768x256, iota_S768x1_d0_w32, reduces_S768x256_S256,
    dot_S768x128_S256x128_S768x256_1_1_0_0_n_n_wf, dot_S768x128_S768x256_S128x256_0_0_1_1_n_n_wf⟩
theorem geo1024 : Geo 1024 :=
  ⟨shapeCasts_S1x1024x128_S1024x128, broadcasts_S1x256_S1024x256, broadcasts_S1024x1_S1024x256, iota_S1024x1_d0_w32, reduces_S1024x256_S256,
    dot_S1024x128_S256x128_S1024x256_1_1_0_0_n_n_wf, dot_S1024x128_S1024x256_S128x256_0_0_1_1_n_n_wf⟩
theorem geo1280 : Geo 1280 :=
  ⟨shapeCasts_S1x1280x128_S1280x128, broadcasts_S1x256_S1280x256, broadcasts_S1280x1_S1280x256, iota_S1280x1_d0_w32, reduces_S1280x256_S256,
    dot_S1280x128_S256x128_S1280x256_1_1_0_0_n_n_wf, dot_S1280x128_S1280x256_S128x256_0_0_1_1_n_n_wf⟩
theorem geo1536 : Geo 1536 :=
  ⟨shapeCasts_S1x1536x128_S1536x128, broadcasts_S1x256_S1536x256, broadcasts_S1536x1_S1536x256, iota_S1536x1_d0_w32, reduces_S1536x256_S256,
    dot_S1536x128_S256x128_S1536x256_1_1_0_0_n_n_wf, dot_S1536x128_S1536x256_S128x256_0_0_1_1_n_n_wf⟩
theorem geo1792 : Geo 1792 :=
  ⟨shapeCasts_S1x1792x128_S1792x128, broadcasts_S1x256_S1792x256, broadcasts_S1792x1_S1792x256, iota_S1792x1_d0_w32, reduces_S1792x256_S256,
    dot_S1792x128_S256x128_S1792x256_1_1_0_0_n_n_wf, dot_S1792x128_S1792x256_S128x256_0_0_1_1_n_n_wf⟩
theorem geo2048 : Geo 2048 :=
  ⟨shapeCasts_S1x2048x128_S2048x128, broadcasts_S1x256_S2048x256, broadcasts_S2048x1_S2048x256, iota_S2048x1_d0_w32, reduces_S2048x256_S256,
    dot_S2048x128_S256x128_S2048x256_1_1_0_0_n_n_wf, dot_S2048x128_S2048x256_S128x256_0_0_1_1_n_n_wf⟩

end Cert.Attn

end
-- ==== Proof.Tile.lean ====
/-
# The loops over the tiles: what one trip does

A tile is named by the places it reads and writes; a trip runs two of them, which touch different places.
-/
module

public import proofs.«01_k».proof.Proof.Flash

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- Where a tile's operands lie: queries, keys, values, accumulator, running maxima and sums. -/
structure Tile (K : ℕ) where
  qo : Fin 3 → ℕ
  ko : Fin 3 → ℕ
  vo : Fin 3 → ℕ
  ao : Fin 3 → ℕ
  mo : Fin 3 → ℕ
  hq : ∀ a, qo a + S1x256x128.size a ≤ S8x2048x128.size a
  hk : ∀ a, ko a + (S1KD K).size a ≤ S8x2048x256.size a
  hv : ∀ a, vo a + (S1KD K).size a ≤ S8x2048x256.size a
  ha : ∀ a, ao a + S1x128x256.size a ≤ S64x128x256.size a
  hm : ∀ a, mo a + S1x1x256.size a ≤ S64x1x256.size a

abbrev Sc (K : ℕ) : Type := Vec F (S1KD K) .bf16 → Vec F S1x256x128 .bf16 → FVec F (SKQ K) .f32

namespace Tile

variable {K : ℕ} (T : Tile K) (g : Geo K) (sc : Sc (F := F) K) (X6 : QC (F := F)) (X7 : KVC (F := F)) (a : AccC (F := F)) (m l : RowC (F := F))

abbrev rdQ : Vec F S1x256x128 .bf16 := View.readAt (Elt F) qM.view (Rect.unit (s := S8x2048x128) T.qo S1x256x128.size T.hq).toLoadRect X6
abbrev rdK : Vec F (S1KD K) .bf16 := View.readAt (Elt F) kvM.view (Rect.unit (s := S8x2048x256) T.ko (S1KD K).size T.hk).toLoadRect X7
abbrev rdV : Vec F (S1KD K) .bf16 := View.readAt (Elt F) kvM.view (Rect.unit (s := S8x2048x256) T.vo (S1KD K).size T.hv).toLoadRect X7
abbrev rdA : Vec F S1x128x256 .f32 := View.readAt (Elt F) accM.view (Rect.unit (s := S64x128x256) T.ao S1x128x256.size T.ha).toLoadRect a
abbrev rdM : Vec F S1x1x256 .f32 := View.readAt (Elt F) mM.view (Rect.unit (s := S64x1x256) T.mo S1x1x256.size T.hm).toLoadRect m
abbrev rdL : Vec F S1x1x256 .f32 := View.readAt (Elt F) lM.view (Rect.unit (s := S64x1x256) T.mo S1x1x256.size T.hm).toLoadRect l
/-- The tile's scores. -/
def s : FVec F (SKQ K) .f32 := sc (T.rdK X7) (T.rdQ X6)
def pieceA : View.Piece (Elt F) S64x128x256 .f32 :=
  ⟨Rect.unit T.ao S1x128x256.size T.ha, newA g (T.s sc X6 X7) (T.rdM m) (T.rdV X7) (T.rdA a)⟩
def pieceM : View.Piece (Elt F) S64x1x256 .f32 := ⟨Rect.unit T.mo S1x1x256.size T.hm, newM g (T.s sc X6 X7) (T.rdM m)⟩
def pieceL : View.Piece (Elt F) S64x1x256 .f32 := ⟨Rect.unit T.mo S1x1x256.size T.hm, newL g (T.s sc X6 X7) (T.rdM m) (T.rdL l)⟩

end Tile

/-- The running accumulators, maxima and sums. -/
abbrev St : Type := AccC (F := F) × RowC (F := F) × RowC (F := F)

/-- What the loops own: the staged queries, keys and values, and the running state. -/
def flashPts (c : Dev nD) (X6 : QC (F := F)) (X7 : KVC (F := F)) (S : St (F := F)) : sProp 𝕄 :=
  iprop((qM.view.loc (c : Thread nD τ) ↦[qM.view.set]{fullShare} X6) ∗ (kvM.view.loc (c : Thread nD τ) ↦[kvM.view.set]{fullShare} X7)
    ∗ (accM.view.loc (c : Thread nD τ) ↦[accM.view.set]{fullShare} S.1) ∗ (mM.view.loc (c : Thread nD τ) ↦[mM.view.set]{fullShare} S.2.1)
    ∗ (lM.view.loc (c : Thread nD τ) ↦[lM.view.set]{fullShare} S.2.2))

theorem flashPts_mk (c : Dev nD) (X6 : QC (F := F)) (X7 : KVC (F := F)) (f8 : AccC (F := F)) (f9 f10 : RowC (F := F)) :
    flashPts c X6 X7 (f8, f9, f10) =
      iprop((qM.view.loc (c : Thread nD τ) ↦[qM.view.set]{fullShare} X6) ∗ (kvM.view.loc (c : Thread nD τ) ↦[kvM.view.set]{fullShare} X7)
        ∗ (accM.view.loc (c : Thread nD τ) ↦[accM.view.set]{fullShare} f8) ∗ (mM.view.loc (c : Thread nD τ) ↦[mM.view.set]{fullShare} f9)
        ∗ (lM.view.loc (c : Thread nD τ) ↦[lM.view.set]{fullShare} f10)) := rfl

/-- One trip: two tiles, the second written last, both from the state the trip finds. -/
def trip {K : ℕ} (g : Geo K) (sc : Sc (F := F) K) (T₁ T₂ : Tile K) (X6 : QC (F := F)) (X7 : KVC (F := F)) (S : St (F := F)) : St (F := F) :=
  (accM.view.writes (Elt F) S.1 [T₂.pieceA g sc X6 X7 S.1 S.2.1, T₁.pieceA g sc X6 X7 S.1 S.2.1],
   mM.view.writes (Elt F) S.2.1 [T₂.pieceM g sc X6 X7 S.2.1, T₁.pieceM g sc X6 X7 S.2.1],
   lM.view.writes (Elt F) S.2.2 [T₂.pieceL g sc X6 X7 S.2.1 S.2.2, T₁.pieceL g sc X6 X7 S.2.1 S.2.2])

theorem writes_two {sp : Space} {s : Shape} {e : EltTy} (v : View sig .tc sp s e) {r₁ r₂ : Rect s} (f : v.ty.Contents (Elt F))
    {p₁ q₁ : r₁.shape.Idx → Elt F e} {p₂ q₂ : r₂.shape.Idx → Elt F e} (h₂ : p₂ = q₂) (h₁ : p₁ = q₁) :
    v.writes (Elt F) f [⟨r₂, p₂⟩, ⟨r₁, p₁⟩] = v.writes (Elt F) f [⟨r₂, q₂⟩, ⟨r₁, q₁⟩] := by
  rw [h₁, h₂]

/-- A trip's end: the two pieces written into each buffer are the tiles' results. -/
theorem flashPts_trip {K : ℕ} (g : Geo K) (sc : Sc (F := F) K) (T₁ T₂ : Tile K) (c : Dev nD) (X6 : QC (F := F)) (X7 : KVC (F := F))
    (f8 : AccC (F := F)) (f9 f10 : RowC (F := F)) {a₁ a₂ : Vec F S1x128x256 .f32} {m₁ m₂ l₁ l₂ : Vec F S1x1x256 .f32}
    (ha₂ : a₂ = newA g (T₂.s sc X6 X7) (T₂.rdM f9) (T₂.rdV X7) (T₂.rdA f8)) (ha₁ : a₁ = newA g (T₁.s sc X6 X7) (T₁.rdM f9) (T₁.rdV X7) (T₁.rdA f8))
    (hm₂ : m₂ = newM g (T₂.s sc X6 X7) (T₂.rdM f9)) (hm₁ : m₁ = newM g (T₁.s sc X6 X7) (T₁.rdM f9))
    (hl₂ : l₂ = newL g (T₂.s sc X6 X7) (T₂.rdM f9) (T₂.rdL f10)) (hl₁ : l₁ = newL g (T₁.s sc X6 X7) (T₁.rdM f9) (T₁.rdL f10)) :
    iprop((qM.view.loc (c : Thread nD τ) ↦[qM.view.set]{fullShare} X6) ∗ (kvM.view.loc (c : Thread nD τ) ↦[kvM.view.set]{fullShare} X7)
      ∗ (accM.view.loc (c : Thread nD τ) ↦[accM.view.set]{fullShare} accM.view.writes (Elt F) f8
          [⟨Rect.unit (s := S64x128x256) T₂.ao S1x128x256.size T₂.ha, a₂⟩, ⟨Rect.unit (s := S64x128x256) T₁.ao S1x128x256.size T₁.ha, a₁⟩])
      ∗ (mM.view.loc (c : Thread nD τ) ↦[mM.view.set]{fullShare} mM.view.writes (Elt F) f9
          [⟨Rect.unit (s := S64x1x256) T₂.mo S1x1x256.size T₂.hm, m₂⟩, ⟨Rect.unit (s := S64x1x256) T₁.mo S1x1x256.size T₁.hm, m₁⟩])
      ∗ (lM.view.loc (c : Thread nD τ) ↦[lM.view.set]{fullShare} lM.view.writes (Elt F) f10
          [⟨Rect.unit (s := S64x1x256) T₂.mo S1x1x256.size T₂.hm, l₂⟩, ⟨Rect.unit (s := S64x1x256) T₁.mo S1x1x256.size T₁.hm, l₁⟩]))
      ⊢ flashPts c X6 X7 (trip g sc T₁ T₂ X6 X7 (f8, f9, f10)) := by
  unfold flashPts
  dsimp only [trip, Tile.pieceA, Tile.pieceM, Tile.pieceL]
  rw [← ha₂, ← ha₁, ← hm₂, ← hm₁, ← hl₂, ← hl₁]

end Cert.Attn

end
-- ==== Proof.Trips.lean ====
/-
# The loops over the tiles: what one trip does

A tile is named by the places it reads and writes; a trip runs two of them, which touch different places.
-/
module

public import proofs.«01_k».proof.Proof.Tile

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (c d0 : Dev nD) (X6 : QC (F := F)) (X7 : KVC (F := F)) (S : St (F := F))

def tiles1 (h : k0_cond4 d0 = 1#1) (k : Fin k0_t1_loop.trips) : Tile 256 × Tile 256 :=
  (⟨k0_off7 k, k0_off8 k, k0_off11 k, k0_off13 k, k0_off12 k,
      k0_off7_inb d0 k h, k0_off8_inb d0 k h, k0_off11_inb d0 k h, k0_off13_inb d0 k h, k0_off12_inb d0 k h⟩,
   ⟨k0_off9 k, k0_off10 k, k0_off14 k, k0_off16 k, k0_off15 k,
      k0_off9_inb d0 k h, k0_off10_inb d0 k h, k0_off14_inb d0 k h, k0_off16_inb d0 k h, k0_off15_inb d0 k h⟩)

theorem trip1 (v2 : BitVec 32) (v91 : FVec F S2048x128 .f32) (h : k0_cond4 d0 = 1#1) (k : Fin k0_t1_loop.trips) :
    flashPts c X6 X7 S
      ⊢ wp frame (wpE (defs₀ (F := F)) 𝒱₀ (c : Thread nD τ) none) Set.univ
          (k0_t1_body (F := F) kvpM (Memref.isWhole_whole _) xM (Memref.isWhole_whole _) wqM (Memref.isWhole_whole _) woM (Memref.isWhole_whole _) outM (Memref.isWhole_whole _) kvallM (Memref.isWhole_whole _) qM (Memref.isWhole_whole _) kvM (Memref.isWhole_whole _) accM (Memref.isWhole_whole _) mM (Memref.isWhole_whole _) lM (Memref.isWhole_whole _) ctxM (Memref.isWhole_whole _) cc0_scratch6 cc0_scratch7 cc0_scratch8 d0 v2 v91 h k ⟨⟩)
          (fun _ => flashPts c X6 X7 (trip geo256 (ownSc geo256 0#32) (tiles1 d0 h k).1 (tiles1 d0 h k).2 X6 X7 S)) := by
  have hk : k.val < 4 := Nat.lt_of_lt_of_le k.isLt k0_t1_abs.2.1
  obtain ⟨f8, f9, f10⟩ := S
  refine (Entails.of_eq (flashPts_mk c X6 X7 f8 f9 f10)).trans ?_
  unfold k0_t1_body
  iintro ⟨HR_arg6, HR_arg7, HW_arg8, HW_arg9, HW_arg10⟩
  sl_exec
  sl_step
  iapply (flashPts_trip geo256 (ownSc geo256 0#32) (tiles1 d0 h k).1 (tiles1 d0 h k).2 c X6 X7 f8 f9 f10 ?_ ?_ ?_ ?_ ?_ ?_) $$ [HR_arg6 HR_arg7 HW_arg8 HW_arg9 HW_arg10]
  rotate_left 6
  · isplitl [HR_arg6]; · iexact HR_arg6
    isplitl [HR_arg7]; · iexact HR_arg7
    isplitl [HW_arg8]; · iexact HW_arg8
    isplitl [HW_arg9]; · iexact HW_arg9
    iexact HW_arg10
  all_goals rfl

def tiles2 (h : k0_cond4 d0 = 1#1) (k : Fin k0_t2_loop.trips) : Tile 512 × Tile 512 :=
  (⟨k0_off17 k, k0_off18 k, k0_off21 k, k0_off23 k, k0_off22 k,
      k0_off17_inb d0 k h, k0_off18_inb d0 k h, k0_off21_inb d0 k h, k0_off23_inb d0 k h, k0_off22_inb d0 k h⟩,
   ⟨k0_off19 k, k0_off20 k, k0_off24 k, k0_off26 k, k0_off25 k,
      k0_off19_inb d0 k h, k0_off20_inb d0 k h, k0_off24_inb d0 k h, k0_off26_inb d0 k h, k0_off25_inb d0 k h⟩)

theorem trip2 (v2 : BitVec 32) (v91 : FVec F S2048x128 .f32) (h : k0_cond4 d0 = 1#1) (k : Fin k0_t2_loop.trips) :
    flashPts c X6 X7 S
      ⊢ wp frame (wpE (defs₀ (F := F)) 𝒱₀ (c : Thread nD τ) none) Set.univ
          (k0_t2_body (F := F) kvpM (Memref.isWhole_whole _) xM (Memref.isWhole_whole _) wqM (Memref.isWhole_whole _) woM (Memref.isWhole_whole _) outM (Memref.isWhole_whole _) kvallM (Memref.isWhole_whole _) qM (Memref.isWhole_whole _) kvM (Memref.isWhole_whole _) accM (Memref.isWhole_whole _) mM (Memref.isWhole_whole _) lM (Memref.isWhole_whole _) ctxM (Memref.isWhole_whole _) cc0_scratch6 cc0_scratch7 cc0_scratch8 d0 v2 v91 h k ⟨⟩)
          (fun _ => flashPts c X6 X7 (trip geo512 (ownSc geo512 256#32) (tiles2 d0 h k).1 (tiles2 d0 h k).2 X6 X7 S)) := by
  have hk : k.val < 4 := Nat.lt_of_lt_of_le k.isLt k0_t2_abs.2.1
  obtain ⟨f8, f9, f10⟩ := S
  refine (Entails.of_eq (flashPts_mk c X6 X7 f8 f9 f10)).trans ?_
  unfold k0_t2_body
  iintro ⟨HR_arg6, HR_arg7, HW_arg8, HW_arg9, HW_arg10⟩
  sl_exec
  sl_step
  iapply (flashPts_trip geo512 (ownSc geo512 256#32) (tiles2 d0 h k).1 (tiles2 d0 h k).2 c X6 X7 f8 f9 f10 ?_ ?_ ?_ ?_ ?_ ?_) $$ [HR_arg6 HR_arg7 HW_arg8 HW_arg9 HW_arg10]
  rotate_left 6
  · isplitl [HR_arg6]; · iexact HR_arg6
    isplitl [HR_arg7]; · iexact HR_arg7
    isplitl [HW_arg8]; · iexact HW_arg8
    isplitl [HW_arg9]; · iexact HW_arg9
    iexact HW_arg10
  all_goals rfl

def tiles3 (h : k0_cond4 d0 = 1#1) (k : Fin k0_t3_loop.trips) : Tile 768 × Tile 768 :=
  (⟨k0_off27 k, k0_off28 k, k0_off31 k, k0_off33 k, k0_off32 k,
      k0_off27_inb d0 k h, k0_off28_inb d0 k h, k0_off31_inb d0 k h, k0_off33_inb d0 k h, k0_off32_inb d0 k h⟩,
   ⟨k0_off29 k, k0_off30 k, k0_off34 k, k0_off36 k, k0_off35 k,
      k0_off29_inb d0 k h, k0_off30_inb d0 k h, k0_off34_inb d0 k h, k0_off36_inb d0 k h, k0_off35_inb d0 k h⟩)

theorem trip3 (v2 : BitVec 32) (v91 : FVec F S2048x128 .f32) (h : k0_cond4 d0 = 1#1) (k : Fin k0_t3_loop.trips) :
    flashPts c X6 X7 S
      ⊢ wp frame (wpE (defs₀ (F := F)) 𝒱₀ (c : Thread nD τ) none) Set.univ
          (k0_t3_body (F := F) kvpM (Memref.isWhole_whole _) xM (Memref.isWhole_whole _) wqM (Memref.isWhole_whole _) woM (Memref.isWhole_whole _) outM (Memref.isWhole_whole _) kvallM (Memref.isWhole_whole _) qM (Memref.isWhole_whole _) kvM (Memref.isWhole_whole _) accM (Memref.isWhole_whole _) mM (Memref.isWhole_whole _) lM (Memref.isWhole_whole _) ctxM (Memref.isWhole_whole _) cc0_scratch6 cc0_scratch7 cc0_scratch8 d0 v2 v91 h k ⟨⟩)
          (fun _ => flashPts c X6 X7 (trip geo768 (ownSc geo768 512#32) (tiles3 d0 h k).1 (tiles3 d0 h k).2 X6 X7 S)) := by
  have hk : k.val < 4 := Nat.lt_of_lt_of_le k.isLt k0_t3_abs.2.1
  obtain ⟨f8, f9, f10⟩ := S
  refine (Entails.of_eq (flashPts_mk c X6 X7 f8 f9 f10)).trans ?_
  unfold k0_t3_body
  iintro ⟨HR_arg6, HR_arg7, HW_arg8, HW_arg9, HW_arg10⟩
  sl_exec
  sl_step
  iapply (flashPts_trip geo768 (ownSc geo768 512#32) (tiles3 d0 h k).1 (tiles3 d0 h k).2 c X6 X7 f8 f9 f10 ?_ ?_ ?_ ?_ ?_ ?_) $$ [HR_arg6 HR_arg7 HW_arg8 HW_arg9 HW_arg10]
  rotate_left 6
  · isplitl [HR_arg6]; · iexact HR_arg6
    isplitl [HR_arg7]; · iexact HR_arg7
    isplitl [HW_arg8]; · iexact HW_arg8
    isplitl [HW_arg9]; · iexact HW_arg9
    iexact HW_arg10
  all_goals rfl

def tiles4 (h : k0_cond4 d0 = 1#1) (k : Fin k0_t4_loop.trips) : Tile 1024 × Tile 1024 :=
  (⟨k0_off37 k, k0_off38 k, k0_off41 k, k0_off43 k, k0_off42 k,
      k0_off37_inb d0 k h, k0_off38_inb d0 k h, k0_off41_inb d0 k h, k0_off43_inb d0 k h, k0_off42_inb d0 k h⟩,
   ⟨k0_off39 k, k0_off40 k, k0_off44 k, k0_off46 k, k0_off45 k,
      k0_off39_inb d0 k h, k0_off40_inb d0 k h, k0_off44_inb d0 k h, k0_off46_inb d0 k h, k0_off45_inb d0 k h⟩)

theorem trip4 (v2 : BitVec 32) (v91 : FVec F S2048x128 .f32) (h : k0_cond4 d0 = 1#1) (k : Fin k0_t4_loop.trips) :
    flashPts c X6 X7 S
      ⊢ wp frame (wpE (defs₀ (F := F)) 𝒱₀ (c : Thread nD τ) none) Set.univ
          (k0_t4_body (F := F) kvpM (Memref.isWhole_whole _) xM (Memref.isWhole_whole _) wqM (Memref.isWhole_whole _) woM (Memref.isWhole_whole _) outM (Memref.isWhole_whole _) kvallM (Memref.isWhole_whole _) qM (Memref.isWhole_whole _) kvM (Memref.isWhole_whole _) accM (Memref.isWhole_whole _) mM (Memref.isWhole_whole _) lM (Memref.isWhole_whole _) ctxM (Memref.isWhole_whole _) cc0_scratch6 cc0_scratch7 cc0_scratch8 d0 v2 v91 h k ⟨⟩)
          (fun _ => flashPts c X6 X7 (trip geo1024 (ownSc geo1024 768#32) (tiles4 d0 h k).1 (tiles4 d0 h k).2 X6 X7 S)) := by
  have hk : k.val < 4 := Nat.lt_of_lt_of_le k.isLt k0_t4_abs.2.1
  obtain ⟨f8, f9, f10⟩ := S
  refine (Entails.of_eq (flashPts_mk c X6 X7 f8 f9 f10)).trans ?_
  unfold k0_t4_body
  iintro ⟨HR_arg6, HR_arg7, HW_arg8, HW_arg9, HW_arg10⟩
  sl_exec
  sl_step
  iapply (flashPts_trip geo1024 (ownSc geo1024 768#32) (tiles4 d0 h k).1 (tiles4 d0 h k).2 c X6 X7 f8 f9 f10 ?_ ?_ ?_ ?_ ?_ ?_) $$ [HR_arg6 HR_arg7 HW_arg8 HW_arg9 HW_arg10]
  rotate_left 6
  · isplitl [HR_arg6]; · iexact HR_arg6
    isplitl [HR_arg7]; · iexact HR_arg7
    isplitl [HW_arg8]; · iexact HW_arg8
    isplitl [HW_arg9]; · iexact HW_arg9
    iexact HW_arg10
  all_goals rfl

def tiles5 (h : k0_cond4 d0 = 1#1) (k : Fin k0_t5_loop.trips) : Tile 1280 × Tile 1280 :=
  (⟨k0_off47 k, k0_off48 k, k0_off51 k, k0_off53 k, k0_off52 k,
      k0_off47_inb d0 k h, k0_off48_inb d0 k h, k0_off51_inb d0 k h, k0_off53_inb d0 k h, k0_off52_inb d0 k h⟩,
   ⟨k0_off49 k, k0_off50 k, k0_off54 k, k0_off56 k, k0_off55 k,
      k0_off49_inb d0 k h, k0_off50_inb d0 k h, k0_off54_inb d0 k h, k0_off56_inb d0 k h, k0_off55_inb d0 k h⟩)

theorem trip5 (v2 : BitVec 32) (v91 : FVec F S2048x128 .f32) (h : k0_cond4 d0 = 1#1) (k : Fin k0_t5_loop.trips) :
    flashPts c X6 X7 S
      ⊢ wp frame (wpE (defs₀ (F := F)) 𝒱₀ (c : Thread nD τ) none) Set.univ
          (k0_t5_body (F := F) kvpM (Memref.isWhole_whole _) xM (Memref.isWhole_whole _) wqM (Memref.isWhole_whole _) woM (Memref.isWhole_whole _) outM (Memref.isWhole_whole _) kvallM (Memref.isWhole_whole _) qM (Memref.isWhole_whole _) kvM (Memref.isWhole_whole _) accM (Memref.isWhole_whole _) mM (Memref.isWhole_whole _) lM (Memref.isWhole_whole _) ctxM (Memref.isWhole_whole _) cc0_scratch6 cc0_scratch7 cc0_scratch8 d0 v2 v91 h k ⟨⟩)
          (fun _ => flashPts c X6 X7 (trip geo1280 (ownSc geo1280 1024#32) (tiles5 d0 h k).1 (tiles5 d0 h k).2 X6 X7 S)) := by
  have hk : k.val < 4 := Nat.lt_of_lt_of_le k.isLt k0_t5_abs.2.1
  obtain ⟨f8, f9, f10⟩ := S
  refine (Entails.of_eq (flashPts_mk c X6 X7 f8 f9 f10)).trans ?_
  unfold k0_t5_body
  iintro ⟨HR_arg6, HR_arg7, HW_arg8, HW_arg9, HW_arg10⟩
  sl_exec
  sl_step
  iapply (flashPts_trip geo1280 (ownSc geo1280 1024#32) (tiles5 d0 h k).1 (tiles5 d0 h k).2 c X6 X7 f8 f9 f10 ?_ ?_ ?_ ?_ ?_ ?_) $$ [HR_arg6 HR_arg7 HW_arg8 HW_arg9 HW_arg10]
  rotate_left 6
  · isplitl [HR_arg6]; · iexact HR_arg6
    isplitl [HR_arg7]; · iexact HR_arg7
    isplitl [HW_arg8]; · iexact HW_arg8
    isplitl [HW_arg9]; · iexact HW_arg9
    iexact HW_arg10
  all_goals rfl

def tiles6 (h : k0_cond4 d0 = 1#1) (k : Fin k0_t6_loop.trips) : Tile 1536 × Tile 1536 :=
  (⟨k0_off57 k, k0_off58 k, k0_off61 k, k0_off63 k, k0_off62 k,
      k0_off57_inb d0 k h, k0_off58_inb d0 k h, k0_off61_inb d0 k h, k0_off63_inb d0 k h, k0_off62_inb d0 k h⟩,
   ⟨k0_off59 k, k0_off60 k, k0_off64 k, k0_off66 k, k0_off65 k,
      k0_off59_inb d0 k h, k0_off60_inb d0 k h, k0_off64_inb d0 k h, k0_off66_inb d0 k h, k0_off65_inb d0 k h⟩)

theorem trip6 (v2 : BitVec 32) (v91 : FVec F S2048x128 .f32) (h : k0_cond4 d0 = 1#1) (k : Fin k0_t6_loop.trips) :
    flashPts c X6 X7 S
      ⊢ wp frame (wpE (defs₀ (F := F)) 𝒱₀ (c : Thread nD τ) none) Set.univ
          (k0_t6_body (F := F) kvpM (Memref.isWhole_whole _) xM (Memref.isWhole_whole _) wqM (Memref.isWhole_whole _) woM (Memref.isWhole_whole _) outM (Memref.isWhole_whole _) kvallM (Memref.isWhole_whole _) qM (Memref.isWhole_whole _) kvM (Memref.isWhole_whole _) accM (Memref.isWhole_whole _) mM (Memref.isWhole_whole _) lM (Memref.isWhole_whole _) ctxM (Memref.isWhole_whole _) cc0_scratch6 cc0_scratch7 cc0_scratch8 d0 v2 v91 h k ⟨⟩)
          (fun _ => flashPts c X6 X7 (trip geo1536 (ownSc geo1536 1280#32) (tiles6 d0 h k).1 (tiles6 d0 h k).2 X6 X7 S)) := by
  have hk : k.val < 4 := Nat.lt_of_lt_of_le k.isLt k0_t6_abs.2.1
  obtain ⟨f8, f9, f10⟩ := S
  refine (Entails.of_eq (flashPts_mk c X6 X7 f8 f9 f10)).trans ?_
  unfold k0_t6_body
  iintro ⟨HR_arg6, HR_arg7, HW_arg8, HW_arg9, HW_arg10⟩
  sl_exec
  sl_step
  iapply (flashPts_trip geo1536 (ownSc geo1536 1280#32) (tiles6 d0 h k).1 (tiles6 d0 h k).2 c X6 X7 f8 f9 f10 ?_ ?_ ?_ ?_ ?_ ?_) $$ [HR_arg6 HR_arg7 HW_arg8 HW_arg9 HW_arg10]
  rotate_left 6
  · isplitl [HR_arg6]; · iexact HR_arg6
    isplitl [HR_arg7]; · iexact HR_arg7
    isplitl [HW_arg8]; · iexact HW_arg8
    isplitl [HW_arg9]; · iexact HW_arg9
    iexact HW_arg10
  all_goals rfl

def tiles7 (h : k0_cond4 d0 = 1#1) (k : Fin k0_t7_loop.trips) : Tile 1792 × Tile 1792 :=
  (⟨k0_off67 k, k0_off68 k, k0_off71 k, k0_off73 k, k0_off72 k,
      k0_off67_inb d0 k h, k0_off68_inb d0 k h, k0_off71_inb d0 k h, k0_off73_inb d0 k h, k0_off72_inb d0 k h⟩,
   ⟨k0_off69 k, k0_off70 k, k0_off74 k, k0_off76 k, k0_off75 k,
      k0_off69_inb d0 k h, k0_off70_inb d0 k h, k0_off74_inb d0 k h, k0_off76_inb d0 k h, k0_off75_inb d0 k h⟩)

theorem trip7 (v2 : BitVec 32) (v91 : FVec F S2048x128 .f32) (h : k0_cond4 d0 = 1#1) (k : Fin k0_t7_loop.trips) :
    flashPts c X6 X7 S
      ⊢ wp frame (wpE (defs₀ (F := F)) 𝒱₀ (c : Thread nD τ) none) Set.univ
          (k0_t7_body (F := F) kvpM (Memref.isWhole_whole _) xM (Memref.isWhole_whole _) wqM (Memref.isWhole_whole _) woM (Memref.isWhole_whole _) outM (Memref.isWhole_whole _) kvallM (Memref.isWhole_whole _) qM (Memref.isWhole_whole _) kvM (Memref.isWhole_whole _) accM (Memref.isWhole_whole _) mM (Memref.isWhole_whole _) lM (Memref.isWhole_whole _) ctxM (Memref.isWhole_whole _) cc0_scratch6 cc0_scratch7 cc0_scratch8 d0 v2 v91 h k ⟨⟩)
          (fun _ => flashPts c X6 X7 (trip geo1792 (ownSc geo1792 1536#32) (tiles7 d0 h k).1 (tiles7 d0 h k).2 X6 X7 S)) := by
  have hk : k.val < 4 := Nat.lt_of_lt_of_le k.isLt k0_t7_abs.2.1
  obtain ⟨f8, f9, f10⟩ := S
  refine (Entails.of_eq (flashPts_mk c X6 X7 f8 f9 f10)).trans ?_
  unfold k0_t7_body
  iintro ⟨HR_arg6, HR_arg7, HW_arg8, HW_arg9, HW_arg10⟩
  sl_exec
  sl_step
  iapply (flashPts_trip geo1792 (ownSc geo1792 1536#32) (tiles7 d0 h k).1 (tiles7 d0 h k).2 c X6 X7 f8 f9 f10 ?_ ?_ ?_ ?_ ?_ ?_) $$ [HR_arg6 HR_arg7 HW_arg8 HW_arg9 HW_arg10]
  rotate_left 6
  · isplitl [HR_arg6]; · iexact HR_arg6
    isplitl [HR_arg7]; · iexact HR_arg7
    isplitl [HW_arg8]; · iexact HW_arg8
    isplitl [HW_arg9]; · iexact HW_arg9
    iexact HW_arg10
  all_goals rfl

def tiles8 (h : k0_cond4 d0 = 1#1) (k : Fin k0_t8_loop.trips) : Tile 2048 × Tile 2048 :=
  (⟨k0_off77 k, k0_off78 k, k0_off81 k, k0_off83 k, k0_off82 k,
      k0_off77_inb d0 k h, k0_off78_inb d0 k h, k0_off81_inb d0 k h, k0_off83_inb d0 k h, k0_off82_inb d0 k h⟩,
   ⟨k0_off79 k, k0_off80 k, k0_off84 k, k0_off86 k, k0_off85 k,
      k0_off79_inb d0 k h, k0_off80_inb d0 k h, k0_off84_inb d0 k h, k0_off86_inb d0 k h, k0_off85_inb d0 k h⟩)

theorem trip8 (v2 : BitVec 32) (v91 : FVec F S2048x128 .f32) (h : k0_cond4 d0 = 1#1) (k : Fin k0_t8_loop.trips) :
    flashPts c X6 X7 S
      ⊢ wp frame (wpE (defs₀ (F := F)) 𝒱₀ (c : Thread nD τ) none) Set.univ
          (k0_t8_body (F := F) kvpM (Memref.isWhole_whole _) xM (Memref.isWhole_whole _) wqM (Memref.isWhole_whole _) woM (Memref.isWhole_whole _) outM (Memref.isWhole_whole _) kvallM (Memref.isWhole_whole _) qM (Memref.isWhole_whole _) kvM (Memref.isWhole_whole _) accM (Memref.isWhole_whole _) mM (Memref.isWhole_whole _) lM (Memref.isWhole_whole _) ctxM (Memref.isWhole_whole _) cc0_scratch6 cc0_scratch7 cc0_scratch8 d0 v2 v91 h k ⟨⟩)
          (fun _ => flashPts c X6 X7 (trip geo2048 (ownSc geo2048 1792#32) (tiles8 d0 h k).1 (tiles8 d0 h k).2 X6 X7 S)) := by
  have hk : k.val < 4 := Nat.lt_of_lt_of_le k.isLt k0_t8_abs.2.1
  obtain ⟨f8, f9, f10⟩ := S
  refine (Entails.of_eq (flashPts_mk c X6 X7 f8 f9 f10)).trans ?_
  unfold k0_t8_body
  iintro ⟨HR_arg6, HR_arg7, HW_arg8, HW_arg9, HW_arg10⟩
  sl_exec
  sl_step
  iapply (flashPts_trip geo2048 (ownSc geo2048 1792#32) (tiles8 d0 h k).1 (tiles8 d0 h k).2 c X6 X7 f8 f9 f10 ?_ ?_ ?_ ?_ ?_ ?_) $$ [HR_arg6 HR_arg7 HW_arg8 HW_arg9 HW_arg10]
  rotate_left 6
  · isplitl [HR_arg6]; · iexact HR_arg6
    isplitl [HR_arg7]; · iexact HR_arg7
    isplitl [HW_arg8]; · iexact HW_arg8
    isplitl [HW_arg9]; · iexact HW_arg9
    iexact HW_arg10
  all_goals rfl

def tiles9 (h : k0_cond5 d0 = 1#1) (k : Fin k0_t9_loop.trips) : Tile 2048 × Tile 2048 :=
  (⟨k0_off89 k, k0_off90 k, k0_off93 k, k0_off95 k, k0_off94 k,
      k0_off89_inb d0 k h, k0_off90_inb d0 k h, k0_off93_inb d0 k h, k0_off95_inb d0 k h, k0_off94_inb d0 k h⟩,
   ⟨k0_off91 k, k0_off92 k, k0_off96 k, k0_off98 k, k0_off97 k,
      k0_off91_inb d0 k h, k0_off92_inb d0 k h, k0_off96_inb d0 k h, k0_off98_inb d0 k h, k0_off97_inb d0 k h⟩)

theorem trip9 (v2 : BitVec 32) (v91 : FVec F S2048x128 .f32) (h : k0_cond5 d0 = 1#1) (k : Fin k0_t9_loop.trips) :
    flashPts c X6 X7 S
      ⊢ wp frame (wpE (defs₀ (F := F)) 𝒱₀ (c : Thread nD τ) none) Set.univ
          (k0_t9_body (F := F) kvpM (Memref.isWhole_whole _) xM (Memref.isWhole_whole _) wqM (Memref.isWhole_whole _) woM (Memref.isWhole_whole _) outM (Memref.isWhole_whole _) kvallM (Memref.isWhole_whole _) qM (Memref.isWhole_whole _) kvM (Memref.isWhole_whole _) accM (Memref.isWhole_whole _) mM (Memref.isWhole_whole _) lM (Memref.isWhole_whole _) ctxM (Memref.isWhole_whole _) cc0_scratch6 cc0_scratch7 cc0_scratch8 d0 v2 v91 h k ⟨⟩)
          (fun _ => flashPts c X6 X7 (trip geo2048 (fullSc geo2048) (tiles9 d0 h k).1 (tiles9 d0 h k).2 X6 X7 S)) := by
  have hk : k.val < 32 := Nat.lt_of_lt_of_le k.isLt k0_t9_abs.2.1
  obtain ⟨f8, f9, f10⟩ := S
  refine (Entails.of_eq (flashPts_mk c X6 X7 f8 f9 f10)).trans ?_
  unfold k0_t9_body
  iintro ⟨HR_arg6, HR_arg7, HW_arg8, HW_arg9, HW_arg10⟩
  sl_exec
  sl_step
  iapply (flashPts_trip geo2048 (fullSc geo2048) (tiles9 d0 h k).1 (tiles9 d0 h k).2 c X6 X7 f8 f9 f10 ?_ ?_ ?_ ?_ ?_ ?_) $$ [HR_arg6 HR_arg7 HW_arg8 HW_arg9 HW_arg10]
  rotate_left 6
  · isplitl [HR_arg6]; · iexact HR_arg6
    isplitl [HR_arg7]; · iexact HR_arg7
    isplitl [HW_arg8]; · iexact HW_arg8
    isplitl [HW_arg9]; · iexact HW_arg9
    iexact HW_arg10
  all_goals rfl

def tiles10 (h : k0_cond6 d0 = 1#1) (k : Fin k0_t10_loop.trips) : Tile 2048 × Tile 2048 :=
  (⟨k0_off101 k, k0_off102 k, k0_off105 k, k0_off107 k, k0_off106 k,
      k0_off101_inb d0 k h, k0_off102_inb d0 k h, k0_off105_inb d0 k h, k0_off107_inb d0 k h, k0_off106_inb d0 k h⟩,
   ⟨k0_off103 k, k0_off104 k, k0_off108 k, k0_off110 k, k0_off109 k,
      k0_off103_inb d0 k h, k0_off104_inb d0 k h, k0_off108_inb d0 k h, k0_off110_inb d0 k h, k0_off109_inb d0 k h⟩)

theorem trip10 (v2 : BitVec 32) (v91 : FVec F S2048x128 .f32) (h : k0_cond6 d0 = 1#1) (k : Fin k0_t10_loop.trips) :
    flashPts c X6 X7 S
      ⊢ wp frame (wpE (defs₀ (F := F)) 𝒱₀ (c : Thread nD τ) none) Set.univ
          (k0_t10_body (F := F) kvpM (Memref.isWhole_whole _) xM (Memref.isWhole_whole _) wqM (Memref.isWhole_whole _) woM (Memref.isWhole_whole _) outM (Memref.isWhole_whole _) kvallM (Memref.isWhole_whole _) qM (Memref.isWhole_whole _) kvM (Memref.isWhole_whole _) accM (Memref.isWhole_whole _) mM (Memref.isWhole_whole _) lM (Memref.isWhole_whole _) ctxM (Memref.isWhole_whole _) cc0_scratch6 cc0_scratch7 cc0_scratch8 d0 v2 v91 h k ⟨⟩)
          (fun _ => flashPts c X6 X7 (trip geo2048 (fullSc geo2048) (tiles10 d0 h k).1 (tiles10 d0 h k).2 X6 X7 S)) := by
  have hk : k.val < 32 := Nat.lt_of_lt_of_le k.isLt k0_t10_abs.2.1
  obtain ⟨f8, f9, f10⟩ := S
  refine (Entails.of_eq (flashPts_mk c X6 X7 f8 f9 f10)).trans ?_
  unfold k0_t10_body
  iintro ⟨HR_arg6, HR_arg7, HW_arg8, HW_arg9, HW_arg10⟩
  sl_exec
  sl_step
  iapply (flashPts_trip geo2048 (fullSc geo2048) (tiles10 d0 h k).1 (tiles10 d0 h k).2 c X6 X7 f8 f9 f10 ?_ ?_ ?_ ?_ ?_ ?_) $$ [HR_arg6 HR_arg7 HW_arg8 HW_arg9 HW_arg10]
  rotate_left 6
  · isplitl [HR_arg6]; · iexact HR_arg6
    isplitl [HR_arg7]; · iexact HR_arg7
    isplitl [HW_arg8]; · iexact HW_arg8
    isplitl [HW_arg9]; · iexact HW_arg9
    iexact HW_arg10
  all_goals rfl

def tiles11 (h : k0_cond7 d0 = 1#1) (k : Fin k0_t11_loop.trips) : Tile 2048 × Tile 2048 :=
  (⟨k0_off113 k, k0_off114 k, k0_off117 k, k0_off119 k, k0_off118 k,
      k0_off113_inb d0 k h, k0_off114_inb d0 k h, k0_off117_inb d0 k h, k0_off119_inb d0 k h, k0_off118_inb d0 k h⟩,
   ⟨k0_off115 k, k0_off116 k, k0_off120 k, k0_off122 k, k0_off121 k,
      k0_off115_inb d0 k h, k0_off116_inb d0 k h, k0_off120_inb d0 k h, k0_off122_inb d0 k h, k0_off121_inb d0 k h⟩)

theorem trip11 (v2 : BitVec 32) (c3_i32_79 : BitVec 32) (h : k0_cond7 d0 = 1#1) (k : Fin k0_t11_loop.trips) :
    flashPts c X6 X7 S
      ⊢ wp frame (wpE (defs₀ (F := F)) 𝒱₀ (c : Thread nD τ) none) Set.univ
          (k0_t11_body (F := F) kvpM (Memref.isWhole_whole _) xM (Memref.isWhole_whole _) wqM (Memref.isWhole_whole _) woM (Memref.isWhole_whole _) outM (Memref.isWhole_whole _) kvallM (Memref.isWhole_whole _) qM (Memref.isWhole_whole _) kvM (Memref.isWhole_whole _) accM (Memref.isWhole_whole _) mM (Memref.isWhole_whole _) lM (Memref.isWhole_whole _) ctxM (Memref.isWhole_whole _) cc0_scratch6 cc0_scratch7 cc0_scratch8 d0 v2 c3_i32_79 h k ⟨⟩)
          (fun _ => flashPts c X6 X7 (trip geo2048 (fullSc geo2048) (tiles11 d0 h k).1 (tiles11 d0 h k).2 X6 X7 S)) := by
  have hk : k.val < 32 := Nat.lt_of_lt_of_le k.isLt k0_t11_abs.2.1
  obtain ⟨f8, f9, f10⟩ := S
  refine (Entails.of_eq (flashPts_mk c X6 X7 f8 f9 f10)).trans ?_
  unfold k0_t11_body
  iintro ⟨HR_arg6, HR_arg7, HW_arg8, HW_arg9, HW_arg10⟩
  sl_exec
  sl_step
  iapply (flashPts_trip geo2048 (fullSc geo2048) (tiles11 d0 h k).1 (tiles11 d0 h k).2 c X6 X7 f8 f9 f10 ?_ ?_ ?_ ?_ ?_ ?_) $$ [HR_arg6 HR_arg7 HW_arg8 HW_arg9 HW_arg10]
  rotate_left 6
  · isplitl [HR_arg6]; · iexact HR_arg6
    isplitl [HR_arg7]; · iexact HR_arg7
    isplitl [HW_arg8]; · iexact HW_arg8
    isplitl [HW_arg9]; · iexact HW_arg9
    iexact HW_arg10
  all_goals rfl

end Cert.Attn

end
-- ==== Proof.Sched.lean ====
/-
# The exchange between the devices: cells, duties, payloads, levels

Device `c` sends its packed keys and values to every later device `d > c`, into slot `c` of `d`'s gather buffer.
Before anything is sent, the devices meet at a barrier: each signals the other three, and waits for three units.

Cells of device `c`: the barrier; three send semaphores, one per distance; four receive semaphores, one per source.
* The barrier of `c` has one duty per other device `j`, one unit each. With its unit an earlier-slot giver hands over
  what the copy from `c` needs on `j`: if `c < j`, slot `c` of `j`'s gather buffer.
* Receive cell `(c, j)` has a duty exactly when `j < c`, paid by the copy from `j`; it brings slot `j` back, holding `j`'s data.
* Send cell `(c, k)` has a duty exactly when `c + k + 1 < 4`; it brings the share of the source back.
The barrier cells are at level 1, the receive cells at level 2: a device waits at its barrier owing only copies, and it
waits for a copy owing nothing.
-/
module

public import proofs.«01_k».proof.Proof.Base

@[expose] public section

set_option maxRecDepth 16384

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Devices and cells -/

/-- The device `k + 1` places after `c`, around the four. -/
def peer (c : Dev nD) (k : Fin 3) : Dev nD := ⟨(c.val + k.val + 1) % 4, Nat.mod_lt _ (by decide)⟩

/-- Device `c` sends at distance `k + 1`. -/
abbrev Sends (c : Dev nD) (k : Fin 3) : Prop := c.val + k.val + 1 < 4

theorem peer_ne (c : Dev nD) (k : Fin 3) : peer c k ≠ c := by revert c k; decide
theorem lt_peer_iff (c : Dev nD) (k : Fin 3) : c.val < (peer c k).val ↔ Sends c k := by revert c k; decide

abbrev barS : Sem sig := barrier0
def sendS (k : Fin 3) : DmaSem sig := ⟨5 + k.val, by have := k.isLt; show 5 + k.val < 12; omega⟩
def recvS (j : Dev nD) : DmaSem sig := ⟨8 + j.val, by have h : j.val < 4 := j.isLt; show 8 + j.val < 12; omega⟩
abbrev chunkS : DmaSem sig := ⟨4, by decide⟩

abbrev barCell (c : Dev nD) : GSem nD τ sig := ((c : Thread nD τ), .reg barS)
abbrev sendCell (c : Dev nD) (k : Fin 3) : GSem nD τ sig := ((c : Thread nD τ), .dma (sendS k))
abbrev recvCell (c j : Dev nD) : GSem nD τ sig := ((c : Thread nD τ), .dma (recvS j))
abbrev chunkCell (c : Dev nD) : GSem nD τ sig := ((c : Thread nD τ), .dma chunkS)

/-! ## The slots of the gather buffer -/

theorem slot_inb (j : Dev nD) : ∀ a, (![j.val, 0, 0, 0] : Fin 4 → ℕ) a + S1x8x2048x256.size a ≤ S4x8x2048x256.size a := by
  revert j; decide

/-- Slot `j` of the gather buffer. -/
abbrev slotM (j : Dev nD) : Memref sig .tc .hbm S8x2048x256 .bf16 :=
  (kvallM.slice (Rect.unit (s := S4x8x2048x256) ![j.val, 0, 0, 0] S1x8x2048x256.size (slot_inb j)) (fun _ => rfl)).squeeze
    S8x2048x256 squeezes_S1x8x2048x256_S8x2048x256

abbrev SlotC : Type := BufTy.Contents (Elt F) (main_v7_1 : Ref sig .tc).ty

/-- Slot `j` on device `d`. -/
def slotPts (d j : Dev nD) (f : SlotC (F := F)) : sProp 𝕄 :=
  (slotM j).view.loc (d : Thread nD τ) ↦[(slotM j).view.set]{fullShare} f

/-- The credit of one copy. -/
def N : ℕ := (kvM : Memref sig .tc .vmem S8x2048x256 .bf16).view.dmaCredit
theorem N_pos : 0 < N := View.dmaCredit_pos _ (by decide)

/-- The shares of the source: one per distance; what is left serves the device's own copy. -/
def shr : Fin 3 → PosShare TreeShare := fun
  | 0 => fullShare.right.left
  | 1 => fullShare.right.right.left
  | 2 => fullShare.right.right.right

/-- What each device sends. -/
abbrev Packed : Type := Dev nD → BufTy.Contents (Elt F) (main_v6 : Ref sig .tc).ty

variable (KV : Packed (F := F))

/-- A share of device `c`'s packed keys and values. -/
def kvpPts (c : Dev nD) (q : PosShare TreeShare) : sProp 𝕄 :=
  kvpM.view.loc (c : Thread nD τ) ↦[kvpM.view.set]{q} KV c

/-! ## The schedule -/

/-- What the signal from `j` to `i` hands over. -/
def give (i j : Dev nD) : sProp 𝕄 :=
  if i.val < j.val then iprop((∃ f, slotPts j i f) ∗ reached ER (recvCell j i) 0) else iprop(emp)
/-- What the copy from `j` leaves on `d`: slot `j`, holding what `j` sent. -/
def recvPay (d j : Dev nD) : sProp 𝕄 := iprop(∃ f, ⌜(slotM j).view.read (Elt F) f = kvpM.view.read (Elt F) (KV j)⌝ ∗ slotPts d j f)
def sendPay (c : Dev nD) (k : Fin 3) : sProp 𝕄 := kvpPts KV c (shr k)

/-- The duties of a semaphore of device `c`, by the device that pays. -/
def dutyNames (c : Dev nD) : SemLoc sig → Finset (Fin 4)
  | .reg _ => Finset.univ.erase c
  | .dma i => if 8 ≤ i.val then (if i.val - 8 < c.val then {⟨(i.val - 8) % 4, Nat.mod_lt _ (by decide)⟩} else ∅)
      else if 5 ≤ i.val then (if c.val + (i.val - 5) + 1 < 4 then {c} else ∅) else ∅

def payloadOf (c : Dev nD) (d : Fin 4) : SemLoc sig → sProp 𝕄
  | .reg _ => give c d
  | .dma i => if 8 ≤ i.val then recvPay KV c ⟨(i.val - 8) % 4, Nat.mod_lt _ (by decide)⟩
      else if 5 ≤ i.val then sendPay KV c ⟨(i.val - 5) % 3, Nat.mod_lt _ (by decide)⟩ else iprop(emp)

theorem payloadOf_dma (c : Dev nD) (d : Fin 4) (i : DmaSem sig) : payloadOf KV c d (.dma i)
    = if 8 ≤ i.val then recvPay KV c ⟨(i.val - 8) % 4, Nat.mod_lt _ (by decide)⟩
      else if 5 ≤ i.val then sendPay KV c ⟨(i.val - 5) % 3, Nat.mod_lt _ (by decide)⟩ else iprop(emp) := rfl

def amountOf' : SemLoc sig → ℕ
  | .reg _ => 1
  | .dma _ => N

theorem amountOf'_pos : ∀ s, 0 < amountOf' s
  | .reg _ => Nat.one_pos
  | .dma _ => N_pos

def exRd : Rounds.Schedule (GSem nD τ sig) (Fin 4) 𝕄 where
  duties g r := if r = 0 ∧ g.1.2 = .tc then dutyNames g.1.1 g.2 else ∅
  unitless _ := False
  amount g _ _ := amountOf' g.2
  payload g _ d := payloadOf KV g.1.1 d g.2
  amount_pos g _ _ _ := amountOf'_pos g.2

instance slotPts_storable (d j : Dev nD) (f : SlotC (F := F)) : BI.Storable (upEmb : UEmb _ 𝕄) (slotPts d j f) := by
  unfold slotPts; infer_instance
instance give_storable (i j : Dev nD) : BI.Storable (upEmb : UEmb _ 𝕄) (give (F := F) i j) := by
  unfold give
  by_cases h : i.val < j.val
  · rw [if_pos h]; infer_instance
  · rw [if_neg h]; infer_instance
instance recvPay_storable (d j : Dev nD) : BI.Storable (upEmb : UEmb _ 𝕄) (recvPay KV d j) := by
  unfold recvPay; infer_instance
instance sendPay_storable (c : Dev nD) (k : Fin 3) : BI.Storable (upEmb : UEmb _ 𝕄) (sendPay KV c k) := by
  unfold sendPay kvpPts; infer_instance
instance payloadOf_storable (c : Dev nD) (d : Fin 4) : ∀ s, BI.Storable (upEmb : UEmb _ 𝕄) (payloadOf KV c d s)
  | .reg _ => give_storable c d
  | .dma i => by
    rw [payloadOf_dma]
    by_cases h : 8 ≤ i.val
    · rw [if_pos h]; infer_instance
    · rw [if_neg h]
      by_cases h' : 5 ≤ i.val
      · rw [if_pos h']; infer_instance
      · rw [if_neg h']; infer_instance
instance exRd_payload_storable (g : GSem nD τ sig) (r : ℕ) (d : Fin 4) :
    BI.Storable (upEmb : UEmb _ 𝕄) ((exRd KV).payload g r d) := payloadOf_storable KV g.1.1 d g.2

section Sched

variable (c j : Dev nD) (k : Fin 3)

theorem duties_zero (sm : SemLoc sig) : (exRd KV).duties ((c : Thread nD τ), sm) 0 = dutyNames c sm := by
  dsimp only [exRd]; exact if_pos ⟨rfl, rfl⟩
theorem duties_later (g : GSem nD τ sig) : ∀ r, 1 ≤ r → (exRd KV).duties g r = ∅ :=
  fun r hr => by dsimp only [exRd]; exact if_neg (fun h => by omega)

theorem names_send : dutyNames c (.dma (sendS k)) = if Sends c k then {c} else ∅ := by revert c k; decide
theorem names_recv : dutyNames c (.dma (recvS j)) = if j.val < c.val then {j} else ∅ := by revert c j; decide

theorem duties_bar : (exRd KV).duties (barCell c) 0 = Finset.univ.erase c := duties_zero KV c _
theorem duties_send (h : Sends c k) : (exRd KV).duties (sendCell c k) 0 = {c} := by
  rw [duties_zero, names_send, if_pos h]
theorem duties_recv (h : j.val < c.val) : (exRd KV).duties (recvCell c j) 0 = {j} := by
  rw [duties_zero, names_recv, if_pos h]
theorem no_duties_send (h : ¬ Sends c k) (r : ℕ) : (exRd KV).duties (sendCell c k) r = ∅ := by
  rcases Nat.eq_zero_or_pos r with rfl | hr
  · rw [duties_zero, names_send, if_neg h]
  · exact duties_later KV _ r hr
theorem no_duties_recv (h : ¬ j.val < c.val) (r : ℕ) : (exRd KV).duties (recvCell c j) r = ∅ := by
  rcases Nat.eq_zero_or_pos r with rfl | hr
  · rw [duties_zero, names_recv, if_neg h]
  · exact duties_later KV _ r hr

theorem amount_bar (d : Fin 4) : (exRd KV).amount (barCell c) 0 d = 1 := by dsimp only [exRd, amountOf']
theorem amount_send (d : Fin 4) : (exRd KV).amount (sendCell c k) 0 d = N := by dsimp only [exRd, amountOf']
theorem amount_recv (d : Fin 4) : (exRd KV).amount (recvCell c j) 0 d = N := by dsimp only [exRd, amountOf']

theorem expect_bar : (exRd KV).expect (barCell c) 0 = 3 := by
  unfold Schedule.expect Schedule.amountOf; rw [duties_bar, Finset.sum_congr rfl fun d _ => amount_bar KV c d]
  revert c; decide
theorem expect_send (h : Sends c k) : (exRd KV).expect (sendCell c k) 0 = N := by
  unfold Schedule.expect Schedule.amountOf; rw [duties_send KV c k h, Finset.sum_singleton, amount_send]
theorem expect_recv (h : j.val < c.val) : (exRd KV).expect (recvCell c j) 0 = N := by
  unfold Schedule.expect Schedule.amountOf; rw [duties_recv KV c j h, Finset.sum_singleton, amount_recv]

theorem payload_bar (d : Fin 4) : (exRd KV).payload (barCell c) 0 d = give c d := by dsimp only [exRd, payloadOf]
theorem payload_send (d : Fin 4) : (exRd KV).payload (sendCell c k) 0 d = sendPay KV c k := by
  have e : (⟨((sendS k).val - 5) % 3, Nat.mod_lt _ (by decide)⟩ : Fin 3) = k := by revert k; decide
  dsimp only [exRd]
  rw [payloadOf_dma, if_neg (by revert k; decide), if_pos (by revert k; decide), e]
theorem payload_recv (d : Fin 4) : (exRd KV).payload (recvCell c j) 0 d = recvPay KV c j := by
  have e : (⟨((recvS j).val - 8) % 4, Nat.mod_lt _ (by decide)⟩ : Fin 4) = j := by revert j; decide
  dsimp only [exRd]
  rw [payloadOf_dma, if_pos (by revert j; decide)]
  exact congrArg (recvPay KV c) e

theorem erase_peers : (Finset.univ.erase c : Finset (Fin 4)) = {peer c 0, peer c 1, peer c 2} := by revert c; decide

/-- What the barrier's wait brings. -/
theorem rest_bar : bigSep ((exRd KV).duties (barCell c) 0 \ ∅) (fun d => (exRd KV).payload (barCell c) 0 d)
    = iprop(give c (peer c 0) ∗ give c (peer c 1) ∗ give c (peer c 2)) := by
  rw [Finset.sdiff_empty, duties_bar, erase_peers, bigSep_insert (by revert c; decide), bigSep_insert (by revert c; decide), bigSep_singleton,
    payload_bar, payload_bar, payload_bar]
  rfl
theorem rest_send (h : Sends c k) : bigSep ((exRd KV).duties (sendCell c k) 0 \ ∅) (fun d => (exRd KV).payload (sendCell c k) 0 d)
    = sendPay KV c k := by
  rw [Finset.sdiff_empty, duties_send KV c k h, bigSep_singleton, payload_send]
theorem rest_recv (h : j.val < c.val) : bigSep ((exRd KV).duties (recvCell c j) 0 \ ∅) (fun d => (exRd KV).payload (recvCell c j) 0 d)
    = recvPay KV c j := by
  rw [Finset.sdiff_empty, duties_recv KV c j h, bigSep_singleton, payload_recv]

end Sched

/-! ## What each device owes at launch; the levels -/

/-- The copy at distance `k + 1`, if there is one. -/
def sOwe (c : Dev nD) (k : Fin 3) : CellTallies nD τ sig Unit := if Sends c k then tallyAt (recvCell (peer c k) c) () N else 0
def bOwe (c : Dev nD) (k : Fin 3) : CellTallies nD τ sig Unit := tallyAt (barCell (peer c k)) () 1

/-- The copies, in the order they are made (the first outermost). -/
def sends (c : Dev nD) : CellTallies nD τ sig Unit := 0 + sOwe c 2 + sOwe c 1 + sOwe c 0
def O₀ (c : Dev nD) : CellTallies nD τ sig Unit := sends c + bOwe c 2 + bOwe c 1 + bOwe c 0

def L (g : GSem nD τ sig) : Finset Unit := if g.1.2 = .tc then {()} else ∅
def lvS : SemLoc sig → ℕ
  | .reg _ => 1
  | .dma i => if 8 ≤ i.val then 2 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (c j : Dev nD) (u : Unit) : lv (recvCell c j) u = 2 := by
  show lvS (.dma (recvS j)) = 2; revert j; decide

theorem pos_add {a b : CellTallies nD τ sig Unit} {g : GSem nD τ sig} {u : Unit} (h : 0 < (a + b) g u) : 0 < a g u ∨ 0 < b g u := by
  rw [Pi.add_apply, Finsupp.add_apply] at h
  exact Nat.add_pos_iff_pos_or_pos.mp h
theorem pos_tallyAt {g₀ g : GSem nD τ sig} {u : Unit} {n : ℕ} (h : 0 < tallyAt g₀ () n g u) : g = g₀ := by
  rw [tallyAt_apply] at h
  split at h
  · next hg => exact hg.1
  · exact absurd h (Nat.lt_irrefl 0)
theorem sOwe_pos {c : Dev nD} {k : Fin 3} {g : GSem nD τ sig} {u : Unit} (h : 0 < sOwe c k g u) : g = recvCell (peer c k) c := by
  unfold sOwe at h
  split at h
  · exact pos_tallyAt h
  · exact absurd h (Nat.lt_irrefl 0)
theorem sends_pos {c : Dev nD} {g : GSem nD τ sig} {u : Unit} (h : 0 < sends c g u) : ∃ k, g = recvCell (peer c k) c := by
  unfold sends at h
  rcases pos_add h with h | h
  · rcases pos_add h with h | h
    · rcases pos_add h with h | h
      · exact absurd h (Nat.lt_irrefl 0)
      · exact ⟨_, sOwe_pos h⟩
    · exact ⟨_, sOwe_pos h⟩
  · exact ⟨_, sOwe_pos h⟩
theorem O₀_pos {c : Dev nD} {g : GSem nD τ sig} {u : Unit} (h : 0 < O₀ c g u) :
    (∃ k, g = recvCell (peer c k) c) ∨ ∃ k, g = barCell (peer c k) := by
  unfold O₀ at h
  rcases pos_add h with h | h
  · rcases pos_add h with h | h
    · rcases pos_add h with h | h
      · exact .inl (sends_pos h)
      · exact .inr ⟨_, pos_tallyAt h⟩
    · exact .inr ⟨_, pos_tallyAt h⟩
  · exact .inr ⟨_, pos_tallyAt h⟩

theorem mayWait_bar (c : Dev nD) : (levAts L lv : sProp 𝕄) ⊢ MayWait (c : Thread nD τ) (.reg barS) () (sends c) :=
  MayOwe.of_cut (L := L) (lev := lv) 1 (fun p hp => by rw [Finset.mem_singleton.mp hp, L_tc]; exact Finset.mem_singleton_self _)
    (fun g u hg => by obtain ⟨k, rfl⟩ := sends_pos hg; rw [L_tc]; exact Finset.mem_singleton_self _)
    (fun p hp => by rw [Finset.mem_singleton.mp hp]; exact le_refl _)
    (fun g u hg => by obtain ⟨k, rfl⟩ := sends_pos hg; rw [lv_recv]; decide)

end Cert.Attn

end
-- ==== Proof.Comm.lean ====
/-
# The steps of the exchange, each for every device and distance at once

A guarded step (a send to a device that may not exist, the wait for one's own copy) is one lemma whose guard is tied to
the device's place; the rest of the program is any program `J`.
-/
module

public import proofs.«01_k».proof.Proof.Sched

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (KV : Packed (F := F)) (K : GSem nD τ sig → ℕ) (c : Dev nD)

/-! ## The state of one send -/

/-- What the send at distance `k + 1` takes, beside what the barrier brought. -/
def sendIn (k : Fin 3) : sProp 𝕄 :=
  iprop(cellInv ER (exRd KV) (K (sendCell c k)) (sendCell c k) ∗ cellInv ER (exRd KV) (K (recvCell (peer c k) c)) (recvCell (peer c k) c)
    ∗ kvpPts KV c (shr k) ∗ dutyTok ER (sendCell c k) 0 c ∗ reached ER (sendCell c k) 0 ∗ dutyTok ER (recvCell (peer c k) c) 0 c)
/-- What it leaves for the wait at the end. -/
def sendOut (k : Fin 3) : sProp 𝕄 := if Sends c k then cred (tallyAt (sendCell c k) () N) else iprop(emp)

/-- A cell of the exchange with nothing to come. -/
def spent (g : GSem nD τ sig) : sProp 𝕄 := iprop(∃ R, ⌜∀ r, R ≤ r → (exRd KV).duties g r = ∅⌝ ∗ atPos ER g R ∅ 0)

theorem spent_one (g : GSem nD τ sig) : (atPos ER g (0 + 1) ∅ 0 : sProp 𝕄) ⊢ spent KV g := by
  unfold spent
  iintro H; iexists (0 + 1)
  isplitr; · ipureintro; exact duties_later KV g
  iexact H
theorem spent_send (k : Fin 3) (h : ¬ Sends c k) : (atPos ER (sendCell c k) 0 ∅ 0 : sProp 𝕄) ⊢ spent KV (sendCell c k) := by
  unfold spent
  iintro H; iexists 0
  isplitr; · ipureintro; exact fun r _ => no_duties_send KV c k h r
  iexact H
theorem spent_recv (j : Dev nD) (h : ¬ j.val < c.val) : (atPos ER (recvCell c j) 0 ∅ 0 : sProp 𝕄) ⊢ spent KV (recvCell c j) := by
  unfold spent
  iintro H; iexists 0
  isplitr; · ipureintro; exact fun r _ => no_duties_recv KV c j h r
  iexact H
/-- Its counter is back in hand, at zero. -/
theorem spent_close (κ : ℕ) (g : GSem nD τ sig) : iprop(cellInv ER (exRd KV) κ g ∗ spent KV g) ⊢ (|={Set.univ}=> semVal g 0 : sProp 𝕄) := by
  unfold spent
  iintro ⟨#HI, ⟨%R, %hR, Hat⟩⟩
  iapply (Rounds.cell_close ER (exRd KV) (Set.mem_univ κ) id hR)
  isplitr; · iexact HI
  iexact Hat

/-- The core owes `O`. -/
def owesE (O : CellTallies nD τ sig Unit) : sProp 𝕄 := iprop(∃ W, owes (c : Thread nD τ) O W)

/-! ## Signals and the barrier -/

theorem signal_step (k : Fin 3) {n : Dev nD} (hn : n = peer c k) (O : CellTallies nD τ sig Unit)
    {α : Type} {cont : PUnit → Prog (TpuEff nD τ sig (Elt F) Λ₀ .tc) α} {Q : α → sProp 𝕄} :
    iprop(cellInv ER (exRd KV) (K (barCell (peer c k))) (barCell (peer c k)) ∗ dutyTok ER (barCell (peer c k)) 0 c
        ∗ reached ER (barCell (peer c k)) 0 ∗ give (peer c k) c ∗ owesE c (O + bOwe c k))
      ⊢ iprop((owesE c O -∗ wp frame (wpE (defs₀ (F := F)) 𝒱₀ (c : Thread nD τ) none) Set.univ (cont ⟨⟩) Q)
        -∗ wp frame (wpE (defs₀ (F := F)) 𝒱₀ (c : Thread nD τ) none) Set.univ (.op (.semSignal (Dev.tc n) barS 1) cont) Q) := by
  subst hn
  unfold owesE
  iintro ⟨#HI, Ht, #Hr, Hg, ⟨%W, HO⟩⟩ Hk
  iapply (Rounds.wp_signal 𝒱₀ ER (exRd KV) (c : Thread nD τ) none (dst := (peer c k : Thread nD τ)) (sem := barS) (r := 0) (d := c)
      (κ := K (barCell (peer c k))) (by rw [duties_bar]; exact Finset.mem_erase.mpr ⟨(peer_ne c k).symm, Finset.mem_univ _⟩)
      (amount_bar KV (peer c k) c) () O rfl) $$ [HO Ht Hg]
  · isplitr; · iexact HI
    isplitl [HO]; · iexact HO
    isplitl [Ht]; · iexact Ht
    isplitl [Hg]; · rw [payload_bar]; iexact Hg
    iexact Hr
  iintro HO
  iapply Hk; iexists W; iexact HO

theorem barrier_step {α : Type} {cont : PUnit → Prog (TpuEff nD τ sig (Elt F) Λ₀ .tc) α} {Q : α → sProp 𝕄} :
    iprop(cellInv ER (exRd KV) (K (barCell c)) (barCell c) ∗ cred (tallyAt (barCell c) () 3) ∗ levAts L lv ∗ atPos ER (barCell c) 0 ∅ 0
        ∗ owesE c (sends c))
      ⊢ iprop((atPos ER (barCell c) (0 + 1) ∅ 0 ∗ (give c (peer c 0) ∗ give c (peer c 1) ∗ give c (peer c 2)) ∗ owesE c (sends c)
          -∗ wp frame (wpE (defs₀ (F := F)) 𝒱₀ (c : Thread nD τ) none) Set.univ (cont ⟨⟩) Q)
        -∗ wp frame (wpE (defs₀ (F := F)) 𝒱₀ (c : Thread nD τ) none) Set.univ (.op (.semWait barS 3) cont) Q) := by
  unfold owesE
  iintro ⟨#HI, Hc, #Hlev, Hat, ⟨%W, HO⟩⟩ Hk
  iapply (Rounds.wp_wait_rest_token 𝒱₀ ER (exRd KV) (c : Thread nD τ) none (κ := K (barCell c))
      (wpE_semWait_eq 𝒱₀ (c : Thread nD τ) none Set.univ) (Set.mem_univ _) () (O := sends c) (W := W) (R := 0) (m := 0) (T := ∅)
      ((Nat.zero_add 3).trans (expect_bar KV c).symm)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar KV c)) $$ Hpay
  iapply Hk
  isplitl [Hat]; · iexact Hat
  isplitl [Hp]; · iexact Hp
  iexists _; iexact HO

/-! ## Sends -/

theorem slot_written (j d : Dev nD) (fd : SlotC (F := F)) :
    ((slotM j).view.loc (d : Thread nD τ) ↦[(slotM j).view.set]{fullShare} (slotM j).view.write (Elt F) fd (kvpM.view.read (Elt F) (KV j)) Finset.univ)
      ⊢ recvPay KV d j := by
  unfold recvPay slotPts
  iintro H
  iexists _
  isplitr
  · ipureintro; exact View.read_write_univ (v := (slotM j).view) (Val := Elt F) fd (kvpM.view.read (Elt F) (KV j))
  iexact H

theorem send_step (k : Fin 3) (hs : Sends c k) {n : Dev nD} (hn : n = peer c k) {dst : Memref sig .tc .hbm S8x2048x256 .bf16} (hdst : dst = slotM c)
    {sS rS : DmaSem sig} (hsS : sS = sendS k) (hrS : rS = recvS c) {hsc hsw hdw hty} (O : CellTallies nD τ sig Unit)
    {α : Type} {cont : PUnit → Prog (TpuEff nD τ sig (Elt F) Λ₀ .tc) α} {Q : α → sProp 𝕄} :
    iprop(sendIn KV K c k ∗ give c (peer c k) ∗ owesE c (O + sOwe c k))
      ⊢ iprop((sendOut c k ∗ owesE c O -∗ wp frame (wpE (defs₀ (F := F)) 𝒱₀ (c : Thread nD τ) none) Set.univ (cont ⟨⟩) Q)
        -∗ wp frame (wpE (defs₀ (F := F)) 𝒱₀ (c : Thread nD τ) none) Set.univ
          (.op (.enqueueDma kvpM (.remote (Dev.tc n) dst (.dma sS) hsc) (.dma rS) hsw hdw hty) cont) Q) := by
  subst hn hdst hsS hrS
  unfold sendIn give owesE sOwe sendOut slotPts kvpPts
  rw [if_pos ((lt_peer_iff c k).mpr hs), if_pos hs, if_pos hs]
  iintro ⟨⟨#HIs, #HIr, Hsrc, HtS, #HrS, HtR⟩, ⟨⟨%fd, Hdst⟩, #HrR⟩, ⟨%W, HO⟩⟩ Hk
  iapply (Rounds.wp_send_pointsTo 𝒱₀ ER (exRd KV) (c : Thread nD τ) none (c' := (peer c k : Thread nD τ)) (src := kvpM) (dst := slotM c)
      (sS := .dma (sendS k)) (sem := .dma (recvS c)) (q := shr k) (fs := KV c) (κ₁ := K (sendCell c k)) (κ₂ := K (recvCell (peer c k) c))
      (r₁ := 0) (r₂ := 0) (d₁ := c) (d₂ := c) (fd := fd)
      (by rw [duties_send KV c k hs]; exact Finset.mem_singleton_self _)
      (by rw [duties_recv KV (peer c k) c ((lt_peer_iff c k).mpr hs)]; exact Finset.mem_singleton_self _)
      () () N (by unfold N; rfl) (amount_send KV c k c) (amount_recv KV (peer c k) c c) O rfl (W := W)
      (by rw [payload_send]; exact BI.Entails.refl _)
      (by rw [payload_recv]; exact slot_written KV c (peer c k) fd)) $$ [Hsrc Hdst HO HtS HtR]
  · isplitr; · iexact HIs
    isplitr; · iexact HIr
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨HcS, HO⟩
  iapply Hk
  isplitl [HcS]; · iexact HcS
  iexists W; iexact HO

/-- A guarded send. -/
theorem send_if (k : Fin 3) {b : BitVec 1} (hb : b = 1#1 ↔ Sends c k) {n : b = 1#1 → Dev nD} (hn : ∀ h, n h = peer c k)
    {dst : b = 1#1 → Memref sig .tc .hbm S8x2048x256 .bf16} (hdst : ∀ h, dst h = slotM c)
    {sS rS : b = 1#1 → DmaSem sig} (hsS : ∀ h, sS h = sendS k) (hrS : ∀ h, rS h = recvS c)
    {hsc : ∀ h, (dst h).view.ref.isScScratch = false} {hsw : b = 1#1 → kvpM.view.WordExact} {hdw : ∀ h, (dst h).view.WordExact}
    {hty : ∀ h, DmaTarget.Typed Space.hbm (.dma (rS h)) (.remote (Dev.tc (n h)) (dst h) (.dma (sS h)) (hsc h))} (O : CellTallies nD τ sig Unit)
    {α : Type} {J : Prog (TpuEff nD τ sig (Elt F) Λ₀ .tc) α} {Q : α → sProp 𝕄} :
    iprop(sendIn KV K c k ∗ give c (peer c k) ∗ owesE c (O + sOwe c k))
      ⊢ iprop((sendOut c k ∗ owesE c O -∗ wp frame (wpE (defs₀ (F := F)) 𝒱₀ (c : Thread nD τ) none) Set.univ J Q)
        -∗ wp frame (wpE (defs₀ (F := F)) 𝒱₀ (c : Thread nD τ) none) Set.univ
          (dite (b = 1#1) (fun h => .op (.enqueueDma kvpM (.remote (Dev.tc (n h)) (dst h) (.dma (sS h)) (hsc h)) (.dma (rS h)) (hsw h) (hdw h) (hty h)) fun _ => J)
            fun _ => J) Q) := by
  by_cases h : b = 1#1
  · rw [dif_pos h]
    exact send_step KV K c k (hb.mp h) (hn h) (hdst h) (hsS h) (hrS h) O (cont := fun _ => J) (Q := Q)
  · rw [dif_neg h]
    have hs : ¬ Sends c k := fun hs => h (hb.mpr hs)
    unfold sOwe sendOut
    rw [if_neg hs, if_neg hs, add_zero]
    iintro ⟨-, -, HO⟩ Hk
    iapply Hk
    isplitr; · iempintro
    iexact HO

/-! ## Waits -/

/-- What the wait for the copy from `j` takes. -/
def recvIn (j : Dev nD) : sProp 𝕄 :=
  iprop(cellInv ER (exRd KV) (K (recvCell c j)) (recvCell c j) ∗ atPos ER (recvCell c j) 0 ∅ 0
    ∗ if j.val < c.val then cred (tallyAt (recvCell c j) () N) else iprop(emp))

theorem recv_step (j : Dev nD) (hj : j.val < c.val) {rS : DmaSem sig} (hrS : rS = recvS j) {src dst : Memref sig .tc .hbm S8x2048x256 .bf16} (hdst : dst = slotM j) {hsw hdw}
    {α : Type} {cont : PUnit → Prog (TpuEff nD τ sig (Elt F) Λ₀ .tc) α} {Q : α → sProp 𝕄} :
    iprop(recvIn KV K c j ∗ owesE c 0)
      ⊢ iprop((spent KV (recvCell c j) ∗ recvPay KV c j ∗ owesE c 0
          -∗ wp frame (wpE (defs₀ (F := F)) 𝒱₀ (c : Thread nD τ) none) Set.univ (cont ⟨⟩) Q)
        -∗ wp frame (wpE (defs₀ (F := F)) 𝒱₀ (c : Thread nD τ) none) Set.univ (.op (.waitDma2 rS src dst hsw hdw) cont) Q) := by
  subst hrS hdst
  unfold recvIn owesE
  rw [if_pos hj]
  iintro ⟨⟨#HI, Hat, Hc⟩, ⟨%W, HO⟩⟩ Hk
  iapply (Rounds.wp_wait_rest_token 𝒱₀ ER (exRd KV) (c : Thread nD τ) none (κ := K (recvCell c j))
      (wpE_waitDma2_eq 𝒱₀ (c : Thread nD τ) none Set.univ) (Set.mem_univ _) () (O := 0) (W := W) (R := 0) (m := 0) (T := ∅)
      ((Nat.zero_add _).trans (Eq.trans (by unfold N; rfl) (expect_recv KV c j hj).symm))) $$ [Hc HO Hat]
  · isplitr; · iexact HI
    isplitl [Hc]; · unfold N; iexact Hc
    isplitl [HO]; · iexact HO
    isplitr; · rw [MayWait_zero]; iempintro
    iexact Hat
  iintro ⟨HO, Hat, -, Hpay⟩
  ihave Hp := (Entails.of_eq (rest_recv KV c j hj)) $$ Hpay
  iapply Hk
  isplitl [Hat]; · iapply (spent_one KV _); iexact Hat
  isplitl [Hp]; · iexact Hp
  iexists _; iexact HO

/-- A guarded wait for one's own send. -/
theorem drain_if (k : Fin 3) {b : BitVec 1} (hb : b = 1#1 ↔ Sends c k) {sS : b = 1#1 → DmaSem sig} (hsS : ∀ h, sS h = sendS k)
    {src : b = 1#1 → Memref sig .tc .hbm S8x2048x256 .bf16} {hsw : ∀ h, (src h).view.WordExact} {hdw : b = 1#1 → kvpM.view.WordExact}
    {α : Type} {J : Prog (TpuEff nD τ sig (Elt F) Λ₀ .tc) α} {Q : α → sProp 𝕄} :
    iprop(cellInv ER (exRd KV) (K (sendCell c k)) (sendCell c k) ∗ atPos ER (sendCell c k) 0 ∅ 0 ∗ sendOut c k ∗ owesE c 0)
      ⊢ iprop((spent KV (sendCell c k) ∗ owesE c 0 -∗ wp frame (wpE (defs₀ (F := F)) 𝒱₀ (c : Thread nD τ) none) Set.univ J Q)
        -∗ wp frame (wpE (defs₀ (F := F)) 𝒱₀ (c : Thread nD τ) none) Set.univ
          (dite (b = 1#1) (fun h => .op (.waitDma2 (sS h) (src h) kvpM (hsw h) (hdw h)) fun _ => J) fun _ => J) Q) := by
  unfold sendOut owesE
  by_cases h : b = 1#1
  · have hs := hb.mp h
    rw [dif_pos h, if_pos hs, hsS h]
    iintro ⟨#HI, Hat, Hc, ⟨%W, HO⟩⟩ Hk
    iapply (Rounds.wp_wait_rest_token 𝒱₀ ER (exRd KV) (c : Thread nD τ) none (κ := K (sendCell c k))
        (wpE_waitDma2_eq 𝒱₀ (c : Thread nD τ) none Set.univ) (Set.mem_univ _) () (O := 0) (W := W) (R := 0) (m := 0) (T := ∅)
        ((Nat.zero_add _).trans (Eq.trans (by unfold N; rfl) (expect_send KV c k hs).symm))) $$ [Hc HO Hat]
    · isplitr; · iexact HI
      isplitl [Hc]; · unfold N; iexact Hc
      isplitl [HO]; · iexact HO
      isplitr; · rw [MayWait_zero]; iempintro
      iexact Hat
    iintro ⟨HO, Hat, -, -⟩
    iapply Hk
    isplitl [Hat]; · iapply (spent_one KV _); iexact Hat
    iexists _; iexact HO
  · rw [dif_neg h]
    have hs : ¬ Sends c k := fun hs => h (hb.mpr hs)
    iintro ⟨#HI, Hat, -, HO⟩ Hk
    iapply Hk
    isplitl [Hat]; · iapply (spent_send KV c k hs); iexact Hat
    iexact HO

end Cert.Attn

end
-- ==== Proof.Loops.lean ====
/-
# The loops over the tiles, whole

A loop of trips carries the running state through the trips one after another.
-/
module

public import proofs.«01_k».proof.Proof.Trips
public import proofs.«01_k».proof.Proof.Comm

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The first `k` of `n` steps, in order. -/
def steps {α : Type} {n : ℕ} (G : Fin n → α → α) : ℕ → α → α
  | 0, a => a
  | k + 1, a => if h : k < n then G ⟨k, h⟩ (steps G k a) else steps G k a

theorem steps_succ {α : Type} {n : ℕ} (G : Fin n → α → α) (k : Fin n) (a : α) : steps G (k.val + 1) a = G k (steps G k.val a) := by
  rw [steps, dif_pos k.isLt]

theorem steps_zero {α : Type} {n : ℕ} (G : Fin n → α → α) (a : α) : steps G 0 a = a := rfl

/-- All the steps. -/
def stepsAll {α : Type} {n : ℕ} (G : Fin n → α → α) (a : α) : α := steps G n a

/-- A loop whose every trip takes the state one step takes it through all the steps. -/
theorem loop_steps {α : Type} (P : α → sProp 𝕄) (c : Dev nD) {w : ℕ} (lb ub st : BitVec w) (hok : Scf.OK lb ub st)
    (body : Fin (Scf.trips lb ub st) → Unit → Prog (TpuEff nD τ sig (Elt F) Λ₀ .tc) Unit) (G : Fin (Scf.trips lb ub st) → α → α)
    (hb : ∀ k a, P a ⊢ wp frame (wpE (defs₀ (F := F)) 𝒱₀ (c : Thread nD τ) none) Set.univ (body k ⟨⟩) (fun _ => P (G k a))) (a : α) :
    P a ⊢ wp frame (wpE (defs₀ (F := F)) 𝒱₀ (c : Thread nD τ) none) Set.univ (Scf.for lb ub st hok () body) (fun _ => P (stepsAll G a)) := by
  have hI : ∀ (k : Fin (Scf.trips lb ub st)) (acc : Unit), (fun (j : ℕ) (_ : Unit) => P (steps G j a)) k acc
      ⊢ wp frame (wpE (defs₀ (F := F)) 𝒱₀ (c : Thread nD τ) none) Set.univ (body k acc) ((fun (j : ℕ) (_ : Unit) => P (steps G j a)) (k.val + 1)) := by
    intro k acc
    have h := hb k (steps G k.val a)
    rw [← steps_succ G k a] at h
    exact h
  iintro HP
  iapply (Scf.wp_for frame (wpE (defs₀ (F := F)) 𝒱₀ (c : Thread nD τ) none) Set.univ lb ub st hok () body (fun (j : ℕ) (_ : Unit) => P (steps G j a)) hI)
  isplitl [HP]
  · rw [steps_zero]; iexact HP
  · iintro %acc HP
    rw [stepsAll]; iexact HP

/-- The same before a continuation. -/
theorem loop_bind {α : Type} (P : α → sProp 𝕄) (c : Dev nD) {w : ℕ} (L : Scf.Loop w) (hok : L.OK)
    (body : Fin L.trips → Unit → Prog (TpuEff nD τ sig (Elt F) Λ₀ .tc) Unit) (G : Fin L.trips → α → α)
    (hb : ∀ k a, P a ⊢ wp frame (wpE (defs₀ (F := F)) 𝒱₀ (c : Thread nD τ) none) Set.univ (body k ⟨⟩) (fun _ => P (G k a))) (a : α)
    {β : Type} {kk : Unit → Prog (TpuEff nD τ sig (Elt F) Λ₀ .tc) β} {Q : β → sProp 𝕄} :
    P a ⊢ iprop((P (stepsAll G a) -∗ wp frame (wpE (defs₀ (F := F)) 𝒱₀ (c : Thread nD τ) none) Set.univ (kk ⟨⟩) Q)
      -∗ wp frame (wpE (defs₀ (F := F)) 𝒱₀ (c : Thread nD τ) none) Set.univ (Scf.Loop.for L hok ⟨⟩ body >>= kk) Q) := by
  rw [wp_bind]
  iintro HP Hk
  iapply (wp_wand_r frame (wpE (defs₀ (F := F)) 𝒱₀ (c : Thread nD τ) none) Set.univ)
  isplitl [HP]
  · iapply (loop_steps P c L.lb L.ub L.st hok body G hb a); iexact HP
  · iintro %_ HP
    iapply Hk; iexact HP

/-! ## Staging a packed block -/

/-- What the scratch buffer holds once a block has been copied into it. -/
def stage (X : BufTy.Contents (Elt F) (main_v6 : Ref sig .tc).ty) : KVC (F := F) := kvpM.view.read (Elt F) X

theorem stage_write (f : KVC (F := F)) (p : S8x2048x256.Idx → Elt F .bf16) : kvM.view.write (Elt F) f p Finset.univ = p := by
  exact View.write_whole_univ _ _ _

/-- A copy into the scratch buffer and its wait. -/
theorem stage_step (c : Dev nD) {src : Memref sig .tc .hbm S8x2048x256 .bf16} {q : PosShare TreeShare} {fs : Buf (Elt F) (src.view.loc (c : Thread nD τ))}
    {X : BufTy.Contents (Elt F) (main_v6 : Ref sig .tc).ty} (hX : src.view.read (Elt F) fs = kvpM.view.read (Elt F) X)
    {sm : DmaSem sig} (hsm : sm = chunkS) {h₁ h₂ h₃ h₄ h₅}
    {α : Type} {cont : PUnit → Prog (TpuEff nD τ sig (Elt F) Λ₀ .tc) α} {Q : α → sProp 𝕄} :
    iprop((src.view.loc (c : Thread nD τ) ↦[src.view.set]{q} fs) ∗ (∃ f, kvM.view.loc (c : Thread nD τ) ↦[kvM.view.set]{fullShare} f)
        ∗ semVal (chunkCell c) 0 ∗ owesE c 0)
      ⊢ iprop(((src.view.loc (c : Thread nD τ) ↦[src.view.set]{q} fs) ∗ (kvM.view.loc (c : Thread nD τ) ↦[kvM.view.set]{fullShare} stage X)
            ∗ semVal (chunkCell c) 0 ∗ owesE c 0
          -∗ wp frame (wpE (defs₀ (F := F)) 𝒱₀ (c : Thread nD τ) none) Set.univ (cont ⟨⟩) Q)
        -∗ wp frame (wpE (defs₀ (F := F)) 𝒱₀ (c : Thread nD τ) none) Set.univ
          (.op (.enqueueDma src (.here kvM) (.dma sm) h₁ h₂ h₃) fun _ => .op (.waitDma2 sm src kvM h₄ h₅) cont) Q) := by
  subst hsm
  unfold owesE
  iintro ⟨Hs, ⟨%f, Hd⟩, Hv, ⟨%W, HO⟩⟩ Hk
  iapply (Transfers.wp_dmaLocal EC₀ 𝒱₀ (c : Thread nD τ) none () N rfl N_pos (Finset.Subset.refl _)) $$ [Hs Hd Hv]
  · isplitl [Hs]; · iexact Hs
    isplitl [Hd]; · iexact Hd
    iexact Hv
  iintro HF
  iapply (Transfers.wp_waitLocal EC₀ 𝒱₀ (c : Thread nD τ) none () (N := N) rfl) $$ [HF HO]
  · isplitl [HF]; · iexact HF
    iexact HO
  iintro ⟨⟨Hd, Hs⟩, Hv, HO⟩
  iapply Hk
  isplitl [Hs]; · iexact Hs
  isplitl [Hd]
  · rw [stage, ← hX]
    iapply (Entails.of_eq (congrArg (fun g => (kvM.view.loc (c : Thread nD τ) ↦[kvM.view.set]{fullShare} g : sProp 𝕄)) (stage_write f _)))
    iexact Hd
  isplitl [Hv]; · iexact Hv
  iexists _; iexact HO

theorem stage_slot (c : Dev nD) {j : Dev nD} {src : Memref sig .tc .hbm S8x2048x256 .bf16} (hsrc : src = slotM j) {f : SlotC (F := F)}
    {X : BufTy.Contents (Elt F) (main_v6 : Ref sig .tc).ty} (hX : (slotM j).view.read (Elt F) f = kvpM.view.read (Elt F) X)
    {sm : DmaSem sig} (hsm : sm = chunkS) {h₁ h₂ h₃ h₄ h₅}
    {α : Type} {cont : PUnit → Prog (TpuEff nD τ sig (Elt F) Λ₀ .tc) α} {Q : α → sProp 𝕄} :
    iprop(slotPts c j f ∗ (∃ f, kvM.view.loc (c : Thread nD τ) ↦[kvM.view.set]{fullShare} f) ∗ semVal (chunkCell c) 0 ∗ owesE c 0)
      ⊢ iprop((slotPts c j f ∗ (kvM.view.loc (c : Thread nD τ) ↦[kvM.view.set]{fullShare} stage X) ∗ semVal (chunkCell c) 0 ∗ owesE c 0
          -∗ wp frame (wpE (defs₀ (F := F)) 𝒱₀ (c : Thread nD τ) none) Set.univ (cont ⟨⟩) Q)
        -∗ wp frame (wpE (defs₀ (F := F)) 𝒱₀ (c : Thread nD τ) none) Set.univ
          (.op (.enqueueDma src (.here kvM) (.dma sm) h₁ h₂ h₃) fun _ => .op (.waitDma2 sm src kvM h₄ h₅) cont) Q) := by
  subst hsrc
  exact stage_step c hX hsm

/-! ## One received block -/

/-- The running state beside whatever the scratch buffer holds. -/
def flashAny (c : Dev nD) (X6 : QC (F := F)) (S : St (F := F)) : sProp 𝕄 := iprop(∃ X7, flashPts c X6 X7 S)

/-- A slot at any contents. -/
def slotAny (c j : Dev nD) : sProp 𝕄 := iprop(∃ f, slotPts (F := F) c j f)

/-- The slots no other device writes. -/
def kept (c j : Dev nD) : sProp 𝕄 := if j.val < c.val then iprop(emp) else slotAny (F := F) c j

/-- A guarded block: wait for it, stage it, run the loop over it. -/
theorem chunk_if (KV : Packed (F := F)) (K : GSem nD τ sig → ℕ) (c j : Dev nD) (X6 : QC (F := F)) (S : St (F := F))
    {b : BitVec 1} (hb : b = 1#1 ↔ j.val < c.val)
    {rS : b = 1#1 → DmaSem sig} (hrS : ∀ h, rS h = recvS j) {sl : b = 1#1 → Memref sig .tc .hbm S8x2048x256 .bf16} (hsl : ∀ h, sl h = slotM j)
    {sm : DmaSem sig} (hsm : sm = chunkS)
    {h₁ : ∀ h, (sl h).view.WordExact} {h₂ : ∀ h, (sl h).view.WordExact} {h₃ : ∀ h, (sl h).view.WordExact} {h₄ : b = 1#1 → kvM.view.WordExact}
    {h₅ : ∀ h : b = 1#1, DmaTarget.Typed (nD := nD) Space.hbm (.dma sm) (DmaTarget.here (p := (.tc : Proc τ)) kvM)}
    {h₆ : ∀ h, (sl h).view.WordExact} {h₇ : b = 1#1 → kvM.view.WordExact}
    {w : ℕ} {L : Scf.Loop w} {hok : b = 1#1 → L.OK} {body : b = 1#1 → Fin L.trips → Unit → Prog (TpuEff nD τ sig (Elt F) Λ₀ .tc) Unit}
    (G : b = 1#1 → KVC (F := F) → Fin L.trips → St (F := F) → St (F := F))
    (hL : ∀ h X7 k S, flashPts c X6 X7 S ⊢ wp frame (wpE (defs₀ (F := F)) 𝒱₀ (c : Thread nD τ) none) Set.univ (body h k ⟨⟩) (fun _ => flashPts c X6 X7 (G h X7 k S)))
    {β : Type} {J : Prog (TpuEff nD τ sig (Elt F) Λ₀ .tc) β} {Q : β → sProp 𝕄} :
    iprop(recvIn KV K c j ∗ kept (F := F) c j ∗ flashAny c X6 S ∗ semVal (chunkCell c) 0 ∗ owesE c 0)
      ⊢ iprop((spent KV (recvCell c j) ∗ slotAny (F := F) c j ∗ flashAny c X6 (if h : b = 1#1 then stepsAll (G h (stage (KV j))) S else S)
            ∗ semVal (chunkCell c) 0 ∗ owesE c 0
          -∗ wp frame (wpE (defs₀ (F := F)) 𝒱₀ (c : Thread nD τ) none) Set.univ J Q)
        -∗ wp frame (wpE (defs₀ (F := F)) 𝒱₀ (c : Thread nD τ) none) Set.univ
          (dite (b = 1#1) (fun h => .op (.waitDma2 (rS h) (sl h) (sl h) (h₁ h) (h₂ h)) fun _ =>
            .op (.enqueueDma (sl h) (.here kvM) (.dma sm) (h₃ h) (h₄ h) (h₅ h)) fun _ =>
            .op (.waitDma2 sm (sl h) kvM (h₆ h) (h₇ h)) fun _ => Scf.Loop.for L (hok h) ⟨⟩ (body h) >>= fun _ => J) fun _ => J) Q) := by
  by_cases h : b = 1#1
  · have hj := hb.mp h
    rw [dif_pos h, dif_pos h]
    unfold kept flashAny
    rw [if_pos hj]
    iintro ⟨HR, -, ⟨%X7, HF⟩, Hv, HO⟩ Hk
    iapply (recv_step KV K c j hj (hrS h) (hsl h)) $$ [HR HO]
    · isplitl [HR]; · iexact HR
      iexact HO
    iintro ⟨Hsp, Hpay, HO⟩
    unfold recvPay
    icases Hpay with ⟨%f, %hf, Hs⟩
    obtain ⟨f8, f9, f10⟩ := S
    ihave HF' := (Entails.of_eq (flashPts_mk c X6 X7 f8 f9 f10)) $$ HF
    icases HF' with ⟨HQ, HKV, HA, HM, HL⟩
    iapply (stage_slot c (hsl h) hf hsm) $$ [Hs HKV Hv HO]
    · isplitl [Hs]; · iexact Hs
      isplitl [HKV]; · iexists _; iexact HKV
      isplitl [Hv]; · iexact Hv
      iexact HO
    iintro ⟨Hs, HKV, Hv, HO⟩
    ihave HF := (Entails.of_eq (flashPts_mk c X6 (stage (KV j)) f8 f9 f10).symm) $$ [HQ HKV HA HM HL]
    · isplitl [HQ]; · iexact HQ
      isplitl [HKV]; · iexact HKV
      isplitl [HA]; · iexact HA
      isplitl [HM]; · iexact HM
      iexact HL
    iapply (loop_bind (fun S => flashPts c X6 (stage (KV j)) S) c L (hok h) (body h) (G h (stage (KV j))) (fun k S => hL h (stage (KV j)) k S) (f8, f9, f10)) $$ HF
    iintro HF
    iapply Hk
    isplitl [Hsp]; · iexact Hsp
    isplitl [Hs]; · unfold slotAny; iexists _; iexact Hs
    isplitl [HF]; · iexists _; iexact HF
    isplitl [Hv]; · iexact Hv
    iexact HO
  · have hj : ¬ j.val < c.val := fun hj => h (hb.mpr hj)
    rw [dif_neg h, dif_neg h]
    unfold kept recvIn
    rw [if_neg hj, if_neg hj]
    iintro ⟨⟨#HI, Hat, -⟩, Hs, HF, Hv, HO⟩ Hk
    iapply Hk
    isplitl [Hat]; · iapply (spent_recv KV c j hj); iexact Hat
    isplitl [Hs]; · iexact Hs
    isplitl [HF]; · iexact HF
    isplitl [Hv]; · iexact Hv
    iexact HO

end Cert.Attn

end
-- ==== Proof.Parts.lean ====
/-
# The body, part by part
-/
module

public import proofs.«01_k».proof.Proof.Loops

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (KV : Packed (F := F)) (K : GSem nD τ sig → ℕ) (c : Dev nD)

/-! ## Where the guarded steps point -/

theorem slot_at {off : Fin 4 → ℕ} {inb hs} (j : Dev nD) (ho : off = ![j.val, 0, 0, 0]) :
    (kvallM.slice (Rect.unit (s := S4x8x2048x256) off S1x8x2048x256.size inb) hs).squeeze S8x2048x256 squeezes_S1x8x2048x256_S8x2048x256 = slotM j := by
  subst ho; rfl

theorem sends_0 : ∀ c : Dev nD, k0_cond1 c = 1#1 ↔ Sends c 0 := by decide +kernel
theorem sends_1 : ∀ c : Dev nD, k0_cond2 c = 1#1 ↔ Sends c 1 := by decide +kernel
theorem sends_2 : ∀ c : Dev nD, k0_cond3 c = 1#1 ↔ Sends c 2 := by decide +kernel
theorem sends_0' : ∀ c : Dev nD, k0_cond8 c = 1#1 ↔ Sends c 0 := by decide +kernel
theorem sends_1' : ∀ c : Dev nD, k0_cond9 c = 1#1 ↔ Sends c 1 := by decide +kernel
theorem sends_2' : ∀ c : Dev nD, k0_cond10 c = 1#1 ↔ Sends c 2 := by decide +kernel
theorem own_on : ∀ c : Dev nD, k0_cond4 c = 1#1 := by decide +kernel
theorem recv_2 : ∀ c : Dev nD, k0_cond5 c = 1#1 ↔ (peer c 2).val < c.val := by decide +kernel
theorem recv_1 : ∀ c : Dev nD, k0_cond6 c = 1#1 ↔ (peer c 1).val < c.val := by decide +kernel
theorem recv_0 : ∀ c : Dev nD, k0_cond7 c = 1#1 ↔ (peer c 0).val < c.val := by decide +kernel

theorem dev1 : ∀ c : Dev nD, (⟨k0_dev1 c, k0_dev1_lt c⟩ : Dev nD) = peer c 0 := by decide +kernel
theorem dev2 : ∀ c : Dev nD, (⟨k0_dev2 c, k0_dev2_lt c⟩ : Dev nD) = peer c 1 := by decide +kernel
theorem dev3 : ∀ c : Dev nD, (⟨k0_dev3 c, k0_dev3_lt c⟩ : Dev nD) = peer c 2 := by decide +kernel
theorem dev4 : ∀ (c : Dev nD) (h : k0_cond1 c = 1#1), (⟨k0_dev4 c, k0_dev4_lt c h⟩ : Dev nD) = peer c 0 := by decide +kernel
theorem dev5 : ∀ (c : Dev nD) (h : k0_cond2 c = 1#1), (⟨k0_dev5 c, k0_dev5_lt c h⟩ : Dev nD) = peer c 1 := by decide +kernel
theorem dev6 : ∀ (c : Dev nD) (h : k0_cond3 c = 1#1), (⟨k0_dev6 c, k0_dev6_lt c h⟩ : Dev nD) = peer c 2 := by decide +kernel

theorem at2 : ∀ (c : Dev nD), k0_cond1 c = 1#1 → k0_off2 c = ![c.val, 0, 0, 0] := by decide +kernel
theorem at4 : ∀ (c : Dev nD), k0_cond2 c = 1#1 → k0_off4 c = ![c.val, 0, 0, 0] := by decide +kernel
theorem at6 : ∀ (c : Dev nD), k0_cond3 c = 1#1 → k0_off6 c = ![c.val, 0, 0, 0] := by decide +kernel
theorem at88 : ∀ (c : Dev nD), k0_cond5 c = 1#1 → k0_off88 c = ![(peer c 2).val, 0, 0, 0] := by decide +kernel
theorem at100 : ∀ (c : Dev nD), k0_cond6 c = 1#1 → k0_off100 c = ![(peer c 1).val, 0, 0, 0] := by decide +kernel
theorem at112 : ∀ (c : Dev nD), k0_cond7 c = 1#1 → k0_off112 c = ![(peer c 0).val, 0, 0, 0] := by decide +kernel

theorem semS0 : ((SemArray.slice cc0_scratch7 (Rect.unit (s := S3) ![0] S1.size inb_S3_S1_0)).squeeze S_ squeezes_S1_S_).sem = sendS 0 := by decide +kernel
theorem semS1 : ((SemArray.slice cc0_scratch7 (Rect.unit (s := S3) ![1] S1.size inb_S3_S1_1)).squeeze S_ squeezes_S1_S_).sem = sendS 1 := by decide +kernel
theorem semS2 : ((SemArray.slice cc0_scratch7 (Rect.unit (s := S3) ![2] S1.size inb_S3_S1_2)).squeeze S_ squeezes_S1_S_).sem = sendS 2 := by decide +kernel
theorem semR1 : ∀ (c : Dev nD) (h : k0_cond1 c = 1#1), ((SemArray.slice cc0_scratch8 (Rect.unit (s := S4) (k0_off1 c) S1.size (k0_off1_inb c h))).squeeze S_ squeezes_S1_S_).sem = recvS c := by decide +kernel
theorem semR3 : ∀ (c : Dev nD) (h : k0_cond2 c = 1#1), ((SemArray.slice cc0_scratch8 (Rect.unit (s := S4) (k0_off3 c) S1.size (k0_off3_inb c h))).squeeze S_ squeezes_S1_S_).sem = recvS c := by decide +kernel
theorem semR5 : ∀ (c : Dev nD) (h : k0_cond3 c = 1#1), ((SemArray.slice cc0_scratch8 (Rect.unit (s := S4) (k0_off5 c) S1.size (k0_off5_inb c h))).squeeze S_ squeezes_S1_S_).sem = recvS c := by decide +kernel
theorem semR87 : ∀ (c : Dev nD) (h : k0_cond5 c = 1#1), ((SemArray.slice cc0_scratch8 (Rect.unit (s := S4) (k0_off87 c) S1.size (k0_off87_inb c h))).squeeze S_ squeezes_S1_S_).sem = recvS (peer c 2) := by decide +kernel
theorem semR99 : ∀ (c : Dev nD) (h : k0_cond6 c = 1#1), ((SemArray.slice cc0_scratch8 (Rect.unit (s := S4) (k0_off99 c) S1.size (k0_off99_inb c h))).squeeze S_ squeezes_S1_S_).sem = recvS (peer c 1) := by decide +kernel
theorem semR111 : ∀ (c : Dev nD) (h : k0_cond7 c = 1#1), ((SemArray.slice cc0_scratch8 (Rect.unit (s := S4) (k0_off111 c) S1.size (k0_off111_inb c h))).squeeze S_ squeezes_S1_S_).sem = recvS (peer c 0) := by decide +kernel
theorem semC : SemArray.sem cc0_scratch6 = chunkS := by decide +kernel

/-! ## Signals, barrier, the first two sends -/

/-- What a signal takes. -/
def sigIn (k : Fin 3) : sProp 𝕄 :=
  iprop(cellInv ER (exRd KV) (K (barCell (peer c k))) (barCell (peer c k)) ∗ dutyTok ER (barCell (peer c k)) 0 c
    ∗ reached ER (barCell (peer c k)) 0 ∗ give (peer c k) c)
/-- What the barrier's wait takes. -/
def barIn : sProp 𝕄 :=
  iprop(cellInv ER (exRd KV) (K (barCell c)) (barCell c) ∗ cred (tallyAt (barCell c) () 3) ∗ levAts L lv ∗ atPos ER (barCell c) 0 ∅ 0)

theorem p46 :
    iprop(sigIn KV K c 0 ∗ sigIn KV K c 1 ∗ sigIn KV K c 2 ∗ barIn KV K c ∗ sendIn KV K c 0 ∗ sendIn KV K c 1 ∗ owesE (F := F) c (O₀ c))
      ⊢ wp frame (wpE (defs₀ (F := F)) 𝒱₀ (c : Thread nD τ) none) Set.univ (k0_part46 (F := F) kvpM (Memref.isWhole_whole _) xM (Memref.isWhole_whole _) wqM (Memref.isWhole_whole _) woM (Memref.isWhole_whole _) outM (Memref.isWhole_whole _) kvallM (Memref.isWhole_whole _) qM (Memref.isWhole_whole _) kvM (Memref.isWhole_whole _) accM (Memref.isWhole_whole _) mM (Memref.isWhole_whole _) lM (Memref.isWhole_whole _) ctxM (Memref.isWhole_whole _) cc0_scratch6 cc0_scratch7 cc0_scratch8)
        (fun r => iprop(∃ v2 v25, ⌜r = ⟨c, v2, v25⟩⌝ ∗ atPos ER (barCell c) (0 + 1) ∅ 0 ∗ sendOut (F := F) c 0 ∗ sendOut (F := F) c 1
          ∗ give (F := F) c (peer c 2) ∗ owesE (F := F) c (0 + sOwe c 2))) := by
  rw [k0_part46_eq_skeleton]
  unfold k0_part46_skel
  simp only [semSignalWord, semWaitWord, Prog.lift, Prog.bind_op, Prog.bind_ret, Prog.pure_eq_ret, Prog.bind_assoc, wp_deviceId]
  unfold sigIn barIn
  iintro ⟨H0, H1, H2, ⟨HIb, Hcb, Hlev, Hatb⟩, HS0, HS1, HO⟩
  unfold O₀
  iapply (signal_step KV K c 0 (dev1 c) (sends c + bOwe c 2 + bOwe c 1)) $$ [H0 HO]
  · icases H0 with ⟨Ha, Hb, Hc, Hd⟩
    isplitl [Ha]; · iexact Ha
    isplitl [Hb]; · iexact Hb
    isplitl [Hc]; · iexact Hc
    isplitl [Hd]; · iexact Hd
    iexact HO
  iintro HO
  iapply (signal_step KV K c 1 (dev2 c) (sends c + bOwe c 2)) $$ [H1 HO]
  · icases H1 with ⟨Ha, Hb, Hc, Hd⟩
    isplitl [Ha]; · iexact Ha
    isplitl [Hb]; · iexact Hb
    isplitl [Hc]; · iexact Hc
    isplitl [Hd]; · iexact Hd
    iexact HO
  iintro HO
  iapply (signal_step KV K c 2 (dev3 c) (sends c)) $$ [H2 HO]
  · icases H2 with ⟨Ha, Hb, Hc, Hd⟩
    isplitl [Ha]; · iexact Ha
    isplitl [Hb]; · iexact Hb
    isplitl [Hc]; · iexact Hc
    isplitl [Hd]; · iexact Hd
    iexact HO
  iintro HO
  iapply (barrier_step KV K c) $$ [HIb Hcb Hlev Hatb HO]
  · isplitl [HIb]; · iexact HIb
    isplitl [Hcb]; · iexact Hcb
    isplitl [Hlev]; · iexact Hlev
    isplitl [Hatb]; · iexact Hatb
    iexact HO
  iintro ⟨Hatb, ⟨Hg0, Hg1, Hg2⟩, HO⟩
  unfold sends
  iapply (send_if KV K c 0 (sends_0 c) (dev4 c) (fun h => slot_at c (at2 c h)) (fun _ => semS0) (semR1 c) (0 + sOwe c 2 + sOwe c 1)) $$ [HS0 Hg0 HO]
  · isplitl [HS0]; · iexact HS0
    isplitl [Hg0]; · iexact Hg0
    iexact HO
  iintro ⟨Hs0, HO⟩
  iapply (send_if KV K c 1 (sends_1 c) (dev5 c) (fun h => slot_at c (at4 c h)) (fun _ => semS1) (semR3 c) (0 + sOwe c 2)) $$ [HS1 Hg1 HO]
  · isplitl [HS1]; · iexact HS1
    isplitl [Hg1]; · iexact Hg1
    iexact HO
  iintro ⟨Hs1, HO⟩
  rw [wp_ret]
  imodintro
  iexists _, _
  isplitr; · ipureintro; rfl
  isplitl [Hatb]; · iexact Hatb
  isplitl [Hs0]; · iexact Hs0
  isplitl [Hs1]; · iexact Hs1
  isplitl [Hg2]; · iexact Hg2
  iexact HO

/-! ## The queries -/

abbrev XC : Type := BufTy.Contents (Elt F) (cc0_stg0_0 : Ref sig .tc).ty
abbrev WC : Type := BufTy.Contents (Elt F) (cc0_stg1_0 : Ref sig .tc).ty
abbrev WoC : Type := BufTy.Contents (Elt F) (cc0_stg2_0 : Ref sig .tc).ty
abbrev OutC : Type := BufTy.Contents (Elt F) (cc0_stg3_0 : Ref sig .tc).ty

variable (X : XC (F := F)) (Wq : WC (F := F))

abbrev rdX : Vec F S2048x1024 .bf16 :=
  View.readAt (Elt F) xM.view (Rect.unit (s := S2048x1024) ![0, 0] S2048x1024.size inb_S2048x1024_S2048x1024_0_0).toLoadRect X
abbrev rdW0 : Vec F S1024x256 .bf16 :=
  View.readAt (Elt F) wqM.view (Rect.unit (s := S1024x1024) ![0, 0] S1024x256.size inb_S1024x1024_S1024x256_0_0).toLoadRect Wq
abbrev rdW1 : Vec F S1024x256 .bf16 :=
  View.readAt (Elt F) wqM.view (Rect.unit (s := S1024x1024) ![0, 256] S1024x256.size inb_S1024x1024_S1024x256_0_256).toLoadRect Wq
abbrev rdW2 : Vec F S1024x256 .bf16 :=
  View.readAt (Elt F) wqM.view (Rect.unit (s := S1024x1024) ![0, 512] S1024x256.size inb_S1024x1024_S1024x256_0_512).toLoadRect Wq
abbrev rdW3 : Vec F S1024x256 .bf16 :=
  View.readAt (Elt F) wqM.view (Rect.unit (s := S1024x1024) ![0, 768] S1024x256.size inb_S1024x1024_S1024x256_0_768).toLoadRect Wq

/-- The first three heads' queries written. -/
def q3 (f : QC (F := F)) : QC (F := F) :=
  qM.view.writes (Elt F) f [⟨Rect.unit (s := S8x2048x128) ![2, 0, 0] S1x2048x128.size inb_S8x2048x128_S1x2048x128_2_0_0, k0_pay258 (rdX X) (rdW1 Wq)⟩, ⟨Rect.unit (s := S8x2048x128) ![1, 0, 0] S1x2048x128.size inb_S8x2048x128_S1x2048x128_1_0_0, k0_pay256 (rdX X) (rdW0 Wq)⟩,
    ⟨Rect.unit (s := S8x2048x128) ![0, 0, 0] S1x2048x128.size inb_S8x2048x128_S1x2048x128_0_0_0, k0_pay255 (rdX X) (rdW0 Wq)⟩]
/-- The next four. -/
def q7 (v58 : FVec F S2048x128 .bf16) (f : QC (F := F)) : QC (F := F) :=
  qM.view.writes (Elt F) f [⟨Rect.unit (s := S8x2048x128) ![6, 0, 0] S1x2048x128.size inb_S8x2048x128_S1x2048x128_6_0_0, k0_pay265 (rdX X) (rdW3 Wq)⟩, ⟨Rect.unit (s := S8x2048x128) ![5, 0, 0] S1x2048x128.size inb_S8x2048x128_S1x2048x128_5_0_0, k0_pay263 (rdX X) (rdW2 Wq)⟩,
    ⟨Rect.unit (s := S8x2048x128) ![4, 0, 0] S1x2048x128.size inb_S8x2048x128_S1x2048x128_4_0_0, k0_pay262 (rdX X) (rdW2 Wq)⟩, ⟨Rect.unit (s := S8x2048x128) ![3, 0, 0] S1x2048x128.size inb_S8x2048x128_S1x2048x128_3_0_0, k0_pay260 v58⟩]
/-- The last. -/
def q8 (v91 : FVec F S2048x128 .f32) (f : QC (F := F)) : QC (F := F) :=
  qM.view.writes (Elt F) f [⟨Rect.unit (s := S8x2048x128) ![7, 0, 0] S1x2048x128.size inb_S8x2048x128_S1x2048x128_7_0_0, k0_pay267 v91⟩]

/-- The staged rows and projection. -/
def inPts : sProp 𝕄 :=
  iprop((xM.view.loc (c : Thread nD τ) ↦[xM.view.set]{fullShare} X) ∗ (wqM.view.loc (c : Thread nD τ) ↦[wqM.view.set]{fullShare} Wq))
def qPts (f : QC (F := F)) : sProp 𝕄 := qM.view.loc (c : Thread nD τ) ↦[qM.view.set]{fullShare} f

theorem p47 (v2 : BitVec 32) (v25 : BitVec 1) (f6 : QC (F := F)) :
    iprop(sendIn KV K c 2 ∗ give (F := F) c (peer c 2) ∗ owesE (F := F) c (0 + sOwe c 2) ∗ inPts c X Wq ∗ qPts c f6)
      ⊢ wp frame (wpE (defs₀ (F := F)) 𝒱₀ (c : Thread nD τ) none) Set.univ (k0_part47 (F := F) kvpM (Memref.isWhole_whole _) xM (Memref.isWhole_whole _) wqM (Memref.isWhole_whole _) woM (Memref.isWhole_whole _) outM (Memref.isWhole_whole _) kvallM (Memref.isWhole_whole _) qM (Memref.isWhole_whole _) kvM (Memref.isWhole_whole _) accM (Memref.isWhole_whole _) mM (Memref.isWhole_whole _) lM (Memref.isWhole_whole _) ctxM (Memref.isWhole_whole _) cc0_scratch6 cc0_scratch7 cc0_scratch8 c v2 v25)
        (fun r => iprop(⌜r = k0_pay259 (rdX X) (rdW1 Wq)⌝ ∗ sendOut (F := F) c 2 ∗ owesE (F := F) c 0 ∗ inPts c X Wq ∗ qPts c (q3 X Wq f6))) := by
  rw [k0_part47_eq_skeleton]
  unfold k0_part47_skel
  simp only [semSignalWord, semWaitWord, Prog.lift, Prog.bind_op, Prog.bind_ret, Prog.pure_eq_ret, Prog.bind_assoc, wp_deviceId]
  iintro ⟨HS2, Hg2, HO, Hin, Hq⟩
  iapply (send_if KV K c 2 (sends_2 c) (dev6 c) (fun h => slot_at c (at6 c h)) (fun _ => semS2) (semR5 c) 0) $$ [HS2 Hg2 HO]
  · isplitl [HS2]; · iexact HS2
    isplitl [Hg2]; · iexact Hg2
    iexact HO
  iintro ⟨Hs2, HO⟩
  unfold inPts qPts
  icases Hin with ⟨HR_arg1, HR_arg2⟩
  irename Hq => HW_arg6
  sl_exec
  sl_step
  isplitr; · ipureintro; rfl
  isplitl [Hs2]; · iexact Hs2
  isplitl [HO]; · iexact HO
  isplitl [HR_arg1 HR_arg2]
  · isplitl [HR_arg1]; · iexact HR_arg1
    iexact HR_arg2
  iexact HW_arg6

theorem p48 (v58 : FVec F S2048x128 .bf16) (f6 : QC (F := F)) :
    iprop(inPts c X Wq ∗ qPts c f6)
      ⊢ wp frame (wpE (defs₀ (F := F)) 𝒱₀ (c : Thread nD τ) none) Set.univ (k0_part48 (F := F) kvpM (Memref.isWhole_whole _) xM (Memref.isWhole_whole _) wqM (Memref.isWhole_whole _) woM (Memref.isWhole_whole _) outM (Memref.isWhole_whole _) kvallM (Memref.isWhole_whole _) qM (Memref.isWhole_whole _) kvM (Memref.isWhole_whole _) accM (Memref.isWhole_whole _) mM (Memref.isWhole_whole _) lM (Memref.isWhole_whole _) ctxM (Memref.isWhole_whole _) cc0_scratch6 cc0_scratch7 cc0_scratch8 v58)
        (fun r => iprop(⌜r = k0_pay266 (rdX X) (rdW3 Wq)⌝ ∗ inPts c X Wq ∗ qPts c (q7 X Wq v58 f6))) := by
  rw [k0_part48_eq_skeleton]
  unfold k0_part48_skel
  simp only [semSignalWord, semWaitWord, Prog.lift, Prog.bind_op, Prog.bind_ret, Prog.pure_eq_ret, Prog.bind_assoc, wp_deviceId]
  unfold inPts qPts
  iintro ⟨⟨HR_arg1, HR_arg2⟩, HW_arg6⟩
  sl_exec
  sl_step
  isplitr; · ipureintro; rfl
  isplitl [HR_arg1 HR_arg2]
  · isplitl [HR_arg1]; · iexact HR_arg1
    iexact HR_arg2
  iexact HW_arg6

/-! ## The device's own block and the first two received -/

/-- The running state before the first block. -/
def acc0 (f : AccC (F := F)) : AccC (F := F) :=
  accM.view.writes (Elt F) f [⟨Rect.unit (s := S64x128x256) ![0, 0, 0] S64x128x256.size inb_S64x128x256_S64x128x256_0_0_0, k0_pay270 (F := F)⟩]
def max0 (f : RowC (F := F)) : RowC (F := F) :=
  mM.view.writes (Elt F) f [⟨Rect.unit (s := S64x1x256) ![0, 0, 0] S64x1x256.size inb_S64x1x256_S64x1x256_0_0_0, k0_pay268 (F := F)⟩]
def sum0 (f : RowC (F := F)) : RowC (F := F) :=
  lM.view.writes (Elt F) f [⟨Rect.unit (s := S64x1x256) ![0, 0, 0] S64x1x256.size inb_S64x1x256_S64x1x256_0_0_0, k0_pay269 (F := F)⟩]
def st0 (S : St (F := F)) : St (F := F) := (acc0 S.1, max0 S.2.1, sum0 S.2.2)

def own1 (X6 : QC (F := F)) (X7 : KVC (F := F)) (k : Fin k0_t1_loop.trips) (S : St (F := F)) : St (F := F) :=
  trip geo256 (ownSc geo256 0#32) (tiles1 c (own_on c) k).1 (tiles1 c (own_on c) k).2 X6 X7 S
def own2 (X6 : QC (F := F)) (X7 : KVC (F := F)) (k : Fin k0_t2_loop.trips) (S : St (F := F)) : St (F := F) :=
  trip geo512 (ownSc geo512 256#32) (tiles2 c (own_on c) k).1 (tiles2 c (own_on c) k).2 X6 X7 S
def own3 (X6 : QC (F := F)) (X7 : KVC (F := F)) (k : Fin k0_t3_loop.trips) (S : St (F := F)) : St (F := F) :=
  trip geo768 (ownSc geo768 512#32) (tiles3 c (own_on c) k).1 (tiles3 c (own_on c) k).2 X6 X7 S
def own4 (X6 : QC (F := F)) (X7 : KVC (F := F)) (k : Fin k0_t4_loop.trips) (S : St (F := F)) : St (F := F) :=
  trip geo1024 (ownSc geo1024 768#32) (tiles4 c (own_on c) k).1 (tiles4 c (own_on c) k).2 X6 X7 S
def own5 (X6 : QC (F := F)) (X7 : KVC (F := F)) (k : Fin k0_t5_loop.trips) (S : St (F := F)) : St (F := F) :=
  trip geo1280 (ownSc geo1280 1024#32) (tiles5 c (own_on c) k).1 (tiles5 c (own_on c) k).2 X6 X7 S
def own6 (X6 : QC (F := F)) (X7 : KVC (F := F)) (k : Fin k0_t6_loop.trips) (S : St (F := F)) : St (F := F) :=
  trip geo1536 (ownSc geo1536 1280#32) (tiles6 c (own_on c) k).1 (tiles6 c (own_on c) k).2 X6 X7 S
def own7 (X6 : QC (F := F)) (X7 : KVC (F := F)) (k : Fin k0_t7_loop.trips) (S : St (F := F)) : St (F := F) :=
  trip geo1792 (ownSc geo1792 1536#32) (tiles7 c (own_on c) k).1 (tiles7 c (own_on c) k).2 X6 X7 S
def own8 (X6 : QC (F := F)) (X7 : KVC (F := F)) (k : Fin k0_t8_loop.trips) (S : St (F := F)) : St (F := F) :=
  trip geo2048 (ownSc geo2048 1792#32) (tiles8 c (own_on c) k).1 (tiles8 c (own_on c) k).2 X6 X7 S

/-- The device's own block: eight row tiles, each up to its diagonal. -/
def ownAll (X6 : QC (F := F)) (X7 : KVC (F := F)) (S : St (F := F)) : St (F := F) :=
  (stepsAll (own8 c X6 X7) (stepsAll (own7 c X6 X7) (stepsAll (own6 c X6 X7) (stepsAll (own5 c X6 X7) (stepsAll (own4 c X6 X7) (stepsAll (own3 c X6 X7) (stepsAll (own2 c X6 X7) (stepsAll (own1 c X6 X7) S))))))))

def blk9 (X6 : QC (F := F)) (h : k0_cond5 c = 1#1) (X7 : KVC (F := F)) (k : Fin k0_t9_loop.trips) (S : St (F := F)) : St (F := F) :=
  trip geo2048 (fullSc geo2048) (tiles9 c h k).1 (tiles9 c h k).2 X6 X7 S
/-- The block from the device 1 before, if there is one. -/
def upd9 (X6 : QC (F := F)) (S : St (F := F)) : St (F := F) :=
  if h : k0_cond5 c = 1#1 then stepsAll (blk9 c X6 h (stage (KV (peer c 2)))) S else S
def blk10 (X6 : QC (F := F)) (h : k0_cond6 c = 1#1) (X7 : KVC (F := F)) (k : Fin k0_t10_loop.trips) (S : St (F := F)) : St (F := F) :=
  trip geo2048 (fullSc geo2048) (tiles10 c h k).1 (tiles10 c h k).2 X6 X7 S
/-- The block from the device 2 before, if there is one. -/
def upd10 (X6 : QC (F := F)) (S : St (F := F)) : St (F := F) :=
  if h : k0_cond6 c = 1#1 then stepsAll (blk10 c X6 h (stage (KV (peer c 1)))) S else S
def blk11 (X6 : QC (F := F)) (h : k0_cond7 c = 1#1) (X7 : KVC (F := F)) (k : Fin k0_t11_loop.trips) (S : St (F := F)) : St (F := F) :=
  trip geo2048 (fullSc geo2048) (tiles11 c h k).1 (tiles11 c h k).2 X6 X7 S
/-- The block from the device 3 before, if there is one. -/
def upd11 (X6 : QC (F := F)) (S : St (F := F)) : St (F := F) :=
  if h : k0_cond7 c = 1#1 then stepsAll (blk11 c X6 h (stage (KV (peer c 0)))) S else S

theorem flashAny_mk (X6 : QC (F := F)) (S : St (F := F)) (X7 : KVC (F := F)) : flashPts c X6 X7 S ⊢ flashAny c X6 S := by
  unfold flashAny
  iintro H; iexists X7; iexact H

theorem flash_start (v91 : FVec F S2048x128 .f32) (f6 : QC (F := F)) (X7 : KVC (F := F)) (f8 : AccC (F := F)) (f9 f10 : RowC (F := F)) :
    iprop((qM.view.loc (c : Thread nD τ) ↦[qM.view.set]{fullShare} q8 v91 f6) ∗ (kvM.view.loc (c : Thread nD τ) ↦[kvM.view.set]{fullShare} X7)
        ∗ (accM.view.loc (c : Thread nD τ) ↦[accM.view.set]{fullShare} acc0 f8)
        ∗ (mM.view.loc (c : Thread nD τ) ↦[mM.view.set]{fullShare} max0 f9)
        ∗ (lM.view.loc (c : Thread nD τ) ↦[lM.view.set]{fullShare} sum0 f10))
      ⊢ flashPts c (q8 v91 f6) X7 (st0 (f8, f9, f10)) :=
  Entails.of_eq (flashPts_mk c (q8 v91 f6) X7 (acc0 f8) (max0 f9) (sum0 f10)).symm

theorem flashAny_elim (X6 : QC (F := F)) (S : St (F := F)) : flashAny c X6 S ⊢ iprop(∃ X7, flashPts c X6 X7 S) := by
  unfold flashAny
  exact Entails.refl

theorem p49 (v2 : BitVec 32) (v91 : FVec F S2048x128 .f32) (f6 : QC (F := F)) (S : St (F := F)) :
    iprop(recvIn KV K c (peer c 2) ∗ recvIn KV K c (peer c 1) ∗ kept (F := F) c (peer c 2) ∗ kept (F := F) c (peer c 1)
        ∗ kvpPts KV c fullShare.left ∗ semVal (chunkCell c) 0 ∗ owesE (F := F) c 0 ∗ flashAny c f6 S)
      ⊢ wp frame (wpE (defs₀ (F := F)) 𝒱₀ (c : Thread nD τ) none) Set.univ (k0_part49 (F := F) kvpM (Memref.isWhole_whole _) xM (Memref.isWhole_whole _) wqM (Memref.isWhole_whole _) woM (Memref.isWhole_whole _) outM (Memref.isWhole_whole _) kvallM (Memref.isWhole_whole _) qM (Memref.isWhole_whole _) kvM (Memref.isWhole_whole _) accM (Memref.isWhole_whole _) mM (Memref.isWhole_whole _) lM (Memref.isWhole_whole _) ctxM (Memref.isWhole_whole _) cc0_scratch6 cc0_scratch7 cc0_scratch8 c v2 v91)
        (fun _ => iprop(spent KV (recvCell c (peer c 2)) ∗ spent KV (recvCell c (peer c 1)) ∗ slotAny (F := F) c (peer c 2) ∗ slotAny (F := F) c (peer c 1)
          ∗ kvpPts KV c fullShare.left ∗ semVal (chunkCell c) 0 ∗ owesE (F := F) c 0
          ∗ flashAny c (q8 v91 f6) (upd10 KV c (q8 v91 f6) (upd9 KV c (q8 v91 f6) (ownAll c (q8 v91 f6) (stage (KV c)) (st0 S)))))) := by
  rw [k0_part49_eq_skeleton]
  unfold k0_part49_skel
  simp only [semSignalWord, semWaitWord, Prog.lift, Prog.bind_op, Prog.bind_ret, Prog.pure_eq_ret, Prog.bind_assoc, wp_deviceId]
  iintro ⟨Hr2, Hr1, Hk2, Hk1, Hs, Hv, HO, HF⟩
  icases (flashAny_elim c f6 S) $$ HF with ⟨%X7, HF⟩
  obtain ⟨f8, f9, f10⟩ := S
  ihave HF' := (Entails.of_eq (flashPts_mk c f6 X7 f8 f9 f10)) $$ HF
  icases HF' with ⟨HW_arg6, Hkv, HW_arg8, HW_arg9, HW_arg10⟩
  sl_exec
  rw [dif_pos (own_on c)]
  unfold kvpPts
  iapply (stage_step c (X := KV c) rfl semC) $$ [Hs Hkv Hv HO]
  · isplitl [Hs]; · iexact Hs
    isplitl [Hkv]; · iexists _; iexact Hkv
    isplitl [Hv]; · iexact Hv
    iexact HO
  iintro ⟨Hs, Hkv, Hv, HO⟩
  ihave HF := (flash_start c v91 f6 (stage (KV c)) f8 f9 f10) $$ [HW_arg6 Hkv HW_arg8 HW_arg9 HW_arg10]
  · isplitl [HW_arg6]; · iexact HW_arg6
    isplitl [Hkv]; · iexact Hkv
    isplitl [HW_arg8]; · iexact HW_arg8
    isplitl [HW_arg9]; · iexact HW_arg9
    iexact HW_arg10
  iapply (loop_bind (fun S => flashPts c (q8 v91 f6) (stage (KV c)) S) c k0_t1_loop _ _ (own1 c (q8 v91 f6) (stage (KV c)))
    (fun k S => trip1 c c (q8 v91 f6) (stage (KV c)) S v2 v91 (own_on c) k) _) $$ HF
  iintro HF
  iapply (loop_bind (fun S => flashPts c (q8 v91 f6) (stage (KV c)) S) c k0_t2_loop _ _ (own2 c (q8 v91 f6) (stage (KV c)))
    (fun k S => trip2 c c (q8 v91 f6) (stage (KV c)) S v2 v91 (own_on c) k) _) $$ HF
  iintro HF
  iapply (loop_bind (fun S => flashPts c (q8 v91 f6) (stage (KV c)) S) c k0_t3_loop _ _ (own3 c (q8 v91 f6) (stage (KV c)))
    (fun k S => trip3 c c (q8 v91 f6) (stage (KV c)) S v2 v91 (own_on c) k) _) $$ HF
  iintro HF
  iapply (loop_bind (fun S => flashPts c (q8 v91 f6) (stage (KV c)) S) c k0_t4_loop _ _ (own4 c (q8 v91 f6) (stage (KV c)))
    (fun k S => trip4 c c (q8 v91 f6) (stage (KV c)) S v2 v91 (own_on c) k) _) $$ HF
  iintro HF
  iapply (loop_bind (fun S => flashPts c (q8 v91 f6) (stage (KV c)) S) c k0_t5_loop _ _ (own5 c (q8 v91 f6) (stage (KV c)))
    (fun k S => trip5 c c (q8 v91 f6) (stage (KV c)) S v2 v91 (own_on c) k) _) $$ HF
  iintro HF
  iapply (loop_bind (fun S => flashPts c (q8 v91 f6) (stage (KV c)) S) c k0_t6_loop _ _ (own6 c (q8 v91 f6) (stage (KV c)))
    (fun k S => trip6 c c (q8 v91 f6) (stage (KV c)) S v2 v91 (own_on c) k) _) $$ HF
  iintro HF
  iapply (loop_bind (fun S => flashPts c (q8 v91 f6) (stage (KV c)) S) c k0_t7_loop _ _ (own7 c (q8 v91 f6) (stage (KV c)))
    (fun k S => trip7 c c (q8 v91 f6) (stage (KV c)) S v2 v91 (own_on c) k) _) $$ HF
  iintro HF
  iapply (loop_bind (fun S => flashPts c (q8 v91 f6) (stage (KV c)) S) c k0_t8_loop _ _ (own8 c (q8 v91 f6) (stage (KV c)))
    (fun k S => trip8 c c (q8 v91 f6) (stage (KV c)) S v2 v91 (own_on c) k) _) $$ HF
  iintro HF
  ihave HF := (flashAny_mk c (q8 v91 f6) _ (stage (KV c))) $$ HF
  iapply (chunk_if KV K c (peer c 2) (q8 v91 f6) _ (recv_2 c) (semR87 c) (fun h => slot_at (peer c 2) (at88 c h)) semC (blk9 c (q8 v91 f6))
    (fun h X7 k S => trip9 c c (q8 v91 f6) X7 S v2 v91 h k)) $$ [Hr2 Hk2 HF Hv HO]
  · isplitl [Hr2]; · iexact Hr2
    isplitl [Hk2]; · iexact Hk2
    isplitl [HF]; · iexact HF
    isplitl [Hv]; · iexact Hv
    iexact HO
  iintro ⟨Hr2, Hk2, HF, Hv, HO⟩
  iapply (chunk_if KV K c (peer c 1) (q8 v91 f6) _ (recv_1 c) (semR99 c) (fun h => slot_at (peer c 1) (at100 c h)) semC (blk10 c (q8 v91 f6))
    (fun h X7 k S => trip10 c c (q8 v91 f6) X7 S v2 v91 h k)) $$ [Hr1 Hk1 HF Hv HO]
  · isplitl [Hr1]; · iexact Hr1
    isplitl [Hk1]; · iexact Hk1
    isplitl [HF]; · iexact HF
    isplitl [Hv]; · iexact Hv
    iexact HO
  iintro ⟨Hr1, Hk1, HF, Hv, HO⟩
  rw [wp_ret]
  imodintro
  isplitl [Hr2]; · iexact Hr2
  isplitl [Hr1]; · iexact Hr1
  isplitl [Hk2]; · iexact Hk2
  isplitl [Hk1]; · iexact Hk1
  isplitl [Hs]; · iexact Hs
  isplitl [Hv]; · iexact Hv
  isplitl [HO]; · iexact HO
  iexact HF

/-! ## The last received block, the context, the output -/

abbrev rdWo (Wo : WoC (F := F)) : Vec F S1024x1024 .bf16 :=
  View.readAt (Elt F) woM.view (Rect.unit (s := S1024x1024) ![0, 0] S1024x1024.size inb_S1024x1024_S1024x1024_0_0).toLoadRect Wo

/-- One tile of the context: the accumulator over the sums. -/
def ctxTrip (S : St (F := F)) (k : Fin k0_t12_loop.trips) (C : CtxC (F := F)) : CtxC (F := F) :=
  ctxM.view.writes (Elt F) C [⟨Rect.unit (s := S1024x2048) (k0_off125 k) S128x256.size (k0_off125_inb k),
    k0_pay289 (k0_pay253 (View.readAt (Elt F) accM.view (Rect.unit (s := S64x128x256) (k0_off123 k) S1x128x256.size (k0_off123_inb k)).toLoadRect S.1)
      (View.readAt (Elt F) lM.view (Rect.unit (s := S64x1x256) (k0_off124 k) S1x1x256.size (k0_off124_inb k)).toLoadRect S.2.2))⟩]
def ctxAll (S : St (F := F)) (C : CtxC (F := F)) : CtxC (F := F) := stepsAll (ctxTrip S) C

def ctxPts (S : St (F := F)) (C : CtxC (F := F)) : sProp 𝕄 :=
  iprop((accM.view.loc (c : Thread nD τ) ↦[accM.view.set]{fullShare} S.1) ∗ (lM.view.loc (c : Thread nD τ) ↦[lM.view.set]{fullShare} S.2.2)
    ∗ (ctxM.view.loc (c : Thread nD τ) ↦[ctxM.view.set]{fullShare} C))

theorem ctxPts_mk (f8 : AccC (F := F)) (f9 f10 : RowC (F := F)) (C : CtxC (F := F)) :
    ctxPts c (f8, f9, f10) C =
      iprop((accM.view.loc (c : Thread nD τ) ↦[accM.view.set]{fullShare} f8) ∗ (lM.view.loc (c : Thread nD τ) ↦[lM.view.set]{fullShare} f10)
        ∗ (ctxM.view.loc (c : Thread nD τ) ↦[ctxM.view.set]{fullShare} C)) := rfl

theorem trip12 (v2 c3 : BitVec 32) (S : St (F := F)) (C : CtxC (F := F)) (k : Fin k0_t12_loop.trips) :
    ctxPts c S C ⊢ wp frame (wpE (defs₀ (F := F)) 𝒱₀ (c : Thread nD τ) none) Set.univ (k0_t12_body (F := F) kvpM (Memref.isWhole_whole _) xM (Memref.isWhole_whole _) wqM (Memref.isWhole_whole _) woM (Memref.isWhole_whole _) outM (Memref.isWhole_whole _) kvallM (Memref.isWhole_whole _) qM (Memref.isWhole_whole _) kvM (Memref.isWhole_whole _) accM (Memref.isWhole_whole _) mM (Memref.isWhole_whole _) lM (Memref.isWhole_whole _) ctxM (Memref.isWhole_whole _) cc0_scratch6 cc0_scratch7 cc0_scratch8 c v2 c3 k ⟨⟩) (fun _ => ctxPts c S (ctxTrip S k C)) := by
  have hk : k.val < 64 := Nat.lt_of_lt_of_le k.isLt k0_t12_abs.2.1
  obtain ⟨f8, f9, f10⟩ := S
  refine (Entails.of_eq (ctxPts_mk c f8 f9 f10 C)).trans ?_
  unfold k0_t12_body
  iintro ⟨HR_arg8, HR_arg10, HW_arg11⟩
  sl_exec
  sl_step
  unfold ctxPts
  isplitl [HR_arg8]; · iexact HR_arg8
  isplitl [HR_arg10]; · iexact HR_arg10
  unfold ctxTrip
  iexact HW_arg11

/-- The first two row blocks of the output. -/
def out2 (Wo : WoC (F := F)) (C : CtxC (F := F)) (f : OutC (F := F)) : OutC (F := F) :=
  outM.view.writes (Elt F) f [⟨Rect.unit (s := S1x2048x1024) ![0, 512, 0] S1x512x1024.size inb_S1x2048x1024_S1x512x1024_0_512_0, k0_pay291 (View.readAt (Elt F) ctxM.view (Rect.unit (s := S1024x2048) ![0, 512] S1024x512.size inb_S1024x2048_S1024x512_0_512).toLoadRect C) (rdWo Wo)⟩,
    ⟨Rect.unit (s := S1x2048x1024) ![0, 0, 0] S1x512x1024.size inb_S1x2048x1024_S1x512x1024_0_0_0, k0_pay290 (View.readAt (Elt F) ctxM.view (Rect.unit (s := S1024x2048) ![0, 0] S1024x512.size inb_S1024x2048_S1024x512_0_0).toLoadRect C) (rdWo Wo)⟩]
/-- The last two. -/
def out4 (Wo : WoC (F := F)) (C : CtxC (F := F)) (v145 : FVec F S1x512x1024 .f32) (f : OutC (F := F)) : OutC (F := F) :=
  outM.view.writes (Elt F) f [⟨Rect.unit (s := S1x2048x1024) ![0, 1536, 0] S1x512x1024.size inb_S1x2048x1024_S1x512x1024_0_1536_0, k0_pay1 (View.readAt (Elt F) ctxM.view (Rect.unit (s := S1024x2048) ![0, 1536] S1024x512.size inb_S1024x2048_S1024x512_0_1536).toLoadRect C) (rdWo Wo)⟩,
    ⟨Rect.unit (s := S1x2048x1024) ![0, 1024, 0] S1x512x1024.size inb_S1x2048x1024_S1x512x1024_0_1024_0, v145⟩]

def woPts (Wo : WoC (F := F)) : sProp 𝕄 := woM.view.loc (c : Thread nD τ) ↦[woM.view.set]{fullShare} Wo
def outPts (f : OutC (F := F)) : sProp 𝕄 := outM.view.loc (c : Thread nD τ) ↦[outM.view.set]{fullShare} f
def scrPts (X6 : QC (F := F)) (f9 : RowC (F := F)) : sProp 𝕄 :=
  iprop((qM.view.loc (c : Thread nD τ) ↦[qM.view.set]{fullShare} X6) ∗ (∃ X7, kvM.view.loc (c : Thread nD τ) ↦[kvM.view.set]{fullShare} X7)
    ∗ (mM.view.loc (c : Thread nD τ) ↦[mM.view.set]{fullShare} f9))

theorem flash_split (X6 : QC (F := F)) (S : St (F := F)) (C : CtxC (F := F)) :
    iprop(flashAny c X6 S ∗ (ctxM.view.loc (c : Thread nD τ) ↦[ctxM.view.set]{fullShare} C)) ⊢ iprop(scrPts c X6 S.2.1 ∗ ctxPts c S C) := by
  unfold flashAny flashPts scrPts ctxPts
  iintro ⟨⟨%X7, HQ, HKV, HA, HM, HL⟩, HC⟩
  isplitl [HQ HKV HM]
  · isplitl [HQ]; · iexact HQ
    isplitl [HKV]; · iexists X7; iexact HKV
    iexact HM
  isplitl [HA]; · iexact HA
  isplitl [HL]; · iexact HL
  iexact HC

theorem p50 (v2 c3 : BitVec 32) (X6 : QC (F := F)) (S : St (F := F)) (C : CtxC (F := F)) (Wo : WoC (F := F)) (f4 : OutC (F := F)) :
    iprop(recvIn KV K c (peer c 0) ∗ kept (F := F) c (peer c 0) ∗ semVal (chunkCell c) 0 ∗ owesE (F := F) c 0 ∗ flashAny c X6 S
        ∗ (ctxM.view.loc (c : Thread nD τ) ↦[ctxM.view.set]{fullShare} C) ∗ woPts c Wo ∗ outPts c f4)
      ⊢ wp frame (wpE (defs₀ (F := F)) 𝒱₀ (c : Thread nD τ) none) Set.univ (k0_part50 (F := F) kvpM (Memref.isWhole_whole _) xM (Memref.isWhole_whole _) wqM (Memref.isWhole_whole _) woM (Memref.isWhole_whole _) outM (Memref.isWhole_whole _) kvallM (Memref.isWhole_whole _) qM (Memref.isWhole_whole _) kvM (Memref.isWhole_whole _) accM (Memref.isWhole_whole _) mM (Memref.isWhole_whole _) lM (Memref.isWhole_whole _) ctxM (Memref.isWhole_whole _) cc0_scratch6 cc0_scratch7 cc0_scratch8 c v2 c3)
        (fun r => iprop(⌜r = k0_pay292 (View.readAt (Elt F) ctxM.view (Rect.unit (s := S1024x2048) ![0, 1024] S1024x512.size inb_S1024x2048_S1024x512_0_1024).toLoadRect (ctxAll (upd11 KV c X6 S) C)) (rdWo Wo)⌝
          ∗ spent KV (recvCell c (peer c 0)) ∗ slotAny (F := F) c (peer c 0) ∗ semVal (chunkCell c) 0 ∗ owesE (F := F) c 0
          ∗ scrPts c X6 (upd11 KV c X6 S).2.1 ∗ ctxPts c (upd11 KV c X6 S) (ctxAll (upd11 KV c X6 S) C) ∗ woPts c Wo
          ∗ outPts c (out2 Wo (ctxAll (upd11 KV c X6 S) C) f4))) := by
  rw [k0_part50_eq_skeleton]
  unfold k0_part50_skel
  simp only [semSignalWord, semWaitWord, Prog.lift, Prog.bind_op, Prog.bind_ret, Prog.pure_eq_ret, Prog.bind_assoc, wp_deviceId]
  iintro ⟨Hr0, Hk0, Hv, HO, HF, HC, Hw, Ho⟩
  iapply (chunk_if KV K c (peer c 0) X6 S (recv_0 c) (semR111 c) (fun h => slot_at (peer c 0) (at112 c h)) semC (blk11 c X6)
    (fun h X7 k S => trip11 c c X6 X7 S v2 c3 h k)) $$ [Hr0 Hk0 HF Hv HO]
  · isplitl [Hr0]; · iexact Hr0
    isplitl [Hk0]; · iexact Hk0
    isplitl [HF]; · iexact HF
    isplitl [Hv]; · iexact Hv
    iexact HO
  iintro ⟨Hr0, Hk0, HF, Hv, HO⟩
  icases (flash_split c X6 (upd11 KV c X6 S) C) $$ [HF HC] with ⟨Hscr, HX⟩
  · isplitl [HF]; · iexact HF
    iexact HC
  iapply (loop_bind (fun C => ctxPts c (upd11 KV c X6 S) C) c k0_t12_loop _ _ (ctxTrip (upd11 KV c X6 S)) (fun k C => trip12 c v2 c3 (upd11 KV c X6 S) C k) C) $$ HX
  iintro HX
  generalize upd11 KV c X6 S = S'
  unfold ctxPts woPts outPts out2 ctxAll
  generalize stepsAll (ctxTrip S') C = C'
  icases HX with ⟨HR_arg8, HR_arg10, HR_arg11⟩
  irename Hw => HR_arg3
  irename Ho => HW_arg4
  sl_exec
  sl_step
  isplitr; · ipureintro; rfl
  isplitl [Hr0]; · iexact Hr0
  isplitl [Hk0]; · iexact Hk0
  isplitl [Hv]; · iexact Hv
  isplitl [HO]; · iexact HO
  isplitl [Hscr]; · iexact Hscr
  isplitl [HR_arg8 HR_arg10 HR_arg11]
  · isplitl [HR_arg8]; · iexact HR_arg8
    isplitl [HR_arg10]; · iexact HR_arg10
    iexact HR_arg11
  isplitl [HR_arg3]; · iexact HR_arg3
  iexact HW_arg4

end Cert.Attn

end
-- ==== Proof.Body.lean ====
/-
# The body, whole
-/
module

public import proofs.«01_k».proof.Proof.Parts

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (KV : Packed (F := F)) (K : GSem nD τ sig → ℕ) (c : Dev nD) (X : XC (F := F)) (Wq : WC (F := F)) (Wo : WoC (F := F))

/-! ## What the run leaves -/

/-- The staged queries, over whatever the buffer held. -/
def qAll (f6 : QC (F := F)) : QC (F := F) := q8 (k0_pay266 (rdX X) (rdW3 Wq)) (q7 X Wq (k0_pay259 (rdX X) (rdW1 Wq)) (q3 X Wq f6))
/-- The running state after the last block. -/
def stAll (f6 : QC (F := F)) (S : St (F := F)) : St (F := F) :=
  upd11 KV c (qAll X Wq f6) (upd10 KV c (qAll X Wq f6) (upd9 KV c (qAll X Wq f6) (ownAll c (qAll X Wq f6) (stage (KV c)) (st0 S))))
/-- The output of a context. -/
def outOf (C : CtxC (F := F)) (f4 : OutC (F := F)) : OutC (F := F) := out4 Wo C (k0_pay292 (View.readAt (Elt F) ctxM.view (Rect.unit (s := S1024x2048) ![0, 1024] S1024x512.size inb_S1024x2048_S1024x512_0_1024).toLoadRect C) (rdWo Wo)) (out2 Wo C f4)
/-- The output, over whatever the buffers held. -/
def outAll (f6 : QC (F := F)) (S : St (F := F)) (C : CtxC (F := F)) (f4 : OutC (F := F)) : OutC (F := F) :=
  outOf Wo (ctxAll (stAll KV c X Wq f6 S) C) f4

/-- What the wait for one's own send takes beside the send's leavings. -/
def drainIn (k : Fin 3) : sProp 𝕄 :=
  iprop(cellInv ER (exRd KV) (K (sendCell c k)) (sendCell c k) ∗ atPos ER (sendCell c k) 0 ∅ 0)

/-- The exchange's part of the body's entry, -/
def exIn : sProp 𝕄 :=
  iprop((sigIn KV K c 0 ∗ sigIn KV K c 1 ∗ sigIn KV K c 2 ∗ barIn KV K c) ∗ (sendIn KV K c 0 ∗ sendIn KV K c 1 ∗ sendIn KV K c 2)
    ∗ (drainIn KV K c 0 ∗ drainIn KV K c 1 ∗ drainIn KV K c 2) ∗ (recvIn KV K c (peer c 0) ∗ recvIn KV K c (peer c 1) ∗ recvIn KV K c (peer c 2))
    ∗ (kept (F := F) c (peer c 0) ∗ kept (F := F) c (peer c 1) ∗ kept (F := F) c (peer c 2)) ∗ kvpPts KV c fullShare.left ∗ semVal (chunkCell c) 0)
/-- and of its exit. -/
def exOut : sProp 𝕄 :=
  iprop((spent KV (sendCell c 0) ∗ spent KV (sendCell c 1) ∗ spent KV (sendCell c 2))
    ∗ (spent KV (recvCell c (peer c 0)) ∗ spent KV (recvCell c (peer c 1)) ∗ spent KV (recvCell c (peer c 2)))
    ∗ (slotAny (F := F) c (peer c 0) ∗ slotAny (F := F) c (peer c 1) ∗ slotAny (F := F) c (peer c 2))
    ∗ atPos ER (barCell c) (0 + 1) ∅ 0 ∗ semVal (chunkCell c) 0)

/-- The scratch buffers, at whatever. -/
def scrAny : sProp 𝕄 :=
  iprop((∃ f, qPts (F := F) c f) ∗ (∃ f, kvM.view.loc (c : Thread nD τ) ↦[kvM.view.set]{fullShare} f)
    ∗ (∃ f, accM.view.loc (c : Thread nD τ) ↦[accM.view.set]{fullShare} f) ∗ (∃ f, mM.view.loc (c : Thread nD τ) ↦[mM.view.set]{fullShare} f)
    ∗ (∃ f, lM.view.loc (c : Thread nD τ) ↦[lM.view.set]{fullShare} f) ∗ (∃ f, ctxM.view.loc (c : Thread nD τ) ↦[ctxM.view.set]{fullShare} f))

theorem flash_join (X6 : QC (F := F)) (f7 : KVC (F := F)) (f8 : AccC (F := F)) (f9 f10 : RowC (F := F)) :
    iprop(qPts c X6 ∗ (kvM.view.loc (c : Thread nD τ) ↦[kvM.view.set]{fullShare} f7) ∗ (accM.view.loc (c : Thread nD τ) ↦[accM.view.set]{fullShare} f8)
        ∗ (mM.view.loc (c : Thread nD τ) ↦[mM.view.set]{fullShare} f9) ∗ (lM.view.loc (c : Thread nD τ) ↦[lM.view.set]{fullShare} f10))
      ⊢ flashAny c X6 (f8, f9, f10) :=
  (Entails.of_eq (flashPts_mk c X6 f7 f8 f9 f10).symm).trans (flashAny_mk c X6 (f8, f9, f10) f7)

set_option maxHeartbeats 1000000 in
/-- The body, on any device. -/
theorem body_run :
    iprop(exIn KV K c ∗ owesE (F := F) c (O₀ c) ∗ inPts c X Wq ∗ woPts c Wo ∗ (∃ f, outPts (F := F) c f) ∗ scrAny (F := F) c)
      ⊢ wp frame (wpE (defs₀ (F := F)) 𝒱₀ (c : Thread nD τ) none) Set.univ (cc0_body (F := F) kvpM (Memref.isWhole_whole _) xM (Memref.isWhole_whole _) wqM (Memref.isWhole_whole _) woM (Memref.isWhole_whole _) outM (Memref.isWhole_whole _) kvallM (Memref.isWhole_whole _) qM (Memref.isWhole_whole _) kvM (Memref.isWhole_whole _) accM (Memref.isWhole_whole _) mM (Memref.isWhole_whole _) lM (Memref.isWhole_whole _) ctxM (Memref.isWhole_whole _) cc0_scratch6 cc0_scratch7 cc0_scratch8)
        (fun _ => iprop(exOut KV c ∗ owesE (F := F) c 0 ∗ inPts c X Wq ∗ woPts c Wo ∗ (∃ f6 S C f4, outPts c (outAll KV c X Wq Wo f6 S C f4)) ∗ scrAny (F := F) c)) := by
  rw [cc0_body_eq_skeleton]
  unfold cc0_body_skel exIn scrAny
  iintro ⟨⟨⟨H0, H1, H2, Hb⟩, ⟨HS0, HS1, HS2⟩, ⟨HD0, HD1, HD2⟩, ⟨Hr0, Hr1, Hr2⟩, ⟨Hk0, Hk1, Hk2⟩, Hkvp, Hv⟩, HO, Hin, Hw, ⟨%f4, Ho⟩,
    ⟨⟨%f6, Hq⟩, ⟨%f7, Hkv⟩, ⟨%f8, Ha⟩, ⟨%f9, Hm⟩, ⟨%f10, Hl⟩, ⟨%f11, Hc⟩⟩⟩
  rw [wp_bind]
  iapply (wp_wand_r frame (wpE (defs₀ (F := F)) 𝒱₀ (c : Thread nD τ) none) Set.univ)
  isplitl [H0 H1 H2 Hb HS0 HS1 HO]
  · iapply (p46 KV K c)
    isplitl [H0]; · iexact H0
    isplitl [H1]; · iexact H1
    isplitl [H2]; · iexact H2
    isplitl [Hb]; · iexact Hb
    isplitl [HS0]; · iexact HS0
    isplitl [HS1]; · iexact HS1
    iexact HO
  iintro %r ⟨%v2, %v25, %hr, Hatb, Hs0, Hs1, Hg2, HO⟩
  subst hr
  rw [wp_bind]
  iapply (wp_wand_r frame (wpE (defs₀ (F := F)) 𝒱₀ (c : Thread nD τ) none) Set.univ)
  isplitl [HS2 Hg2 HO Hin Hq]
  · iapply (p47 KV K c X Wq v2 v25 f6)
    isplitl [HS2]; · iexact HS2
    isplitl [Hg2]; · iexact Hg2
    isplitl [HO]; · iexact HO
    isplitl [Hin]; · iexact Hin
    iexact Hq
  iintro %r ⟨%hr, Hs2, HO, Hin, Hq⟩
  subst hr
  rw [wp_bind]
  iapply (wp_wand_r frame (wpE (defs₀ (F := F)) 𝒱₀ (c : Thread nD τ) none) Set.univ)
  isplitl [Hin Hq]
  · iapply (p48 c X Wq)
    isplitl [Hin]; · iexact Hin
    iexact Hq
  iintro %r ⟨%hr, Hin, Hq⟩
  subst hr
  ihave HF := (flash_join c _ f7 f8 f9 f10) $$ [Hq Hkv Ha Hm Hl]
  · isplitl [Hq]; · iexact Hq
    isplitl [Hkv]; · iexact Hkv
    isplitl [Ha]; · iexact Ha
    isplitl [Hm]; · iexact Hm
    iexact Hl
  rw [wp_bind]
  iapply (wp_wand_r frame (wpE (defs₀ (F := F)) 𝒱₀ (c : Thread nD τ) none) Set.univ)
  isplitl [Hr2 Hr1 Hk2 Hk1 Hkvp Hv HO HF]
  · iapply (p49 KV K c v2 _ _ (f8, f9, f10))
    isplitl [Hr2]; · iexact Hr2
    isplitl [Hr1]; · iexact Hr1
    isplitl [Hk2]; · iexact Hk2
    isplitl [Hk1]; · iexact Hk1
    isplitl [Hkvp]; · iexact Hkvp
    isplitl [Hv]; · iexact Hv
    isplitl [HO]; · iexact HO
    iexact HF
  rw [show q8 (k0_pay266 (rdX X) (rdW3 Wq)) (q7 X Wq (k0_pay259 (rdX X) (rdW1 Wq)) (q3 X Wq f6)) = qAll X Wq f6 from rfl]
  iintro %c3 ⟨Hr2, Hr1, Hk2, Hk1, -, Hv, HO, HF⟩
  rw [wp_bind]
  iapply (wp_wand_r frame (wpE (defs₀ (F := F)) 𝒱₀ (c : Thread nD τ) none) Set.univ)
  isplitl [Hr0 Hk0 Hv HO HF Hc Hw Ho]
  · iapply (p50 KV K c v2 c3 (qAll X Wq f6) _ f11 Wo f4)
    isplitl [Hr0]; · iexact Hr0
    isplitl [Hk0]; · iexact Hk0
    isplitl [Hv]; · iexact Hv
    isplitl [HO]; · iexact HO
    isplitl [HF]; · iexact HF
    isplitl [Hc]; · iexact Hc
    isplitl [Hw]; · iexact Hw
    iexact Ho
  iintro %r ⟨%hr, Hr0, Hk0, Hv, HO, Hscr, HX, Hw, Ho⟩
  subst hr
  unfold scrPts
  icases Hscr with ⟨Hq, Hkv, Hm⟩
  rw [show upd11 KV c (qAll X Wq f6) (upd10 KV c (qAll X Wq f6) (upd9 KV c (qAll X Wq f6) (ownAll c (qAll X Wq f6) (stage (KV c)) (st0 (f8, f9, f10)))))
    = stAll KV c X Wq f6 (f8, f9, f10) from rfl]
  generalize hS : stAll KV c X Wq f6 (f8, f9, f10) = S'
  generalize hC : ctxAll S' f11 = C'
  simp only [Prog.lift, Prog.bind_op, Prog.bind_ret, Prog.pure_eq_ret, Prog.bind_assoc]
  unfold woPts outPts ctxPts
  icases HX with ⟨Ha, Hl, HR_arg11⟩
  irename Hw => HR_arg3
  irename Ho => HW_arg4
  sl_exec
  unfold drainIn
  icases HD0 with ⟨HI0, HA0⟩
  icases HD1 with ⟨HI1, HA1⟩
  icases HD2 with ⟨HI2, HA2⟩
  iapply (drain_if KV K c 0 (sends_0' c) (fun _ => semS0)) $$ [HI0 HA0 Hs0 HO]
  · isplitl [HI0]; · iexact HI0
    isplitl [HA0]; · iexact HA0
    isplitl [Hs0]; · iexact Hs0
    iexact HO
  iintro ⟨Hp0, HO⟩
  iapply (drain_if KV K c 1 (sends_1' c) (fun _ => semS1)) $$ [HI1 HA1 Hs1 HO]
  · isplitl [HI1]; · iexact HI1
    isplitl [HA1]; · iexact HA1
    isplitl [Hs1]; · iexact Hs1
    iexact HO
  iintro ⟨Hp1, HO⟩
  iapply (drain_if KV K c 2 (sends_2' c) (fun _ => semS2)) $$ [HI2 HA2 Hs2 HO]
  · isplitl [HI2]; · iexact HI2
    isplitl [HA2]; · iexact HA2
    isplitl [Hs2]; · iexact Hs2
    iexact HO
  iintro ⟨Hp2, HO⟩
  rw [wp_ret]
  imodintro
  unfold exOut
  isplitl [Hp0 Hp1 Hp2 Hr0 Hr1 Hr2 Hk0 Hk1 Hk2 Hatb Hv]
  · isplitl [Hp0 Hp1 Hp2]
    · isplitl [Hp0]; · iexact Hp0
      isplitl [Hp1]; · iexact Hp1
      iexact Hp2
    isplitl [Hr0 Hr1 Hr2]
    · isplitl [Hr0]; · iexact Hr0
      isplitl [Hr1]; · iexact Hr1
      iexact Hr2
    isplitl [Hk0 Hk1 Hk2]
    · isplitl [Hk0]; · iexact Hk0
      isplitl [Hk1]; · iexact Hk1
      iexact Hk2
    isplitl [Hatb]; · iexact Hatb
    iexact Hv
  isplitl [HO]; · iexact HO
  isplitl [Hin]; · iexact Hin
  isplitl [HR_arg3]; · iexact HR_arg3
  isplitl [HW_arg4]
  · iexists f6, (f8, f9, f10), f11, f4
    rw [outAll, hS, hC]
    iexact HW_arg4
  isplitl [Hq]; · iexists _; unfold qPts; iexact Hq
  isplitl [Hkv]; · iexact Hkv
  isplitl [Ha]; · iexists _; iexact Ha
  isplitl [Hm]; · iexists _; iexact Hm
  isplitl [Hl]; · iexists _; iexact Hl
  iexists _; iexact HR_arg11

end Cert.Attn

end
-- ==== Proof.Ghost.lean ====
/-
# The exchange's ghost state, from the launch to the body and back

At launch every barrier cell is funded from its counter, and every send and receive cell without one; each device is dealt the rights
to the cells it opens and the tokens of the duties it pays. Entering the kernel a device opens its cells, cuts the gather buffer into
slots and the packed keys and values into shares; leaving it, it takes its counters back at zero.
-/
module

public import proofs.«01_k».proof.Proof.Body

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The kernel's semaphores -/

/-- Its twelve less the pipeline's: the local copy's, the sends', the receives'. -/
def osem : Fin 8 → SemLoc sig := fun i => .dma ⟨4 + i.val, by have := i.isLt; show 4 + i.val < 12; omega⟩
def rIx (j : Dev nD) : Fin 8 := ⟨4 + j.val, by have h : j.val < 4 := j.isLt; omega⟩

theorem osem_facts : Pipeline.OwnSemFacts spec0 osem := by decide
theorem osem_chunk : osem 0 = .dma chunkS := by decide
theorem osem_send0 : osem 1 = .dma (sendS 0) := by decide
theorem osem_send1 : osem 2 = .dma (sendS 1) := by decide
theorem osem_send2 : osem 3 = .dma (sendS 2) := by decide
theorem osem_recv (j : Dev nD) : osem (rIx j) = .dma (recvS j) := by revert j; decide

/-- The kernel's counters at zero, this device's own receive first among the receives. -/
def zeros (c : Dev nD) : sProp 𝕄 :=
  iprop(semVal (chunkCell c) 0 ∗ semVal (sendCell c 0) 0 ∗ semVal (sendCell c 1) 0 ∗ semVal (sendCell c 2) 0
    ∗ semVal (recvCell c c) 0 ∗ semVal (recvCell c (peer c 0)) 0 ∗ semVal (recvCell c (peer c 1)) 0 ∗ semVal (recvCell c (peer c 2)) 0)

theorem ownSems_eq (c : Dev nD) : (Pipeline.ownSems0 osem c : sProp 𝕄) = zeros c := by
  refine (bigSep_univ_eq_bigSepL [0, 1, 2, 3, rIx c, rIx (peer c 0), rIx (peer c 1), rIx (peer c 2)] (by revert c; decide) (by revert c; decide)
    (fun k : Fin 8 => (semVal ((c : Thread nD τ), osem k) 0 : sProp 𝕄))).trans ?_
  show iprop(semVal ((c : Thread nD τ), osem 0) 0 ∗ semVal ((c : Thread nD τ), osem 1) 0 ∗ semVal ((c : Thread nD τ), osem 2) 0 ∗ semVal ((c : Thread nD τ), osem 3) 0
    ∗ semVal ((c : Thread nD τ), osem (rIx c)) 0 ∗ semVal ((c : Thread nD τ), osem (rIx (peer c 0))) 0 ∗ semVal ((c : Thread nD τ), osem (rIx (peer c 1))) 0
    ∗ semVal ((c : Thread nD τ), osem (rIx (peer c 2))) 0) = _
  rw [osem_chunk, osem_send0, osem_send1, osem_send2, osem_recv, osem_recv, osem_recv, osem_recv]
  rfl

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem unscoped_eq : ∀ sm : SemLoc sig, sm.isScoped .tc = false → sm = .reg barS := by decide

/-! ## The gather buffer by slots, the packed buffer by shares -/

theorem slot_set (j : Dev nD) : (slotM j).view.set = ((kvallM : Memref sig .tc .hbm S4x8x2048x256 .bf16).view.slice (Rect.unit (s := S4x8x2048x256) ![j.val, 0, 0, 0] S1x8x2048x256.size (slot_inb j))).set :=
  View.set_reshape _ _

theorem slots_disjoint (i j : Dev nD) (h : i ≠ j) : Disjoint (slotM i).view.set (slotM j).view.set := by
  rw [slot_set, slot_set]
  have hne : i.val ≠ j.val := fun e => h (Fin.ext e)
  refine View.disjoint_slice_of_sep _ _ _ (0 : Fin 4) rfl rfl ?_
  show i.val + 1 ≤ j.val ∨ j.val + 1 ≤ i.val
  omega

theorem slots_split (c : Dev nD) (f : Buf (Elt F) ((c : Thread nD τ).loc main_v7_1)) :
    (((c : Thread nD τ).loc main_v7_1) ↦{fullShare} f : sProp 𝕄)
      ⊢ iprop(slotAny (F := F) c (peer c 0) ∗ slotAny (F := F) c (peer c 1) ∗ slotAny (F := F) c (peer c 2)) := by
  have h1 : (((c : Thread nD τ).loc main_v7_1) ↦{fullShare} f : sProp 𝕄) ⊢ bigSep Finset.univ fun j : Dev nD => slotPts (F := F) c j f := by
    refine ((pointsTo_split_subset (Finset.subset_univ (Finset.univ.biUnion fun j : Dev nD => ((slotM j).view.set : Finset (Idx ((c : Thread nD τ).loc main_v7_1)))))).1.trans ?_)
    iintro ⟨H, -⟩
    iapply (Entails.of_eq (pointsTo_biUnion (q := fullShare) (f := f) (Finset.univ : Finset (Dev nD)) (fun j => ((slotM j).view.set : Finset (Idx ((c : Thread nD τ).loc main_v7_1)))) fun i _ j _ h => slots_disjoint i j h))
    iexact H
  have hu : (Finset.univ : Finset (Dev nD)) = [c, peer c 0, peer c 1, peer c 2].toFinset := by clear h1 f; revert c; decide
  have hn : [c, peer c 0, peer c 1, peer c 2].Nodup := by clear hu h1 f; revert c; decide
  have h2 : (bigSep Finset.univ fun j : Dev nD => slotPts (F := F) c j f)
      = iprop(slotPts (F := F) c c f ∗ slotPts (F := F) c (peer c 0) f ∗ slotPts (F := F) c (peer c 1) f ∗ slotPts (F := F) c (peer c 2) f) :=
    bigSep_univ_eq_bigSepL [c, peer c 0, peer c 1, peer c 2] hu hn _
  refine h1.trans ?_
  rw [h2]
  unfold slotAny
  iintro ⟨-, H0, H1, H2⟩
  isplitl [H0]; · iexists f; iexact H0
  isplitl [H1]; · iexists f; iexact H1
  iexists f; iexact H2

variable (KV : Packed (F := F)) (K : GSem nD τ sig → ℕ) (c : Dev nD)

theorem kvp_split :
    (((c : Thread nD τ).loc main_v6) ↦{fullShare} KV c : sProp 𝕄)
      ⊢ iprop(kvpPts KV c fullShare.left ∗ kvpPts KV c (shr 0) ∗ kvpPts KV c (shr 1) ∗ kvpPts KV c (shr 2)) := by
  have e (q : PosShare TreeShare) : kvpPts KV c q = (((c : Thread nD τ).loc main_v6) ↦{q} KV c : sProp 𝕄) := by
    unfold kvpPts; rw [(Memref.isWhole_whole (main_v6 : Ref sig .tc)).set_eq_univ]
  rw [e, e, e, e]
  iintro H
  ihave H := (pointsTo_share (PosShare.mem_left_op_right fullShare)).1 $$ H
  icases H with ⟨H0, H⟩
  ihave H := (pointsTo_share (PosShare.mem_left_op_right fullShare.right)).1 $$ H
  icases H with ⟨H1, H⟩
  ihave H := (pointsTo_share (PosShare.mem_left_op_right fullShare.right.right)).1 $$ H
  icases H with ⟨H2, H3⟩
  isplitl [H0]; · iexact H0
  isplitl [H1]; · iexact H1
  isplitl [H2]; · iexact H2
  iexact H3

/-- A slot goes to the device that fills it, or stays. -/
theorem give_or_keep (k : Fin 3) :
    iprop(slotAny (F := F) c (peer c k) ∗ reached ER (recvCell c (peer c k)) 0)
      ⊢ iprop(give (F := F) (peer c k) c ∗ kept (F := F) c (peer c k)) := by
  unfold kept give
  by_cases h : (peer c k).val < c.val
  · rw [if_pos h, if_pos h]
    unfold slotAny
    iintro H
    isplitl; · iexact H
    iempintro
  · rw [if_neg h, if_neg h]
    iintro ⟨H, -⟩
    isplitr; · iempintro
    iexact H

/-! ## What the launch deals -/

/-- A device's cell of each kind the kernel opens. -/
def exCell (c : Dev nD) : Fin 2 → Fin 3 → GSem nD τ sig
  | 0, k => sendCell c k
  | 1, k => recvCell c (peer c k)
/-- The cell of each duty a device pays. -/
def payCell (c : Dev nD) : Fin 3 → Fin 3 → GSem nD τ sig
  | 0, k => barCell (peer c k)
  | 1, k => sendCell c k
  | 2, k => recvCell (peer c k) c

theorem exCell_dev (c : Dev nD) (i : Fin 2) (k : Fin 3) : (exCell c i k).1.1 = c := by revert c i k; decide
theorem exCell_inj (c : Dev nD) : ∀ p q : Fin 2 × Fin 3, exCell c p.1 p.2 = exCell c q.1 q.2 → p = q := by revert c; decide
theorem payCell_inj (c : Dev nD) : ∀ p q : Fin 3 × Fin 3, payCell c p.1 p.2 = payCell c q.1 q.2 → p = q := by revert c; decide
theorem exCell_ne_bar (c d : Dev nD) (i : Fin 2) (k : Fin 3) : exCell c i k ≠ barCell d := by revert c d i k; decide

def barEmb : Dev nD ↪ GSem nD τ sig := ⟨fun c => barCell c, fun _ _ h => congrArg (fun g : GSem nD τ sig => g.1.1) h⟩
def scEmb : Dev nD × (Fin 2 × Fin 3) ↪ GSem nD τ sig :=
  ⟨fun x => exCell x.1 x.2.1 x.2.2, fun x y h => by
    have hd : x.1 = y.1 := (exCell_dev x.1 x.2.1 x.2.2).symm.trans ((congrArg (fun g : GSem nD τ sig => g.1.1) h).trans (exCell_dev y.1 y.2.1 y.2.2))
    obtain ⟨c, p⟩ := x; obtain ⟨d, q⟩ := y
    obtain rfl : c = d := hd
    exact Prod.ext rfl (exCell_inj c p q h)⟩
def tokEmb : Dev nD × (Fin 3 × Fin 3) ↪ GSem nD τ sig × ℕ × Fin 4 :=
  ⟨fun x => (payCell x.1 x.2.1 x.2.2, 0, x.1), fun x y h => by
    obtain ⟨c, p⟩ := x; obtain ⟨d, q⟩ := y
    obtain rfl : c = d := congrArg (fun t : GSem nD τ sig × ℕ × Fin 4 => t.2.2) h
    exact Prod.ext rfl (payCell_inj c p q (congrArg (fun t : GSem nD τ sig × ℕ × Fin 4 => t.1) h))⟩

abbrev barCells : Finset (GSem nD τ sig) := Finset.univ.map barEmb
abbrev scCells : Finset (GSem nD τ sig) := Finset.univ.map scEmb
abbrev exToks : Finset (GSem nD τ sig × ℕ × Fin 4) := Finset.univ.map tokEmb

theorem disjoint_cells : Disjoint (barCells : Finset (GSem nD τ sig)) scCells := by
  rw [Finset.disjoint_left]
  rintro g h₁ h₂
  obtain ⟨d, -, rfl⟩ := Finset.mem_map.mp h₁
  obtain ⟨x, -, h⟩ := Finset.mem_map.mp h₂
  exact exCell_ne_bar _ _ _ _ h

theorem bar_mem : barCell c ∈ (barCells ∪ scCells : Finset (GSem nD τ sig)) :=
  Finset.mem_union_left _ (Finset.mem_map_of_mem barEmb (Finset.mem_univ c))
theorem send_mem (k : Fin 3) : sendCell c k ∈ (barCells ∪ scCells : Finset (GSem nD τ sig)) :=
  Finset.mem_union_right _ (Finset.mem_map_of_mem scEmb (Finset.mem_univ (c, ((0 : Fin 2), k))))
theorem recv_mem (k : Fin 3) : recvCell c (peer c k) ∈ (barCells ∪ scCells : Finset (GSem nD τ sig)) :=
  Finset.mem_union_right _ (Finset.mem_map_of_mem scEmb (Finset.mem_univ (c, ((1 : Fin 2), k))))
theorem back (k : Fin 3) : ∃ k', peer (peer c k) k' = c := by revert c k; decide
theorem recv_mem' (k : Fin 3) : recvCell (peer c k) c ∈ (barCells ∪ scCells : Finset (GSem nD τ sig)) := by
  obtain ⟨k', h⟩ := back c k
  have := recv_mem (peer c k) k'
  rwa [h] at this

/-- What every device may consult: the invariants, and round 0 of every barrier cell reached. -/
def records : sProp 𝕄 :=
  iprop((bigSep (barCells ∪ scCells) fun g => cellInv ER (exRd KV) (K g) g) ∗ bigSep barCells fun g => reached ER g 0)

instance records_persistent : BI.Persistent (records KV K) := by unfold records; infer_instance

theorem inv_at {g : GSem nD τ sig} (hg : g ∈ (barCells ∪ scCells : Finset (GSem nD τ sig))) :
    records KV K ⊢ cellInv ER (exRd KV) (K g) g := by
  have h : (bigSep (barCells ∪ scCells) fun g => (cellInv ER (exRd KV) (K g) g : sProp 𝕄)) ⊢ cellInv ER (exRd KV) (K g) g := bigSep_elim hg
  unfold records
  iintro ⟨H, -⟩
  iapply h
  iexact H
theorem reached_at : records KV K ⊢ reached ER (barCell c) 0 := by
  have h : (bigSep barCells fun g => (reached ER g 0 : sProp 𝕄)) ⊢ reached ER (barCell c) 0 :=
    bigSep_elim (Finset.mem_map_of_mem barEmb (Finset.mem_univ c))
  unfold records
  iintro ⟨-, H⟩
  iapply h
  iexact H

theorem bigSep_three (Φ : Fin 3 → sProp 𝕄) : bigSep Finset.univ Φ = iprop(Φ 0 ∗ Φ 1 ∗ Φ 2) :=
  bigSep_univ_eq_bigSepL [(0 : Fin 3), 1, 2] (by decide) (by decide) Φ

/-- The rights to open, -/
def opens : sProp 𝕄 :=
  iprop((openTok ER (sendCell c 0) ∗ openTok ER (sendCell c 1) ∗ openTok ER (sendCell c 2))
    ∗ (openTok ER (recvCell c (peer c 0)) ∗ openTok ER (recvCell c (peer c 1)) ∗ openTok ER (recvCell c (peer c 2))))
/-- and the tokens. -/
def pays : sProp 𝕄 :=
  iprop((dutyTok ER (barCell (peer c 0)) 0 c ∗ dutyTok ER (barCell (peer c 1)) 0 c ∗ dutyTok ER (barCell (peer c 2)) 0 c)
    ∗ (dutyTok ER (sendCell c 0) 0 c ∗ dutyTok ER (sendCell c 1) 0 c ∗ dutyTok ER (sendCell c 2) 0 c)
    ∗ (dutyTok ER (recvCell (peer c 0) c) 0 c ∗ dutyTok ER (recvCell (peer c 1) c) 0 c ∗ dutyTok ER (recvCell (peer c 2) c) 0 c))

theorem opens_eq : bigSep scCells (fun g => (openTok ER g : sProp 𝕄)) = bigSep Finset.univ fun c : Dev nD => opens (F := F) c := by
  rw [bigSep_map, bigSep_univ_prod]
  refine bigSep_congr fun c _ => ?_
  rw [bigSep_univ_prod, bigSep_fin_two, bigSep_three, bigSep_three]
  rfl
theorem pays_eq : bigSep exToks (fun x => (dutyTok ER x.1 x.2.1 x.2.2 : sProp 𝕄)) = bigSep Finset.univ fun c : Dev nD => pays (F := F) c := by
  rw [bigSep_map, bigSep_univ_prod]
  refine bigSep_congr fun c _ => ?_
  rw [bigSep_univ_prod, bigSep_three, bigSep_three, bigSep_three, bigSep_three]
  rfl

/-- The credits a device starts with. -/
def credsIn : sProp 𝕄 :=
  iprop(cred (tallyAt (barCell c) () 3)
    ∗ ((if (peer c 0).val < c.val then cred (tallyAt (recvCell c (peer c 0)) () N) else iprop(emp))
      ∗ (if (peer c 1).val < c.val then cred (tallyAt (recvCell c (peer c 1)) () N) else iprop(emp))
      ∗ (if (peer c 2).val < c.val then cred (tallyAt (recvCell c (peer c 2)) () N) else iprop(emp))))

/-- What stays with a device until the kernel. -/
def linear : sProp 𝕄 := iprop(atPos ER (barCell c) 0 ∅ 0 ∗ opens (F := F) c ∗ pays (F := F) c)

/-! ## Into the kernel, and out -/

theorem open_cell {g : GSem nD τ sig} (hg : g ∈ (barCells ∪ scCells : Finset (GSem nD τ sig))) :
    iprop(records KV K ∗ openTok ER g ∗ semVal g 0) ⊢ iprop(|={Set.univ}=> ((atPos ER g 0 ∅ 0 ∗ reached ER g 0))) := by
  iintro ⟨#HR, Ho, Hv⟩
  iapply (Rounds.cell_open ER (exRd KV) (g := g) (Set.mem_univ (K g)))
  isplitr; · iapply (inv_at KV K hg); iexact HR
  isplitl [Ho]; · iexact Ho
  iexact Hv

theorem sig_in (k : Fin 3) : iprop(records KV K ∗ dutyTok ER (barCell (peer c k)) 0 c ∗ give (F := F) (peer c k) c) ⊢ sigIn KV K c k := by
  unfold sigIn
  iintro ⟨#HR, Ht, Hg⟩
  isplitr; · iapply (inv_at KV K (bar_mem _)); iexact HR
  isplitl [Ht]; · iexact Ht
  isplitr; · iapply (reached_at KV K _); iexact HR
  iexact Hg
theorem send_in (k : Fin 3) : iprop(records KV K ∗ kvpPts KV c (shr k) ∗ dutyTok ER (sendCell c k) 0 c ∗ reached ER (sendCell c k) 0
    ∗ dutyTok ER (recvCell (peer c k) c) 0 c) ⊢ sendIn KV K c k := by
  unfold sendIn
  iintro ⟨#HR, H⟩
  isplitr; · iapply (inv_at KV K (send_mem c k)); iexact HR
  isplitr; · iapply (inv_at KV K (recv_mem' c k)); iexact HR
  iexact H
theorem drain_in (k : Fin 3) : iprop(records KV K ∗ atPos ER (sendCell c k) 0 ∅ 0) ⊢ drainIn KV K c k := by
  unfold drainIn
  iintro ⟨#HR, H⟩
  isplitr; · iapply (inv_at KV K (send_mem c k)); iexact HR
  iexact H
theorem recv_in (k : Fin 3) : iprop(records KV K ∗ atPos ER (recvCell c (peer c k)) 0 ∅ 0
    ∗ if (peer c k).val < c.val then cred (tallyAt (recvCell c (peer c k)) () N) else iprop(emp)) ⊢ recvIn KV K c (peer c k) := by
  unfold recvIn
  iintro ⟨#HR, H⟩
  isplitr; · iapply (inv_at KV K (recv_mem c k)); iexact HR
  iexact H

set_option maxHeartbeats 1000000 in
/-- Entering the kernel. -/
theorem ex_open (f : Buf (Elt F) ((c : Thread nD τ).loc main_v7_1)) :
    iprop(records KV K ∗ levAts L lv ∗ linear (F := F) c ∗ credsIn (F := F) c ∗ zeros (F := F) c
        ∗ (((c : Thread nD τ).loc main_v6) ↦{fullShare} KV c) ∗ (((c : Thread nD τ).loc main_v7_1) ↦{fullShare} f))
      ⊢ iprop(|={Set.univ}=> (exIn KV K c ∗ semVal (recvCell c c) 0)) := by
  unfold linear opens pays credsIn zeros
  iintro ⟨#HR, #Hlev, ⟨Hat, ⟨⟨Ho0, Ho1, Ho2⟩, ⟨Hp0, Hp1, Hp2⟩⟩, ⟨⟨Hb0, Hb1, Hb2⟩, ⟨Ht0, Ht1, Ht2⟩, ⟨Hu0, Hu1, Hu2⟩⟩⟩, ⟨Hcb, Hc0, Hc1, Hc2⟩,
    ⟨Hch, Hs0, Hs1, Hs2, Hrc, Hr0, Hr1, Hr2⟩, Hkv, Hall⟩
  ihave Hkv := (kvp_split KV c) $$ Hkv
  icases Hkv with ⟨Hkl, Hk0, Hk1, Hk2⟩
  ihave Hall := (slots_split c f) $$ Hall
  icases Hall with ⟨Hl0, Hl1, Hl2⟩
  imod (open_cell KV K (send_mem c 0)) $$ [Ho0 Hs0] with ⟨Ha0, #Hq0⟩
  · isplitr; · iexact HR
    isplitl [Ho0] <;> iassumption
  imod (open_cell KV K (send_mem c 1)) $$ [Ho1 Hs1] with ⟨Ha1, #Hq1⟩
  · isplitr; · iexact HR
    isplitl [Ho1] <;> iassumption
  imod (open_cell KV K (send_mem c 2)) $$ [Ho2 Hs2] with ⟨Ha2, #Hq2⟩
  · isplitr; · iexact HR
    isplitl [Ho2] <;> iassumption
  imod (open_cell KV K (recv_mem c 0)) $$ [Hp0 Hr0] with ⟨Hd0, #Hw0⟩
  · isplitr; · iexact HR
    isplitl [Hp0] <;> iassumption
  imod (open_cell KV K (recv_mem c 1)) $$ [Hp1 Hr1] with ⟨Hd1, #Hw1⟩
  · isplitr; · iexact HR
    isplitl [Hp1] <;> iassumption
  imod (open_cell KV K (recv_mem c 2)) $$ [Hp2 Hr2] with ⟨Hd2, #Hw2⟩
  · isplitr; · iexact HR
    isplitl [Hp2] <;> iassumption
  ihave Hg0 := (give_or_keep c 0) $$ [Hl0]
  · isplitl; · iexact Hl0
    iexact Hw0
  icases Hg0 with ⟨Hg0, Hy0⟩
  ihave Hg1 := (give_or_keep c 1) $$ [Hl1]
  · isplitl; · iexact Hl1
    iexact Hw1
  icases Hg1 with ⟨Hg1, Hy1⟩
  ihave Hg2 := (give_or_keep c 2) $$ [Hl2]
  · isplitl; · iexact Hl2
    iexact Hw2
  icases Hg2 with ⟨Hg2, Hy2⟩
  imodintro
  isplitr [Hrc]
  · unfold exIn
    isplitl [Hb0 Hb1 Hb2 Hg0 Hg1 Hg2 Hcb Hat]
    · isplitl [Hb0 Hg0]
      · iapply (sig_in KV K c 0)
        isplitr; · iexact HR
        isplitl [Hb0] <;> iassumption
      isplitl [Hb1 Hg1]
      · iapply (sig_in KV K c 1)
        isplitr; · iexact HR
        isplitl [Hb1] <;> iassumption
      isplitl [Hb2 Hg2]
      · iapply (sig_in KV K c 2)
        isplitr; · iexact HR
        isplitl [Hb2] <;> iassumption
      unfold barIn
      isplitr; · iapply (inv_at KV K (bar_mem c)); iexact HR
      isplitl [Hcb]; · iexact Hcb
      isplitr; · iexact Hlev
      iexact Hat
    isplitl [Hk0 Hk1 Hk2 Ht0 Ht1 Ht2 Hu0 Hu1 Hu2]
    · isplitl [Hk0 Ht0 Hu0]
      · iapply (send_in KV K c 0)
        isplitr; · iexact HR
        isplitl [Hk0]; · iexact Hk0
        isplitl [Ht0]; · iexact Ht0
        isplitr; · iexact Hq0
        iexact Hu0
      isplitl [Hk1 Ht1 Hu1]
      · iapply (send_in KV K c 1)
        isplitr; · iexact HR
        isplitl [Hk1]; · iexact Hk1
        isplitl [Ht1]; · iexact Ht1
        isplitr; · iexact Hq1
        iexact Hu1
      iapply (send_in KV K c 2)
      isplitr; · iexact HR
      isplitl [Hk2]; · iexact Hk2
      isplitl [Ht2]; · iexact Ht2
      isplitr; · iexact Hq2
      iexact Hu2
    isplitl [Ha0 Ha1 Ha2]
    · isplitl [Ha0]
      · iapply (drain_in KV K c 0)
        isplitr; · iexact HR
        iexact Ha0
      isplitl [Ha1]
      · iapply (drain_in KV K c 1)
        isplitr; · iexact HR
        iexact Ha1
      iapply (drain_in KV K c 2)
      isplitr; · iexact HR
      iexact Ha2
    isplitl [Hd0 Hd1 Hd2 Hc0 Hc1 Hc2]
    · isplitl [Hd0 Hc0]
      · iapply (recv_in KV K c 0)
        isplitr; · iexact HR
        isplitl [Hd0]; · iexact Hd0
        iexact Hc0
      isplitl [Hd1 Hc1]
      · iapply (recv_in KV K c 1)
        isplitr; · iexact HR
        isplitl [Hd1]; · iexact Hd1
        iexact Hc1
      iapply (recv_in KV K c 2)
      isplitr; · iexact HR
      isplitl [Hd2]; · iexact Hd2
      iexact Hc2
    isplitl [Hy0 Hy1 Hy2]
    · isplitl [Hy0]; · iexact Hy0
      isplitl [Hy1]; · iexact Hy1
      iexact Hy2
    isplitl [Hkl]; · iexact Hkl
    iexact Hch
  iexact Hrc

theorem close_cell {g : GSem nD τ sig} (hg : g ∈ (barCells ∪ scCells : Finset (GSem nD τ sig))) :
    iprop(records KV K ∗ spent KV g) ⊢ iprop(|={Set.univ}=> (semVal g 0)) := by
  iintro ⟨#HR, H⟩
  iapply (spent_close KV (K g) g)
  isplitr; · iapply (inv_at KV K hg); iexact HR
  iexact H

/-- Leaving it. -/
theorem ex_close :
    iprop(records KV K ∗ exOut KV c ∗ semVal (recvCell c c) 0) ⊢ iprop(|={Set.univ}=> (semVal (barCell c) 0 ∗ zeros (F := F) c)) := by
  unfold exOut zeros
  iintro ⟨#HR, ⟨⟨Hs0, Hs1, Hs2⟩, ⟨Hr0, Hr1, Hr2⟩, -, Hat, Hch⟩, Hrc⟩
  imod (close_cell KV K (send_mem c 0)) $$ [Hs0] with Hs0
  · isplitr; · iexact HR
    iexact Hs0
  imod (close_cell KV K (send_mem c 1)) $$ [Hs1] with Hs1
  · isplitr; · iexact HR
    iexact Hs1
  imod (close_cell KV K (send_mem c 2)) $$ [Hs2] with Hs2
  · isplitr; · iexact HR
    iexact Hs2
  imod (close_cell KV K (recv_mem c 0)) $$ [Hr0] with Hr0
  · isplitr; · iexact HR
    iexact Hr0
  imod (close_cell KV K (recv_mem c 1)) $$ [Hr1] with Hr1
  · isplitr; · iexact HR
    iexact Hr1
  imod (close_cell KV K (recv_mem c 2)) $$ [Hr2] with Hr2
  · isplitr; · iexact HR
    iexact Hr2
  imod (close_cell KV K (bar_mem c)) $$ [Hat] with Hb
  · isplitr; · iexact HR
    iapply (spent_one KV (barCell c)); iexact Hat
  imodintro
  isplitl [Hb]; · iexact Hb
  isplitl [Hch]; · iexact Hch
  isplitl [Hs0]; · iexact Hs0
  isplitl [Hs1]; · iexact Hs1
  isplitl [Hs2]; · iexact Hs2
  isplitl [Hrc]; · iexact Hrc
  isplitl [Hr0]; · iexact Hr0
  isplitl [Hr1]; · iexact Hr1
  iexact Hr2

/-! ## The launch credit -/

theorem bOwe_bar (d c : Dev nD) (k : Fin 3) : bOwe d k (barCell c) () = if peer d k = c then 1 else 0 := by
  unfold bOwe
  rw [tallyAt_apply]
  by_cases h : peer d k = c
  · subst h; rw [if_pos ⟨rfl, rfl⟩, if_pos rfl]
  · rw [if_neg h, if_neg (fun ⟨h1, _⟩ => h (congrArg (fun g : GSem nD τ sig => g.1.1) h1).symm)]
theorem sOwe_bar (d c : Dev nD) (k : Fin 3) : sOwe d k (barCell c) () = 0 := by
  refine Nat.eq_zero_of_not_pos fun h => ?_
  exact absurd (congrArg Prod.snd (sOwe_pos h)) (by intro h; cases h)
theorem bOwe_recv (d c j : Dev nD) (k : Fin 3) : bOwe d k (recvCell c j) () = 0 := by
  refine Nat.eq_zero_of_not_pos fun h => ?_
  exact absurd (congrArg Prod.snd (pos_tallyAt h)) (by intro h; cases h)
theorem recvS_inj : ∀ i j : Dev nD, recvS i = recvS j → i = j := by decide
theorem sOwe_recv (d c j : Dev nD) (k : Fin 3) : sOwe d k (recvCell c j) () = if Sends d k ∧ peer d k = c ∧ d = j then N else 0 := by
  by_cases h : Sends d k
  · unfold sOwe
    rw [if_pos h, tallyAt_apply]
    by_cases h' : peer d k = c ∧ d = j
    · obtain ⟨rfl, rfl⟩ := h'; rw [if_pos ⟨rfl, rfl⟩, if_pos ⟨h, rfl, rfl⟩]
    · rw [if_neg, if_neg (fun h : Sends d k ∧ _ => h' h.2)]
      rintro ⟨h1, -⟩
      refine h' ⟨(congrArg (fun g : GSem nD τ sig => g.1.1) h1).symm, ?_⟩
      have h2 : (SemLoc.dma (recvS j) : SemLoc sig) = .dma (recvS d) := congrArg Prod.snd h1
      exact (recvS_inj _ _ (SemLoc.dma.inj h2)).symm
  · unfold sOwe
    rw [if_neg h, if_neg (fun h' => h h'.1)]
    rfl

theorem owed_bar (d c : Dev nD) : O₀ d (barCell c) () = if d = c then 0 else 1 := by
  unfold O₀ sends
  simp only [Pi.add_apply, Finsupp.add_apply, Pi.zero_apply, Finsupp.zero_apply, sOwe_bar, bOwe_bar]
  revert d c; decide
theorem owed_recv (d c j : Dev nD) : O₀ d (recvCell c j) () = if d = j ∧ j.val < c.val then N else 0 := by
  unfold O₀ sends
  simp only [Pi.add_apply, Finsupp.add_apply, Pi.zero_apply, Finsupp.zero_apply, sOwe_recv, bOwe_recv]
  have key : ∀ d c j : Dev nD,
      ((d = j ∧ j.val < c.val) ∧ (((Sends d 0 ∧ peer d 0 = c ∧ d = j) ∧ ¬(Sends d 1 ∧ peer d 1 = c ∧ d = j) ∧ ¬(Sends d 2 ∧ peer d 2 = c ∧ d = j))
          ∨ (¬(Sends d 0 ∧ peer d 0 = c ∧ d = j) ∧ (Sends d 1 ∧ peer d 1 = c ∧ d = j) ∧ ¬(Sends d 2 ∧ peer d 2 = c ∧ d = j))
          ∨ (¬(Sends d 0 ∧ peer d 0 = c ∧ d = j) ∧ ¬(Sends d 1 ∧ peer d 1 = c ∧ d = j) ∧ (Sends d 2 ∧ peer d 2 = c ∧ d = j))))
        ∨ (¬(d = j ∧ j.val < c.val) ∧ ¬(Sends d 0 ∧ peer d 0 = c ∧ d = j) ∧ ¬(Sends d 1 ∧ peer d 1 = c ∧ d = j) ∧ ¬(Sends d 2 ∧ peer d 2 = c ∧ d = j)) := by
    decide
  rcases key d c j with ⟨h, ⟨h0, h1, h2⟩ | ⟨h0, h1, h2⟩ | ⟨h0, h1, h2⟩⟩ | ⟨h, h0, h1, h2⟩
  · rw [if_pos h, if_pos h0, if_neg h1, if_neg h2]; simp only [Nat.zero_add, Nat.add_zero]
  · rw [if_pos h, if_neg h0, if_pos h1, if_neg h2]; simp only [Nat.zero_add, Nat.add_zero]
  · rw [if_pos h, if_neg h0, if_neg h1, if_pos h2]; simp only [Nat.zero_add, Nat.add_zero]
  · rw [if_neg h, if_neg h0, if_neg h1, if_neg h2]

theorem launch_bar :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem launch_recv (j : Dev nD) (h : j.val < c.val) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j]
  simp [h]

theorem cred_recv (j : Dev nD) :
    (cred (tallyOn (recvCell c j) (launchCredit (Pipeline.owing O₀) 0 (recvCell c j))) : sProp 𝕄)
      ⊢ if j.val < c.val then cred (tallyAt (recvCell c j) () N) else iprop(emp) := by
  by_cases h : j.val < c.val
  · rw [if_pos h, launch_recv c j h]
  · rw [if_neg h]
    iintro -
    iempintro

/-- The four cells of a device others pay. -/
def paidSem (c : Dev nD) : Fin 4 → SemLoc sig := ![.reg barS, .dma (recvS (peer c 0)), .dma (recvS (peer c 1)), .dma (recvS (peer c 2))]
theorem paidSem_inj : Function.Injective (paidSem c) := by revert c; decide

theorem creds : (Pipeline.launchCred O₀ c : sProp 𝕄) ⊢ credsIn (F := F) c := by
  unfold Pipeline.launchCred credsIn
  refine (bigSep_subset (Finset.subset_univ (Finset.univ.map ⟨paidSem c, paidSem_inj c⟩))).trans ?_
  rw [bigSep_map, bigSep_univ_eq_bigSepL [(0 : Fin 4), 1, 2, 3] (by decide) (by decide)]
  show iprop(cred (tallyOn (barCell c) (launchCredit (Pipeline.owing O₀) 0 (barCell c)))
    ∗ cred (tallyOn (recvCell c (peer c 0)) (launchCredit (Pipeline.owing O₀) 0 (recvCell c (peer c 0))))
    ∗ cred (tallyOn (recvCell c (peer c 1)) (launchCredit (Pipeline.owing O₀) 0 (recvCell c (peer c 1))))
    ∗ cred (tallyOn (recvCell c (peer c 2)) (launchCredit (Pipeline.owing O₀) 0 (recvCell c (peer c 2))))) ⊢ _
  rw [launch_bar]
  iintro ⟨Hb, H0, H1, H2⟩
  isplitl [Hb]; · iexact Hb
  isplitl [H0]; · iapply (cred_recv c (peer c 0)); iexact H0
  isplitl [H1]; · iapply (cred_recv c (peer c 1)); iexact H1
  iapply (cred_recv c (peer c 2)); iexact H2

end Cert.Attn

end
-- ==== Proof.Region.lean ====
/-
# The region's proof data and the body's obligation
-/
module

public import proofs.«01_k».proof.Proof.Ghost
public import proofs.«01_k».proof.Proof.Gen.KernelIdeal.Frame
public import proofs.«01_k».proof.Proof.Gen.KernelIdeal.Points
public import proofs.«01_k».proof.Proof.Gen.KernelIdeal.Launch

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-- The packed keys and values each device enters the kernel with. -/
def kvOf : Packed (F := F) := fun c => V m c main_v6

/-- The blocks of the inputs, and the output from them. -/
def xIn (c : Dev nD) : XC (F := F) := iblk m c 0 t0_0
def wqIn (c : Dev nD) : WC (F := F) := iblk m c 1 t0_0
def woIn (c : Dev nD) : WoC (F := F) := iblk m c 2 t0_0

/-- What the kernel may leave in the output's buffer: what it makes of its inputs over some earlier contents of its scratch. -/
def OutOk (c : Dev nD) (X : OutC (F := F)) : Prop :=
  ∃ f6 S C f4, X = outAll (kvOf m) c (xIn m c) (wqIn m c) (woIn m c) f6 S C f4

def phiIn (c : Dev nD) : sProp 𝕄 :=
  iprop((∃ K, records (kvOf m) K ∗ exIn (kvOf m) K c ∗ semVal (recvCell c c) 0) ∗ scrAny (F := F) c)
def phiOut (c : Dev nD) : sProp 𝕄 := iprop((semVal (barCell c) 0 ∗ zeros (F := F) c) ∗ scrAny (F := F) c)

/-- The region's data on one device. -/
def rdat (c : Dev nD) : Pipeline.RDat τ (Elt F) Unit ℕ UU ℕ cfg0 c where
  A w := V m c (Pipeline.arrRef spec0 w)
  after := fun
    | 0 => fun _ Y X => X = Y
    | 1 => fun _ Y X => X = Y
    | 2 => fun _ Y X => X = Y
    | 3 => fun _ _ X => OutOk m c X
    | ⟨_ + 4, h⟩ => absurd h (Nat.not_lt.2 (Nat.le_add_left _ _))
  Φ t := if t.val = 0 then phiIn m c else phiOut c
  q _ := fullShare
  owed t := if t.val = 0 then O₀ c else 0

theorem finds_x (c : Dev nD) (Y : (cfg0.win 0).block.Idx → Elt F (cfg0.win 0).elt) (h : (rdat m c).Finds 0 t0_0 Y) : Y = xIn m c := by
  obtain ⟨d, rfl⟩ := ((rdat m c).finds_of_fetch (fetch0_0 t0_0) Y).1 h
  unfold Pipeline.RDat.fetched Pipeline.RDat.blockOf xIn iblk
  rfl
theorem finds_wq (c : Dev nD) (Y : (cfg0.win 1).block.Idx → Elt F (cfg0.win 1).elt) (h : (rdat m c).Finds 1 t0_0 Y) : Y = wqIn m c := by
  obtain ⟨d, rfl⟩ := ((rdat m c).finds_of_fetch (fetch0_1 t0_0) Y).1 h
  unfold Pipeline.RDat.fetched Pipeline.RDat.blockOf wqIn iblk
  rfl
theorem finds_wo (c : Dev nD) (Y : (cfg0.win 2).block.Idx → Elt F (cfg0.win 2).elt) (h : (rdat m c).Finds 2 t0_0 Y) : Y = woIn m c := by
  obtain ⟨d, rfl⟩ := ((rdat m c).finds_of_fetch (fetch0_2 t0_0) Y).1 h
  unfold Pipeline.RDat.fetched Pipeline.RDat.blockOf woIn iblk
  rfl

theorem body_prog : (defs₀ (F := F)) .tc cfg0.body (cfg0.bodyArgs t0_0 (cfg0.slots t0_0))
    = cc0_body (F := F) kvpM (Memref.isWhole_whole _) xM (Memref.isWhole_whole _) wqM (Memref.isWhole_whole _) woM (Memref.isWhole_whole _) outM (Memref.isWhole_whole _) kvallM (Memref.isWhole_whole _) qM (Memref.isWhole_whole _) kvM (Memref.isWhole_whole _) accM (Memref.isWhole_whole _) mM (Memref.isWhole_whole _) lM (Memref.isWhole_whole _) ctxM (Memref.isWhole_whole _) cc0_scratch6 cc0_scratch7 cc0_scratch8 := rfl

theorem own_x (c : Dev nD) (X : XC (F := F)) : (owns (c : Thread nD τ) ((cfg0.win 0).stage (cfg0.slots t0_0 0)) fullShare X : sProp 𝕄)
    = (xM.view.loc (c : Thread nD τ) ↦[xM.view.set]{fullShare} X) := by
  rw [(Memref.isWhole_whole (cc0_stg0_0 : Ref sig .tc)).set_eq_univ]
  exact owns_whole (c : Thread nD τ) cc0_stg0_0 fullShare X
theorem own_wq (c : Dev nD) (X : WC (F := F)) : (owns (c : Thread nD τ) ((cfg0.win 1).stage (cfg0.slots t0_0 1)) fullShare X : sProp 𝕄)
    = (wqM.view.loc (c : Thread nD τ) ↦[wqM.view.set]{fullShare} X) := by
  rw [(Memref.isWhole_whole (cc0_stg1_0 : Ref sig .tc)).set_eq_univ]
  exact owns_whole (c : Thread nD τ) cc0_stg1_0 fullShare X
theorem own_wo (c : Dev nD) (X : WoC (F := F)) : (owns (c : Thread nD τ) ((cfg0.win 2).stage (cfg0.slots t0_0 2)) fullShare X : sProp 𝕄)
    = woPts c X := by
  unfold woPts
  rw [(Memref.isWhole_whole (cc0_stg2_0 : Ref sig .tc)).set_eq_univ]
  exact owns_whole (c : Thread nD τ) cc0_stg2_0 fullShare X
theorem own_out (c : Dev nD) (X : OutC (F := F)) : (owns (c : Thread nD τ) ((cfg0.win 3).stage (cfg0.slots t0_0 3)) fullShare X : sProp 𝕄)
    = outPts c X := by
  unfold outPts
  rw [(Memref.isWhole_whole (cc0_stg3_0 : Ref sig .tc)).set_eq_univ]
  exact owns_whole (c : Thread nD τ) cc0_stg3_0 fullShare X

theorem phi_at (c : Dev nD) (t : Fin (cfg0.N + 1)) : (rdat m c).Φ t = if t.val = 0 then phiIn m c else phiOut c := rfl
theorem owed_at (c : Dev nD) (t : Fin (cfg0.N + 1)) : (rdat m c).owed t = if t.val = 0 then O₀ c else 0 := rfl
theorem last_ne : (Fin.last cfg0.N).val ≠ 0 := by show grid0.N ≠ 0; rw [N_0]; decide
theorem phi_first (c : Dev nD) : (rdat m c).Φ t0_0.castSucc = phiIn m c := by rw [phi_at]; exact if_pos rfl
theorem phi_next (c : Dev nD) : (rdat m c).Φ t0_0.succ = phiOut c := by rw [phi_at]; exact if_neg (Nat.succ_ne_zero _)
theorem owed_first (c : Dev nD) : (rdat m c).owed t0_0.castSucc = O₀ c := by rw [owed_at]; exact if_pos rfl
theorem owed_next (c : Dev nD) : (rdat m c).owed t0_0.succ = 0 := by rw [owed_at]; exact if_neg (Nat.succ_ne_zero _)
theorem phi_zero (c : Dev nD) : (rdat m c).Φ 0 = phiIn m c := by rw [phi_at]; exact if_pos rfl
theorem phi_last (c : Dev nD) : (rdat m c).Φ (Fin.last cfg0.N) = phiOut c := by rw [phi_at]; exact if_neg last_ne
theorem owed_zero (c : Dev nD) : (rdat m c).owed 0 = O₀ c := by rw [owed_at]; exact if_pos rfl
theorem owed_last (c : Dev nD) : (rdat m c).owed (Fin.last cfg0.N) = 0 := by rw [owed_at]; exact if_neg last_ne
theorem owes_in (c : Dev nD) (t : Fin (cfg0.N + 1)) {O : CellTallies nD τ sig Unit} (h : (rdat m c).owed t = O) :
    owesE (F := F) c O ⊢ (rdat m c).owesAt () t := by
  subst h
  unfold owesE
  iintro ⟨%W, H⟩
  iexists W
  isplitr; · ipureintro; exact fun _ _ => Or.inl trivial
  iexact H
theorem owes_out (c : Dev nD) (t : Fin (cfg0.N + 1)) {O : CellTallies nD τ sig Unit} (h : (rdat m c).owed t = O) :
    (rdat m c).owesAt () t ⊢ owesE (F := F) c O := by
  subst h
  unfold owesE
  iintro ⟨%W, -, H⟩
  iexists W; iexact H

set_option maxHeartbeats 1000000 in
/-- The body's obligation, on every device. -/
theorem body_obl (c : Dev nD) : (rdat m c).BodyObligation (defs₀ (F := F)) 𝒱₀ () Set.univ := by
  intro t Y hY
  obtain rfl := fin_N0 t
  have hx := finds_x m c (Y 0) (hY 0)
  have hwq := finds_wq m c (Y 1) (hY 1)
  have hwo := finds_wo m c (Y 2) (hY 2)
  rw [body_prog, bigSep_W0, phi_first]
  unfold phiIn
  iintro ⟨⟨⟨%K, #HR, Hex, Hrc⟩, Hscr⟩, HO, Hx, Hwq, Hwo, Hout⟩
  iapply (wp_fupd frame (wpE (defs₀ (F := F)) 𝒱₀ (c : Thread nD τ) none) Set.univ)
  iapply (wp_wand_r frame (wpE (defs₀ (F := F)) 𝒱₀ (c : Thread nD τ) none) Set.univ)
  isplitl [Hex Hscr HO Hx Hwq Hwo Hout]
  · iapply (body_run (kvOf m) K c (xIn m c) (wqIn m c) (woIn m c))
    isplitl [Hex]; · iexact Hex
    isplitl [HO]; · iapply (owes_out m c _ (owed_first m c)); iexact HO
    isplitl [Hx Hwq]
    · unfold inPts
      rw [← own_x, ← own_wq, ← hx, ← hwq]
      isplitl [Hx]; · iexact Hx
      iexact Hwq
    isplitl [Hwo]
    · rw [← own_wo, ← hwo]; iexact Hwo
    isplitl [Hout]
    · iexists (Y 3); rw [← own_out]; iexact Hout
    iexact Hscr
  iintro %r ⟨Hex, HO, Hin, Hwo, ⟨%f6, %S, %C, %f4, Hout⟩, Hscr⟩
  imod (ex_close (kvOf m) K c) $$ [Hex Hrc] with Hz
  · isplitr; · iexact HR
    isplitl [Hex] <;> iassumption
  imodintro
  rw [bigSep_W0, phi_next]
  isplitl [Hz Hscr]
  · unfold phiOut
    isplitl [Hz] <;> iassumption
  isplitl [HO]; · iapply (owes_in m c _ (owed_next m c)); iexact HO
  unfold inPts
  icases Hin with ⟨Hx, Hwq⟩
  isplitl [Hx]
  · iexists (Y 0)
    isplitr; · ipureintro; exact rfl
    rw [hx, own_x]; iexact Hx
  isplitl [Hwq]
  · iexists (Y 1)
    isplitr; · ipureintro; exact rfl
    rw [hwq, own_wq]; iexact Hwq
  isplitl [Hwo]
  · iexists (Y 2)
    isplitr; · ipureintro; exact rfl
    rw [hwo, own_wo]; iexact Hwo
  iexists (outAll (kvOf m) c (xIn m c) (wqIn m c) (woIn m c) f6 S C f4)
  isplitr; · ipureintro; exact ⟨f6, S, C, f4, rfl⟩
  rw [own_out]; iexact Hout

end Cert.Attn

end
-- ==== Proof.Run.lean ====
/-
# The run

From any memory with every counter at zero the program terminates on the four devices, its arguments unchanged, its result what the
kernel may leave, every counter back at zero.
-/
module

public import proofs.«01_k».proof.Proof.Region
public import Idealize.ShloMosaic.Lib.Pipeline.ArrRel
public import Idealize.ShloMosaic.Lib.Pipeline.RegionTalk

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

abbrev adm : (p : Fin 1) → (pcfgs (F := F) p).Adm := fun p => (cfgs p).toPCfg_adm
def rdats : (p : Fin 1) → (c : Dev nD) → Pipeline.RDat τ (Elt F) Unit ℕ UU ℕ (Pipeline.pin (pcfgs (F := F)) adm p) c
  | 0 => rdat m

/-- The memory at launch, and what the host's operations make of it. -/
abbrev V₀ (c : Dev nD) : Valuation τ sig (Elt F) := fun b => m (c, b)
abbrev V₁ (c : Dev nD) : Valuation τ sig (Elt F) := StableHlo.after hostOps0 (V₀ m c)

/-- The ghost state up to the kernel. -/
def start (c : Dev nD) : sProp 𝕄 := iprop((∃ K, records (kvOf m) K ∗ linear (F := F) c) ∗ credsIn (F := F) c)
def R (c : Dev nD) : sProp 𝕄 := iprop(start m c ∗ owesE (F := F) c (O₀ c))

abbrev T₀ (c : Dev nD) : sProp 𝕄 := iprop(StableHlo.held (c : Thread nD τ) (Pipeline.ucRefs τ sig) (V₀ m c) ∗ R m c)

/-- The arguments no window stages. -/
def restArgs (c : Dev nD) : sProp 𝕄 :=
  iprop((((c : Thread nD τ).loc main_arg0) ↦{fullShare} V m c main_arg0) ∗ (((c : Thread nD τ).loc main_arg2) ↦{fullShare} V m c main_arg2)
    ∗ (((c : Thread nD τ).loc main_arg3) ↦{fullShare} V m c main_arg3))
abbrev Tₙ (c : Dev nD) : sProp 𝕄 := iprop((rdat m c).arraysAt cfg0.N ∗ restArgs m c ∗ semVal (barCell c) 0)

def seg0 : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps0
    (fun op h => Pipeline.sub_ucRefs op (List.forall_iff_forall_mem.mp hostOps0_sub op h)) (List.forall_iff_forall_mem.mp hostOps0_fresh) (V₀ m) (R m)

theorem share_full (c : Dev nD) (w : Fin cfg0.W) : (rdat m c).share w = fullShare := by
  unfold Pipeline.RDat.share
  split <;> rfl

theorem held_split (c : Dev nD) : (StableHlo.held (c : Thread nD τ) (Pipeline.ucRefs τ sig) (V₁ m c) : sProp 𝕄)
    = iprop((rdat m c).arrays (rdat m c).A ∗ Pipeline.unscopedRest spec0 c (V m c)) := by
  rw [← Pipeline.unscopedBufs_held c (V₁ m c)]
  refine (Pipeline.unscopedBufs_split cfgs 0 winFacts0.arr_unscoped winFacts0.arr_inj c (V m c)).trans ?_
  refine congrArg (fun P : sProp 𝕄 => iprop(P ∗ Pipeline.unscopedRest spec0 c (V m c))) ?_
  exact (Pipeline.RDat.arrays_eq (pcfgs (F := F)) adm (rdats m) 0 c arr_whole0 (share_full m c) (rdat m c).A).symm

theorem scr_eq (c : Dev nD) : (Pipeline.scopedRest spec0 c : sProp 𝕄) = scrAny (F := F) c := by
  rw [scopedRest0_eq]
  unfold scrAny qPts
  simp only [(Memref.isWhole_whole (cc0_scratch0 : Ref sig .tc)).set_eq_univ, (Memref.isWhole_whole (cc0_scratch1 : Ref sig .tc)).set_eq_univ,
    (Memref.isWhole_whole (cc0_scratch2 : Ref sig .tc)).set_eq_univ, (Memref.isWhole_whole (cc0_scratch3 : Ref sig .tc)).set_eq_univ,
    (Memref.isWhole_whole (cc0_scratch4 : Ref sig .tc)).set_eq_univ, (Memref.isWhole_whole (cc0_scratch5 : Ref sig .tc)).set_eq_univ]

theorem hentry (c : Dev nD) :
    iprop((StableHlo.held (c : Thread nD τ) (Pipeline.ucRefs τ sig) (V₁ m c) ∗ R m c) ∗ Pipeline.ownSems0 osem c ∗ levAts L lv)
      ⊢ iprop(|={Set.univ}=> ((rdat m c).arrays (rdat m c).A ∗ emp ∗ (rdat m c).owesAt () 0
        ∗ (∃ K, records (kvOf m) K ∗ exIn (kvOf m) K c ∗ semVal (recvCell c c) 0) ∗ restArgs m c)) := by
  rw [held_split, ownSems_eq, unscopedRest0_eq]
  unfold R start restArgs
  iintro ⟨⟨⟨Ha, H0, H2, H3, -, -, -, -, H6, H7⟩, ⟨⟨%K, #HR, Hl⟩, Hcr⟩, HO⟩, Hz, #Hlev⟩
  imod (ex_open (kvOf m) K c (V m c main_v7_1)) $$ [Hl Hcr Hz H6 H7] with ⟨Hex, Hrc⟩
  · isplitr; · iexact HR
    isplitr; · iexact Hlev
    isplitl [Hl]; · iexact Hl
    isplitl [Hcr]; · iexact Hcr
    isplitl [Hz]; · iexact Hz
    isplitl [H6]; · iexact H6
    iexact H7
  imodintro
  isplitl [Ha]; · iexact Ha
  isplitr; · iempintro
  isplitl [HO]; · iapply (owes_in m c 0 (owed_zero m c)); iexact HO
  isplitl [Hex Hrc]
  · iexists K
    isplitr; · iexact HR
    isplitl [Hex] <;> iassumption
  isplitl [H0]; · iexact H0
  isplitl [H2]; · iexact H2
  iexact H3

theorem owed_lv (c : Dev nD) (t : Fin (cfg0.N + 1)) (g : GSem nD τ sig) (u : Unit) (h : 0 < (rdat m c).owed t g u) : u ∈ L g ∧ (0 : ℕ) < lv g u := by
  rw [owed_at] at h
  split at h
  · rcases O₀_pos h with ⟨k, rfl⟩ | ⟨k, rfl⟩
    · exact ⟨by rw [L_tc]; exact Finset.mem_singleton_self _, by rw [lv_recv]; decide⟩
    · exact ⟨by rw [L_tc]; exact Finset.mem_singleton_self _, Nat.one_pos⟩
  · exact absurd h (Nat.lt_irrefl 0)

theorem stage_lv : ∀ (w : Fin 4) (s : Fin (spec0 w).nbuf), lvS (.dma ((spec0 w).sem s)) ≤ 0 := by decide

set_option backward.isDefEq.respectTransparency.types false in
def reg0 : Pipeline.RDat.RegionSeg (pcfgs (F := F)) adm (rdats m) () defs₀ 𝒱₀ L lv 0 where
  win := (by decide : Pipeline.WinFacts₀ spec0)
  block_pos := block_pos0
  stage_whole := stage_whole0
  K := Fin 8
  osem := osem
  ho := osem_facts
  hbody := body_obl m
  hwaits c := Pipeline.RDat.cellsWaits_intro (Pipeline.pin (pcfgs (F := F)) adm) (rdats m) () 0 c fun w s t =>
    MayOwe.of_cut 0 (fun q hq => by rw [Finset.mem_singleton.mp hq]; exact Finset.mem_singleton_self _) (fun g i hg => (owed_lv m c t g i hg).1)
      (fun q hq => by rw [Finset.mem_singleton.mp hq]; exact stage_lv w s) (fun g i hg => (owed_lv m c t g i hg).2)
  pre c := iprop(StableHlo.held (c : Thread nD τ) (Pipeline.ucRefs τ sig) (V₁ m c) ∗ R m c)
  post c := iprop(Tₙ m c ∗ ∃ W, owes (c : Thread nD τ) (0 : CellTallies nD τ sig Unit) W)
  X c := iprop(∃ K, records (kvOf m) K ∗ exIn (kvOf m) K c ∗ semVal (recvCell c c) 0)
  Y c := semVal (barCell c) 0
  Z c := restArgs m c
  hentry c := by
    rw [Pipeline.prefHeld_of_none _ rfl]
    exact hentry m c
  hin c := by
    rw [Pipeline.prefHeld_of_none _ rfl]
    refine BIBase.Entails.trans ?_ (Entails.of_eq (phi_zero m c).symm)
    unfold phiIn
    rw [← scr_eq]
    iintro ⟨HX, -, Hs⟩
    isplitl [HX]; · iexact HX
    iexact Hs
  hout c := by
    refine BIBase.Entails.trans (Entails.of_eq (phi_last m c)) ?_
    unfold phiOut
    rw [← scr_eq, ownSems_eq]
    iintro ⟨⟨Hb, Hz⟩, Hs⟩
    isplitl [Hb]; · iexact Hb
    isplitl [Hz]; · iexact Hz
    iexact Hs
  hexit c := by
    show iprop((rdat m c).arraysAt cfg0.N ∗ (rdat m c).owesAt () (Fin.last cfg0.N) ∗ semVal (barCell c) 0 ∗ restArgs m c) ⊢ _
    iintro ⟨Ha, HO, Hb, Hr⟩
    imodintro
    isplitl [Ha Hb Hr]
    · isplitl [Ha]; · iexact Ha
      isplitl [Hr]; · iexact Hr
      iexact Hb
    have h := owes_out m c _ (owed_last m c)
    unfold owesE at h
    iapply h
    iexact HO

def segs : List (Pipeline.RDat.Seg (pcfgs (F := F)) adm (rdats m) () defs₀ 𝒱₀ L lv) := [.host (seg0 m), .region (reg0 m)]

theorem main_eq (c : Dev nD) : main (F := F) c = Pipeline.RDat.Seg.run (segs m) := by
  rw [main_chain, Pipeline.RDat.Seg.run_eq_chain]
  rfl

/-! ## The launch -/

/-- The launch's ghost element: the pipeline's cells, the exchange's, and no local copy in flight. -/
def u₀ : UU :=
  (initOf (Pipeline.cells (Pipeline.pin (pcfgs (F := F)) adm) cellOf_inj) (Pipeline.launchToks (Pipeline.pin (pcfgs (F := F)) adm) cellOf_inj),
    (launchOf barCells scCells exToks, 1))

/-- A resource dealt to device 0 whole. -/
def atZero (X : sProp 𝕄) (c : Dev nD) : sProp 𝕄 := if c = 0 then X else iprop(emp)
theorem bigSep_atZero (X : sProp 𝕄) : bigSep Finset.univ (atZero X) = X := by
  rw [bigSep_univ_at _ (0 : Dev nD), bigSep_congr (s := Finset.univ.erase 0) (Ψ := fun _ => (BI.emp : sProp 𝕄))
      fun c hc => by unfold atZero; rw [if_neg (Finset.ne_of_mem_erase hc)]; rfl, BI.bigSep_emp_const]
  unfold atZero; rw [if_pos rfl]
  exact BI.equiv_iff.mp sep_emp

def G : Dev nD → sProp 𝕄 := atZero (BI.own ((ER : Emb UB 𝕄) (launchOf barCells scCells exToks)))

/-- What a device holds at launch beside the exchange's ghost state. -/
def bundle (c : Dev nD) : sProp 𝕄 :=
  iprop(StableHlo.held (c : Thread nD τ) (Pipeline.ucRefs τ sig) (V₀ m c) ∗ credsIn (F := F) c ∗ owes (c : Thread nD τ) (O₀ c) ∅)

theorem T₀_intro (K : GSem nD τ sig → ℕ) (c : Dev nD) : iprop(records (kvOf m) K ∗ (linear (F := F) c ∗ bundle m c)) ⊢ T₀ m c := by
  unfold bundle T₀ R start owesE
  iintro ⟨#HR, Hl, Hh, Hc, HO⟩
  isplitl [Hh]; · iexact Hh
  isplitr [HO]
  · isplitl [Hl]
    · iexists K
      isplitr; · iexact HR
      iexact Hl
    iexact Hc
  · iexists ∅; iexact HO

theorem bigSep_pair {Φ Ψ : Dev nD → sProp 𝕄} :
    iprop(bigSep Finset.univ Φ ∗ bigSep Finset.univ Ψ) ⊢ bigSep Finset.univ fun c => iprop(Φ c ∗ Ψ c) := Entails.of_eq (bigSep_sep' _ _ _).symm
theorem bigSep_unpair {Φ Ψ : Dev nD → sProp 𝕄} :
    (bigSep Finset.univ fun c => iprop(Φ c ∗ Ψ c)) ⊢ iprop(bigSep Finset.univ Φ ∗ bigSep Finset.univ Ψ) := Entails.of_eq (bigSep_sep' _ _ _)

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) (Pipeline.ucRefs τ sig) (V₀ m c)
        from Pipeline.unscopedBufs_held c (V₀ m c), unscopedSems0_eq]
    unfold bundle
    iintro ⟨Hh, Hus, HO, Hcr, -, HG⟩
    ihave Hc := (creds (F := F) c) $$ Hcr
    isplitl [Hh Hc HO]
    · isplitl [Hh]; · iexact Hh
      isplitl [Hc] <;> iassumption
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := bigSep_unpair $$ H'; icases H2 with ⟨HB, H3⟩
  ihave H4 := bigSep_unpair $$ H3; icases H4 with ⟨Hv, HG⟩
  ihave Hu := (show bigSep Finset.univ (G (F := F)) ⊢ BI.own ((ER : Emb UB 𝕄) (launchOf barCells scCells exToks)) from
    Entails.of_eq (bigSep_atZero (F := F) _)) $$ HG
  imod (Rounds.fund_launch ER (exRd (kvOf m)) disjoint_cells (fun g _ h => h) exToks) $$ [Hv Hu] with ⟨%κ, -, #Hinv, #Hr, Hat, Hopen, Htok⟩
  · isplitl [Hv]
    · iapply hv $$ Hv
    · iexact Hu
  imodintro
  iapply (bigSep_with_persistent (R := records (kvOf m) κ) (Φ := fun c => iprop(linear (F := F) c ∗ bundle m c)) fun c _ => T₀_intro m κ c)
  isplitr
  · unfold records
    isplitr; · iexact Hinv
    iexact Hr
  iapply bigSep_pair
  isplitr [HB]
  · unfold linear
    iapply bigSep_pair; isplitl [Hat]; · iapply hat $$ Hat
    iapply bigSep_pair; isplitl [Hopen]; · iapply (Entails.of_eq (opens_eq (F := F))) $$ Hopen
    iapply (Entails.of_eq (pays_eq (F := F))) $$ Htok
  · iexact HB

/-! ## The run -/

/-- What a final memory holds on device `c`. -/
def QY (c : Dev nD) (s : MemSt nD τ sig (Elt F)) : Prop :=
  (∀ w, (rdat m c).ArrAt w cfg0.N (s.mem ((cfg0.spec w).arr.view.loc (c : Thread nD τ))))
    ∧ (s.mem ((c : Thread nD τ).loc main_arg0) = V m c main_arg0 ∧ s.mem ((c : Thread nD τ).loc main_arg2) = V m c main_arg2
      ∧ s.mem ((c : Thread nD τ).loc main_arg3) = V m c main_arg3) ∧ s.sem (barCell c) = 0

theorem final (c : Dev nD) (s' : Phys nD τ sig (Elt F)) : iprop(Tₙ m c ∗ SI s') ⊢ (|={Set.univ}=> iprop(⌜QY m c s'.mem⌝ ∗ SI s') : sProp 𝕄) := by
  have hread : iprop((rdat m c).arraysAt cfg0.N ∗ SI s')
      ⊢ (iprop(⌜∀ w, (rdat m c).ArrAt w cfg0.N (s'.mem.mem ((cfg0.spec w).arr.view.loc (c : Thread nD τ)))⌝ ∗ SI s') : sProp 𝕄) :=
    Pipeline.RDat.arraysAt_read (pcfgs (F := F)) adm (rdats m) 0 c arr_whole0 _ s'
  dsimp only [Tₙ]
  unfold restArgs
  iintro ⟨⟨Ha, ⟨H0, H2, H3⟩, Hb⟩, HSI⟩
  icombine HSI H0 gives %h0
  icombine HSI H2 gives %h2
  icombine HSI H3 gives %h3
  icombine HSI Hb gives %hb
  ihave H := hread $$ [Ha HSI]
  · isplitl [Ha] <;> iassumption
  icases H with ⟨%ha, HSI⟩
  imodintro
  isplitr
  · ipureintro
    exact ⟨ha, ⟨Buf.eq_of_forall_mem_univ h0, Buf.eq_of_forall_mem_univ h2, Buf.eq_of_forall_mem_univ h3⟩, by simpa using hb⟩
  iexact HSI

theorem whole_out : (cfg0.win 3).WholeAt t0_0 := by decide

theorem out_read (c : Dev nD) (X : OutC (F := F)) (h : (rdat m c).ArrAt 3 cfg0.N X) : OutOk m c X := by
  obtain ⟨Y, hY, hX⟩ := Pipeline.RDat.ArrAt.emb_eq_of_wholeAt h whole_out
  have hXY : X = Y := by
    funext j
    exact hX j
  obtain ⟨Z, -, hZ⟩ := hY
  subst hXY
  exact hZ

theorem in_read (c : Dev nD) (w : Fin 4) (hw : (cfg0.win w).isOut = false) (X : Buf (Elt F) ((cfg0.spec w).arr.view.loc (c : Thread nD τ)))
    (h : (rdat m c).ArrAt w cfg0.N X) : X = (rdat m c).A w := by
  have e := Pipeline.RDat.ArrAt_in (rdat m c) w hw cfg0.N
  rw [e] at h
  exact h

set_option backward.isDefEq.respectTransparency.types false in
theorem run_main : θ_run defs (onTc (τ := τ) (main (F := F))) ⟨m, fun _ => 0, ρ⟩
    (fun r => (∀ c : Dev nD,
        (r.2.mem ((c : Thread nD τ).loc main_arg0) = m ((c : Thread nD τ).loc main_arg0)
          ∧ r.2.mem ((c : Thread nD τ).loc main_arg1) = m ((c : Thread nD τ).loc main_arg1)
          ∧ r.2.mem ((c : Thread nD τ).loc main_arg2) = m ((c : Thread nD τ).loc main_arg2)
          ∧ r.2.mem ((c : Thread nD τ).loc main_arg3) = m ((c : Thread nD τ).loc main_arg3)
          ∧ r.2.mem ((c : Thread nD τ).loc main_arg4) = m ((c : Thread nD τ).loc main_arg4))
        ∧ OutOk m c (r.2.mem ((c : Thread nD τ).loc main_v7_0))) ∧ r.2.sem = fun _ => 0) :=
  Pipeline.RDat.θ_run_regions_kit_sems (pcfgs (F := F)) adm (rdats m) () cellOf_inj EP defs₀ 𝒱₀ L lv m ρ main (segs m)
    (fun c Q => by rw [main_eq m c])
    (by simp only [segs, Pipeline.RDat.Seg.pipes_host, Pipeline.RDat.Seg.pipes_region, Pipeline.RDat.Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_atZero]; iexact HX)
    (T₀ := T₀ m) (Tₙ := Tₙ m)
    (hch := ⟨fun c => .rfl, fun c => .rfl, fun c => .rfl⟩)
    (hinit := init m ρ)
    (QY := QY m)
    (hfin := final m)
    (hQ := fun s h hs => ⟨fun c => by
        obtain ⟨ha, ⟨h0, h2, h3⟩, -⟩ := h c
        refine ⟨⟨h0.trans (V_main_arg0 m c), ?_, h2.trans (V_main_arg2 m c), h3.trans (V_main_arg3 m c), ?_⟩, out_read m c _ (ha 3)⟩
        · exact (in_read m c 1 rfl _ (ha 1)).trans (V_main_arg1 m c)
        · exact (in_read m c 2 rfl _ (ha 2)).trans (V_main_arg4 m c),
      sem_eq_zero hs fun c sm hsm => by
        obtain rfl := unscoped_eq sm hsm
        exact (h c).2.2⟩)

end Cert.Attn

end
-- ==== Proof.Softmax.lean ====
/-
# The running softmax over the extended reals

A row's state after some keys is a shift, the sum of the shifted exponentials of their scores, and the values weighted
by those exponentials. The quotient of the last by the sum does not depend on the shift. Scores are real; values may be
infinite.
-/
module

public import Idealize.ShloMosaic.PureOps.Ideal

@[expose] public section

noncomputable section

namespace Cert.Attn

open Idealize.ShloMosaic

variable {ι D : Type} [DecidableEq ι]

/-! ## Sums over the extended reals -/

theorem sum_mul_real (A : Finset ι) (f : ι → EReal) {r : ℝ} (hr : 0 ≤ r) : (∑ i ∈ A, f i) * (r : EReal) = ∑ i ∈ A, f i * (r : EReal) := by
  induction A using Finset.induction_on with
  | empty => simp
  | insert i A hi ih =>
    rw [Finset.sum_insert hi, Finset.sum_insert hi, ← ih]
    exact EReal.right_distrib_of_nonneg_of_ne_top (EReal.coe_nonneg.mpr hr) (EReal.coe_ne_top r) _ _

theorem coe_sum_real (A : Finset ι) (f : ι → ℝ) : ((∑ i ∈ A, f i : ℝ) : EReal) = ∑ i ∈ A, (f i : EReal) := by
  induction A using Finset.induction_on with
  | empty => simp
  | insert i A hi ih => rw [Finset.sum_insert hi, Finset.sum_insert hi, EReal.coe_add, ih]

/-- The greatest of finitely many values, none of them `⊤`, is not `⊤`. -/
theorem fold_max_ne_top (A : Finset ι) (f : ι → EReal) (hf : ∀ i, f i ≠ ⊤) : A.fold max ⊥ f ≠ ⊤ := by
  induction A using Finset.induction_on with
  | empty => simp
  | insert i A hi ih =>
    rw [Finset.fold_insert hi]
    rcases max_choice (f i) (A.fold max ⊥ f) with h | h <;> rw [h]
    · exact hf i
    · exact ih

theorem le_fold_max (A : Finset ι) (f : ι → EReal) {i : ι} (hi : i ∈ A) : f i ≤ A.fold max ⊥ f :=
  (Finset.le_fold_max (f i)).mpr (.inr ⟨i, hi, le_rfl⟩)

/-- The exponential of a shifted score, a masked one being `⊥`. -/
theorem exp_keep (p : Prop) [Decidable p] (x μ : ℝ) :
    Ideal.exp ((if p then (x : EReal) else ⊥) - (μ : EReal)) = if p then ((Real.exp (x - μ) : ℝ) : EReal) else 0 := by
  by_cases h : p
  · rw [if_pos h, if_pos h, ← EReal.coe_sub]; rfl
  · rw [if_neg h, if_neg h, EReal.bot_sub]; rfl

/-! ## The running state -/

/-- A row's state after the keys `A`. -/
def Online (s : ι → ℝ) (v : ι → D → EReal) (A : Finset ι) (m l : EReal) (a : D → EReal) : Prop :=
  ∃ μ : ℝ, m = (μ : EReal) ∧ l = ((∑ i ∈ A, Real.exp (s i - μ) : ℝ) : EReal) ∧ ∀ d, a d = ∑ i ∈ A, ((Real.exp (s i - μ) : ℝ) : EReal) * v i d

variable {s : ι → ℝ} {v : ι → D → EReal} {A : Finset ι} {m l : EReal} {a : D → EReal}

theorem Online.init (μ : ℝ) : Online s v ∅ (μ : EReal) 0 (fun _ => 0) := ⟨μ, rfl, by simp, by simp⟩

/-- One tile: the keys of `κ` that are kept join `A`. -/
theorem Online.step (h : Online s v A m l a) {K : ℕ} (κ : Fin K → ι) (hκ : Function.Injective κ) (keep : Fin K → Prop) [DecidablePred keep]
    (hd : ∀ j, keep j → κ j ∉ A) (t : Fin K → EReal) (ht : ∀ j, t j = if keep j then (s (κ j) : EReal) else ⊥)
    (w : Fin K → D → EReal) (hw : ∀ j d, w j d = v (κ j) d) :
    Online s v (A ∪ (Finset.univ.filter keep).image κ) (max m (Finset.univ.fold max ⊥ t))
      (l * Ideal.exp (m - max m (Finset.univ.fold max ⊥ t)) + ∑ j, Ideal.exp (t j - max m (Finset.univ.fold max ⊥ t)))
      (fun d => a d * Ideal.exp (m - max m (Finset.univ.fold max ⊥ t)) + ∑ j, w j d * Ideal.exp (t j - max m (Finset.univ.fold max ⊥ t))) := by
  obtain ⟨μ, rfl, rfl, ha⟩ := h
  have hne : max (μ : EReal) (Finset.univ.fold max ⊥ t) ≠ ⊤ := by
    rcases max_choice (μ : EReal) (Finset.univ.fold max ⊥ t) with h | h <;> rw [h]
    · exact EReal.coe_ne_top μ
    · refine fold_max_ne_top _ _ fun j => ?_
      rw [ht]; split_ifs
      · exact EReal.coe_ne_top _
      · exact bot_ne_top
  have hnb : max (μ : EReal) (Finset.univ.fold max ⊥ t) ≠ ⊥ := fun h =>
    EReal.coe_ne_bot μ (le_bot_iff.mp (h ▸ le_max_left _ _))
  generalize max (μ : EReal) (Finset.univ.fold max ⊥ t) = m' at hne hnb ⊢
  lift m' to ℝ using ⟨hne, hnb⟩ with μ'
  have hr : Ideal.exp ((μ : EReal) - (μ' : EReal)) = ((Real.exp (μ - μ') : ℝ) : EReal) := by rw [← EReal.coe_sub]; rfl
  have hs : ∀ i, Real.exp (s i - μ) * Real.exp (μ - μ') = Real.exp (s i - μ') := fun i => by rw [← Real.exp_add]; congr 1; ring
  have hdis : Disjoint A ((Finset.univ.filter keep).image κ) := by
    rw [Finset.disjoint_left]; intro i hi hm
    obtain ⟨j, hj, rfl⟩ := Finset.mem_image.mp hm
    exact hd j (Finset.mem_filter.mp hj).2 hi
  have hinj : Set.InjOn κ (Finset.univ.filter keep : Finset (Fin K)) := fun x _ y _ e => hκ e
  refine ⟨μ', rfl, ?_, fun d => ?_⟩
  · rw [hr, Finset.sum_union hdis, EReal.coe_add, ← EReal.coe_mul, Finset.sum_mul]
    congr 1
    · congr 1; exact Finset.sum_congr rfl fun i _ => hs i
    · rw [Finset.sum_image hinj, coe_sum_real, Finset.sum_filter]
      refine Finset.sum_congr rfl fun j _ => ?_
      rw [ht, exp_keep]
  · dsimp only
    rw [ha, hr, Finset.sum_union hdis, sum_mul_real _ _ (Real.exp_pos _).le]
    congr 1
    · refine Finset.sum_congr rfl fun i _ => ?_
      rw [mul_right_comm, ← EReal.coe_mul, hs]
    · rw [Finset.sum_image hinj, Finset.sum_filter]
      refine Finset.sum_congr rfl fun j _ => ?_
      rw [ht, exp_keep, hw, mul_comm]
      split_ifs <;> simp

/-! ## The softmax -/

/-- The softmax of a whole row at once, masked scores being `⊥`. -/
def softmaxRow [Fintype ι] (t : ι → EReal) (v : ι → D → EReal) (d : D) : EReal :=
  ∑ i, v i d * Ideal.div (Ideal.exp (t i - Finset.univ.fold max ⊥ t)) (∑ k, Ideal.exp (t k - Finset.univ.fold max ⊥ t))

theorem Online.out [Fintype ι] (h : Online s v A m l a) (hA : A.Nonempty) (t : ι → EReal) (ht : ∀ i, t i = if i ∈ A then (s i : EReal) else ⊥) (d : D) :
    Ideal.div (a d) l = softmaxRow t v d := by
  obtain ⟨μ, rfl, rfl, ha⟩ := h
  have hne : Finset.univ.fold max ⊥ t ≠ ⊤ := fold_max_ne_top _ _ fun i => by
    rw [ht]; split_ifs
    · exact EReal.coe_ne_top _
    · exact bot_ne_top
  have hnb : Finset.univ.fold max ⊥ t ≠ ⊥ := fun h => by
    obtain ⟨i, hi⟩ := hA
    have := le_fold_max Finset.univ t (Finset.mem_univ i)
    rw [h, ht, if_pos hi] at this
    exact EReal.coe_ne_bot _ (le_bot_iff.mp this)
  unfold softmaxRow
  generalize Finset.univ.fold max ⊥ t = M' at hne hnb ⊢
  lift M' to ℝ using ⟨hne, hnb⟩ with M
  have hpos : ∀ x : ℝ, 0 < ∑ i ∈ A, Real.exp (s i - x) := fun x => Finset.sum_pos (fun i _ => Real.exp_pos _) hA
  have hsum : ∑ k, Ideal.exp (t k - (M : EReal)) = ((∑ i ∈ A, Real.exp (s i - M) : ℝ) : EReal) := by
    rw [coe_sum_real, ← Finset.sum_filter_add_sum_filter_not Finset.univ (· ∈ A)]
    rw [show Finset.univ.filter (· ∈ A) = A by ext; simp]
    rw [Finset.sum_eq_zero (s := Finset.univ.filter (· ∉ A)) (fun i hi => by
      rw [ht, exp_keep, if_neg (Finset.mem_filter.mp hi).2]), add_zero]
    exact Finset.sum_congr rfl fun i hi => by rw [ht, exp_keep, if_pos hi]
  rw [hsum, Ideal.div_coe (hpos μ).ne', ha, sum_mul_real _ _ (by have := hpos μ; positivity),
    ← Finset.sum_filter_add_sum_filter_not Finset.univ (· ∈ A)]
  rw [show Finset.univ.filter (· ∈ A) = A by ext; simp]
  rw [Finset.sum_eq_zero (s := Finset.univ.filter (· ∉ A)) (fun i hi => by
      rw [ht, exp_keep, if_neg (Finset.mem_filter.mp hi).2, Ideal.div_coe (hpos M).ne']; simp), add_zero]
  refine Finset.sum_congr rfl fun i hi => ?_
  rw [ht, exp_keep, if_pos hi, Ideal.div_coe (hpos M).ne', mul_right_comm, ← EReal.coe_mul, ← EReal.coe_mul, mul_comm]
  congr 2
  have e : ∀ k, Real.exp (s k - μ) = Real.exp (s k - M) * Real.exp (M - μ) := fun k => by rw [← Real.exp_add]; congr 1; ring
  rw [e i, Finset.sum_congr rfl fun k _ => e k, ← Finset.sum_mul]
  have h1 := hpos M
  have h2 := Real.exp_pos (M - μ)
  field_simp

end Cert.Attn

end
-- ==== Proof.FlashValue.lean ====
/-
# One tile of the attention, read at an index over the extended reals
-/
module

public import proofs.«01_k».proof.Proof.Flash
public import proofs.«01_k».proof.Proof.Softmax
public import Idealize.ShloMosaic.Lib.Pointwise
public import Idealize.ShloMosaic.Lib.Pipeline.ValueKit
public import Idealize.ShloMosaic.Lib.ValueLayout

@[expose] public section

set_option maxRecDepth 16384

noncomputable section

namespace Cert.Attn

open Cert.KernelIdeal Cert.KernelIdeal.Gen
open Idealize.ShloMosaic Idealize.ShloMosaic.TcCoe Idealize.ShloMosaic.Tactic
open Idealize.ShloMosaic.ValueIdx (contrEquiv1 contrEquiv1_symm_val reshapeEquiv_ix2_1ab)

variable {K : ℕ} (g : Geo K)

def dotQKContr : (dotQK g).contr.Idx ≃ Fin 128 := contrEquiv1 _ 128 rfl rfl
def dotPVContr : (dotPV g).contr.Idx ≃ Fin K := contrEquiv1 _ K rfl rfl

theorem key_cast (kt : Vec Ideal (S1KD K) .bf16) (j : Fin K) (d : Fin 128) :
    shapeCast (SKD K) kt g.cast (ix2 j d) = kt (ix3 0 j d) := by
  unfold shapeCast
  exact congrArg kt (reshapeEquiv_ix2_1ab _ j d)

theorem neg_inf : Ideal.ofBits .f32 0xFF800000#32 = ⊥ := by simp [Ideal.ofBits, Ideal.ieee]

theorem scores_apply (kt : Vec Ideal (S1KD K) .bf16) (qt : Vec Ideal S1x256x128 .bf16) (j : Fin K) (q : Fin 256) :
    scores (F := Ideal) g kt qt (ix2 j q) = ∑ d : Fin 128, kt (ix3 0 j d) * qt (ix3 0 q d) := by
  unfold scores matmul
  rw [Ideal.matmul_apply, ← Equiv.sum_comp (dotQKContr g).symm]
  have h0 : (constant (F := Ideal) (SKQ K) .f32 0x00000000#32) (ix2 j q) = 0 := by pointwise
  rw [h0, zero_add]
  refine Finset.sum_congr rfl fun d _ => ?_
  have hk := contrEquiv1_symm_val (dotQK g) 128 rfl rfl d
  have el : (dotQK g).lhsIdx (ix2 j q) ((dotQKContr g).symm d) = ix2 j d := by
    funext a; apply Fin.ext
    match a with
    | ⟨0, _⟩ => rfl
    | ⟨1, _⟩ => exact hk
  have er : (dotQK g).rhsIdx (ix2 j q) ((dotQKContr g).symm d) = ix2 q d := by
    funext a; apply Fin.ext
    match a with
    | ⟨0, _⟩ => rfl
    | ⟨1, _⟩ => exact hk
  rw [el, er]
  refine congrArg₂ (· * ·) (key_cast g kt j d) ?_
  pointwise

theorem rowMax_apply (s : FVec Ideal (SKQ K) .f32) (m : Vec Ideal S1x1x256 .f32) (q : Fin 256) :
    rowMax (F := Ideal) g s m (ix2 0 q) = max (m (ix3 0 0 q)) (Finset.univ.fold max ⊥ fun j : Fin K => s (ix2 j q)) := by
  unfold rowMax
  pointwise
  rw [neg_inf]

theorem rescale_apply (s : FVec Ideal (SKQ K) .f32) (m : Vec Ideal S1x1x256 .f32) (q : Fin 256) :
    rescale (F := Ideal) g s m (ix2 0 q) = Ideal.exp (m (ix3 0 0 q) - rowMax g s m (ix2 0 q)) := by
  unfold rescale
  pointwise

theorem probs_apply (s : FVec Ideal (SKQ K) .f32) (m : Vec Ideal S1x1x256 .f32) (j : Fin K) (q : Fin 256) :
    probs (F := Ideal) g s m (ix2 j q) = Ideal.exp (s (ix2 j q) - rowMax g s m (ix2 0 q)) := by
  unfold probs
  pointwise

theorem newM_apply (s : FVec Ideal (SKQ K) .f32) (m : Vec Ideal S1x1x256 .f32) (q : Fin 256) :
    newM (F := Ideal) g s m (ix3 0 0 q) = rowMax g s m (ix2 0 q) := by
  unfold newM
  pointwise

theorem newL_apply (s : FVec Ideal (SKQ K) .f32) (m l : Vec Ideal S1x1x256 .f32) (q : Fin 256) :
    newL (F := Ideal) g s m l (ix3 0 0 q) = l (ix3 0 0 q) * rescale g s m (ix2 0 q) + ∑ j : Fin K, probs g s m (ix2 j q) := by
  unfold newL
  pointwise

theorem newA_apply (s : FVec Ideal (SKQ K) .f32) (m : Vec Ideal S1x1x256 .f32) (vt : Vec Ideal (S1KD K) .bf16) (a : Vec Ideal S1x128x256 .f32) (d : Fin 128) (q : Fin 256) :
    newA (F := Ideal) g s m vt a (ix3 0 d q) = a (ix3 0 d q) * rescale g s m (ix2 0 q) + ∑ j : Fin K, vt (ix3 0 j d) * probs g s m (ix2 j q) := by
  have hmm : ∀ X : FVec Ideal (SKD K) .bf16, ∀ Y : FVec Ideal (SKQ K) .bf16, matmul (dotPV g) none X Y (constant S128x256 .f32 0x00000000#32) (ix2 d q)
      = ∑ j : Fin K, X (ix2 j d) * Y (ix2 j q) := by
    intro X Y
    unfold matmul
    rw [Ideal.matmul_apply, ← Equiv.sum_comp (dotPVContr g).symm]
    have h0 : (constant (F := Ideal) S128x256 .f32 0x00000000#32) (ix2 d q) = 0 := by pointwise
    rw [h0, zero_add]
    refine Finset.sum_congr rfl fun j _ => ?_
    have hk := contrEquiv1_symm_val (dotPV g) K rfl rfl j
    have el : (dotPV g).lhsIdx (ix2 d q) ((dotPVContr g).symm j) = ix2 j d := by
      funext a; apply Fin.ext
      match a with
      | ⟨0, _⟩ => exact hk
      | ⟨1, _⟩ => rfl
    have er : (dotPV g).rhsIdx (ix2 d q) ((dotPVContr g).symm j) = ix2 j q := by
      funext a; apply Fin.ext
      match a with
      | ⟨0, _⟩ => exact hk
      | ⟨1, _⟩ => rfl
    rw [el, er]
  unfold newA
  have hc : ∀ Z : FVec Ideal S128x256 .f32, shapeCast S1x128x256 Z shapeCasts_S128x256_S1x128x256 (ix3 0 d q) = Z (ix2 d q) := by
    intro Z; pointwise
  rw [hc]
  have ha : ∀ Y Z : FVec Ideal S128x256 .f32, addf Y Z (ix2 d q) = Y (ix2 d q) + Z (ix2 d q) := fun Y Z => by pointwise
  rw [ha, hmm]
  congr 1
  · pointwise
  · refine Finset.sum_congr rfl fun j _ => ?_
    exact congrArg₂ (· * ·) (key_cast g vt j d) rfl

/-- `⌊n / 64⌋` on one word. -/
def fd64 (n : BitVec 32) : BitVec 32 := floorDiv64 (s := ⟨0, ![]⟩) (fun _ => n) (fun a => a.elim0)

theorem floorDiv64_apply {s : Shape} (n : IVec s 32) (i : s.Idx) : floorDiv64 n i = fd64 (n i) := rfl

theorem fd64_small : ∀ n : Fin 8192, fd64 (BitVec.ofNat 32 n.val) = BitVec.ofNat 32 (n.val / 64) := by decide +kernel

theorem sle_small : ∀ a b : Fin 128, IntOp.cmpi .sle (BitVec.ofNat 32 a.val) (BitVec.ofNat 32 b.val) = 1#1 ↔ a.val ≤ b.val := by decide +kernel

theorem iota_key (i : (SK1 K).Idx) : iota .tc (SK1 K) 32 [0] g.iota i = BitVec.ofNat 32 (i 0).val := by
  unfold iota
  simp only [List.foldl_cons, List.foldl_nil, Nat.zero_mul, Nat.zero_add]

theorem iota_query (q : Fin 256) : iota .tc S1x256 32 [1] iota_S1x256_d1_w32 (ix2 0 q) = BitVec.ofNat 32 q.val := by
  unfold iota
  simp only [List.foldl_cons, List.foldl_nil, Nat.zero_mul, Nat.zero_add]
  rfl

theorem mask_apply (qb : ℕ) (hq : qb < 4096) (hK : K ≤ 4096) (j : Fin K) (q : Fin 256) :
    mask g (BitVec.ofNat 32 qb) (ix2 j q) = 1#1 ↔ j.val / 64 ≤ (qb + q.val) / 64 := by
  have hj := j.isLt
  have hq' := q.isLt
  have h1 : broadcastTo (SKQ K) (floorDiv64 (iota .tc (SK1 K) 32 [0] g.iota)) g.col (ix2 j q) = BitVec.ofNat 32 (j.val / 64) := by
    unfold broadcastTo
    rw [floorDiv64_apply, iota_key g, ← fd64_small ⟨j.val, by omega⟩]
    congr 2
    by_cases hK1 : (SK1 K).size 0 = 1
    · rw [dif_pos hK1]
      have : K = 1 := hK1
      show 0 = j.val
      omega
    · rw [dif_neg hK1]
      rfl
  have h2 : broadcastTo (SKQ K) (floorDiv64 (addi (broadcast S1x256 (BitVec.ofNat 32 qb)) (iota .tc S1x256 32 [1] iota_S1x256_d1_w32))) g.row (ix2 j q)
      = BitVec.ofNat 32 ((qb + q.val) / 64) := by
    have : ∀ X : IVec S1x256 32, broadcastTo (SKQ K) X g.row (ix2 j q) = X (ix2 0 q) := fun X => by pointwise
    rw [this, floorDiv64_apply]
    have e : addi (broadcast S1x256 (BitVec.ofNat 32 qb)) (iota .tc S1x256 32 [1] iota_S1x256_d1_w32) (ix2 0 q) = BitVec.ofNat 32 (qb + q.val) := by
      unfold addi
      rw [iota_query]
      exact (BitVec.ofNat_add _ _).symm
    rw [e, ← fd64_small ⟨qb + q.val, by omega⟩]
  unfold mask
  show IntOp.cmpi .sle (broadcastTo (SKQ K) _ g.col (ix2 j q)) (broadcastTo (SKQ K) _ g.row (ix2 j q)) = 1#1 ↔ _
  rw [h1, h2]
  exact sle_small ⟨j.val / 64, by omega⟩ ⟨(qb + q.val) / 64, by omega⟩

end Cert.Attn

end
-- ==== Proof.Slots.lean ====
/-
# The running state read slot by slot

The state holds 64 slots, one per head and row tile; slot `u` is head `u / 8`, row tile `u % 8`. A trip advances two
slots and keeps the others.
-/
module

public import proofs.«01_k».proof.Proof.FlashValue
public import proofs.«01_k».proof.Proof.Tile
public import Idealize.ShloMosaic.Lib.WritesUnit
public import proofs.«01_k».proof.Proof.Loops

@[expose] public section

set_option maxRecDepth 16384

noncomputable section

namespace Cert.Attn

open Cert.KernelIdeal Cert.KernelIdeal.Gen
open Idealize.ShloMosaic Idealize.ShloMosaic.TcCoe Idealize.ShloMosaic.Tactic

/-- A load at a unit rectangle, at an index. -/
theorem readAt_at {sig : RefSig} {κ : Kind} {sp : Space} {s : Shape} {e : EltTy} {Val : EltTy → Type} (v : View sig κ sp s e)
    (f : v.ty.Contents Val) {off size : Fin s.rank → ℕ} {off' : Fin s.rank → ℕ} (inb : ∀ a, off a + size a ≤ s.size a) (x : (Rect.unit off size inb).shape.Idx)
    (y : s.Idx) (heq : off = off') (hy : ∀ a, (y a).val = off' a + (x a).val) : v.readAt Val (Rect.unit off size inb).toLoadRect f x = v.read Val f y :=
  congrArg (v.read Val f) (funext fun a => Fin.ext (by
    show off a + 1 * (x a).val = (y a).val
    subst heq; rw [hy, Nat.one_mul]))

abbrev StI : Type := St (F := Ideal)

def mAt (S : StI) (u : Fin 64) (q : Fin 256) : EReal := mM.view.read (Elt Ideal) S.2.1 (ix3 u 0 q)
def lAt (S : StI) (u : Fin 64) (q : Fin 256) : EReal := lM.view.read (Elt Ideal) S.2.2 (ix3 u 0 q)
def aAt (S : StI) (u : Fin 64) (d : Fin 128) (q : Fin 256) : EReal := accM.view.read (Elt Ideal) S.1 (ix3 u d q)
def qAt (X6 : QC (F := Ideal)) (h : Fin 8) (r : Fin 2048) (d : Fin 128) : EReal := qM.view.read (Elt Ideal) X6 (ix3 h r d)
def kvAt (X7 : KVC (F := Ideal)) (h : Fin 8) (j : Fin 2048) (d : Fin 256) : EReal := kvM.view.read (Elt Ideal) X7 (ix3 h j d)

/-- Where the operands of slot `u`'s tile lie. -/
structure Tile.At {K : ℕ} (T : Tile K) (u : ℕ) : Prop where
  q : T.qo = ![u / 8, 256 * (u % 8), 0]
  k : T.ko = ![u / 8, 0, 0]
  v : T.vo = ![u / 8, 0, 128]
  a : T.ao = ![u, 0, 0]
  m : T.mo = ![u, 0, 0]

abbrev headOf (u : Fin 64) : Fin 8 := ⟨u.val / 8, by omega⟩
abbrev rowOf (u : Fin 64) (q : Fin 256) : Fin 2048 := ⟨256 * (u.val % 8) + q.val, by omega⟩

section Reads

variable {K : ℕ} {T : Tile K} {u : Fin 64} (h : T.At u.val) (X6 : QC (F := Ideal)) (X7 : KVC (F := Ideal)) (S : StI)
include h

theorem rdM_at (q : Fin 256) : T.rdM S.2.1 (ix3 0 0 q) = mAt S u q :=
  readAt_at _ _ _ _ _ h.m fun a => by fin_cases a <;> simp [ix3]
theorem rdL_at (q : Fin 256) : T.rdL S.2.2 (ix3 0 0 q) = lAt S u q :=
  readAt_at _ _ _ _ _ h.m fun a => by fin_cases a <;> simp [ix3]
theorem rdA_at (d : Fin 128) (q : Fin 256) : T.rdA S.1 (ix3 0 d q) = aAt S u d q :=
  readAt_at _ _ _ _ _ h.a fun a => by fin_cases a <;> simp [ix3]
theorem rdQ_at (q : Fin 256) (d : Fin 128) : T.rdQ X6 (ix3 0 q d) = qAt X6 (headOf u) (rowOf u q) d :=
  readAt_at _ _ _ _ _ h.q fun a => by fin_cases a <;> simp [ix3]
theorem rdK_at (hK : K ≤ 2048) (j : Fin K) (d : Fin 128) : T.rdK X7 (ix3 0 j d) = kvAt X7 (headOf u) ⟨j.val, by omega⟩ ⟨d.val, by omega⟩ :=
  readAt_at _ _ _ _ _ h.k fun a => by fin_cases a <;> simp [ix3]
theorem rdV_at (hK : K ≤ 2048) (j : Fin K) (d : Fin 128) : T.rdV X7 (ix3 0 j d) = kvAt X7 (headOf u) ⟨j.val, by omega⟩ ⟨128 + d.val, by omega⟩ :=
  readAt_at _ _ _ _ _ h.v fun a => by fin_cases a <;> simp [ix3]

end Reads

/-! ## A trip, slot by slot -/

/-- Slot `u` is the same in both states. -/
def Keep (S S' : StI) (u : Fin 64) : Prop :=
  ∀ q, mAt S' u q = mAt S u q ∧ lAt S' u q = lAt S u q ∧ ∀ d, aAt S' u d q = aAt S u d q

/-- Row `q` of slot `u` advanced by scores `t` and values `w`. -/
def Adv {K : ℕ} (S S' : StI) (u : Fin 64) (q : Fin 256) (t : Fin K → EReal) (w : Fin K → Fin 128 → EReal) : Prop :=
  mAt S' u q = max (mAt S u q) (Finset.univ.fold max ⊥ t)
  ∧ lAt S' u q = lAt S u q * Ideal.exp (mAt S u q - max (mAt S u q) (Finset.univ.fold max ⊥ t))
      + ∑ j, Ideal.exp (t j - max (mAt S u q) (Finset.univ.fold max ⊥ t))
  ∧ ∀ d, aAt S' u d q = aAt S u d q * Ideal.exp (mAt S u q - max (mAt S u q) (Finset.univ.fold max ⊥ t))
      + ∑ j, w j d * Ideal.exp (t j - max (mAt S u q) (Finset.univ.fold max ⊥ t))

theorem Keep.refl (S : StI) (u : Fin 64) : Keep S S u := fun _ => ⟨rfl, rfl, fun _ => rfl⟩
theorem Keep.trans {S S' S'' : StI} {u : Fin 64} (h : Keep S S' u) (h' : Keep S' S'' u) : Keep S S'' u :=
  fun q => ⟨(h' q).1.trans (h q).1, (h' q).2.1.trans (h q).2.1, fun d => ((h' q).2.2 d).trans ((h q).2.2 d)⟩

section Two

variable {sp : Space} {e : EltTy} {n : ℕ} (v : View sig .tc sp ⟨3, ![64, n, 256]⟩ e) (f : v.ty.Contents (Elt Ideal)) {o₁ o₂ : Fin 3 → ℕ}
  (i₁ : ∀ a, o₁ a + (![1, n, 256] : Fin 3 → ℕ) a ≤ (![64, n, 256] : Fin 3 → ℕ) a)
  (i₂ : ∀ a, o₂ a + (![1, n, 256] : Fin 3 → ℕ) a ≤ (![64, n, 256] : Fin 3 → ℕ) a)
  (w₁ : (⟨3, ![1, n, 256]⟩ : Shape).Idx → Elt Ideal e) (w₂ : (⟨3, ![1, n, 256]⟩ : Shape).Idx → Elt Ideal e)
  (u u₁ u₂ : Fin 64) (e₁ : o₁ = ![u₁.val, 0, 0]) (e₂ : o₂ = ![u₂.val, 0, 0]) (d : Fin n) (q : Fin 256)

abbrev two : v.ty.Contents (Elt Ideal) :=
  v.writes (Elt Ideal) f [⟨Rect.unit (s := ⟨3, ![64, n, 256]⟩) o₂ ![1, n, 256] i₂, w₂⟩, ⟨Rect.unit (s := ⟨3, ![64, n, 256]⟩) o₁ ![1, n, 256] i₁, w₁⟩]

include e₁ e₂

theorem two_none (n₁ : u ≠ u₁) (n₂ : u ≠ u₂) : v.read (Elt Ideal) (two v f i₁ i₂ w₁ w₂) (ix3 u d q) = v.read (Elt Ideal) f (ix3 u d q) := by
  have l₁ : u.val < u₁.val ∨ u₁.val + 1 ≤ u.val := by have := Fin.val_ne_of_ne n₁; omega
  have l₂ : u.val < u₂.val ∨ u₂.val + 1 ≤ u.val := by have := Fin.val_ne_of_ne n₂; omega
  exact (View.read_writes_cons_unit_of_not_mem v f i₂ w₂ _ _ e₂ 0 l₂).trans
    (View.read_writes_cons_unit_of_not_mem v f i₁ w₁ _ _ e₁ 0 l₁)

omit e₁ in
theorem two_snd : v.read (Elt Ideal) (two v f i₁ i₂ w₁ w₂) (ix3 u₂ d q) = w₂ (ix3 0 d q) :=
  View.read_writes_cons_unit_of_mem v f i₂ w₂ _ _ (ix3 0 d q) e₂ fun a => by fin_cases a <;> simp [ix3]

theorem two_fst (n : u₁ ≠ u₂) : v.read (Elt Ideal) (two v f i₁ i₂ w₁ w₂) (ix3 u₁ d q) = w₁ (ix3 0 d q) := by
  have l₂ : u₁.val < u₂.val ∨ u₂.val + 1 ≤ u₁.val := by have := Fin.val_ne_of_ne n; omega
  exact (View.read_writes_cons_unit_of_not_mem v f i₂ w₂ _ _ e₂ 0 l₂).trans
    (View.read_writes_cons_unit_of_mem v f i₁ w₁ _ _ (ix3 0 d q) e₁ fun a => by fin_cases a <;> simp [ix3])

end Two

section Trip

variable {K : ℕ} (g : Geo K) (sc : Sc (F := Ideal) K) {T₁ T₂ : Tile K} (X6 : QC (F := Ideal)) (X7 : KVC (F := Ideal)) (S : StI)

theorem mAt_trip (u : Fin 64) (q : Fin 256) : mAt (trip g sc T₁ T₂ X6 X7 S) u q
    = mM.view.read (Elt Ideal) (two (n := 1) (e := .f32) mM.view S.2.1 T₁.hm T₂.hm (newM g (T₁.s sc X6 X7) (T₁.rdM S.2.1))
        (newM g (T₂.s sc X6 X7) (T₂.rdM S.2.1))) (ix3 u 0 q) := by
  unfold mAt trip Tile.pieceM
  dsimp only

theorem lAt_trip (u : Fin 64) (q : Fin 256) : lAt (trip g sc T₁ T₂ X6 X7 S) u q
    = lM.view.read (Elt Ideal) (two (n := 1) (e := .f32) lM.view S.2.2 T₁.hm T₂.hm (newL g (T₁.s sc X6 X7) (T₁.rdM S.2.1) (T₁.rdL S.2.2))
        (newL g (T₂.s sc X6 X7) (T₂.rdM S.2.1) (T₂.rdL S.2.2))) (ix3 u 0 q) := by
  unfold lAt trip Tile.pieceL
  dsimp only

theorem aAt_trip (u : Fin 64) (d : Fin 128) (q : Fin 256) : aAt (trip g sc T₁ T₂ X6 X7 S) u d q
    = accM.view.read (Elt Ideal) (two (n := 128) (e := .f32) accM.view S.1 T₁.ha T₂.ha
        (newA g (T₁.s sc X6 X7) (T₁.rdM S.2.1) (T₁.rdV X7) (T₁.rdA S.1))
        (newA g (T₂.s sc X6 X7) (T₂.rdM S.2.1) (T₂.rdV X7) (T₂.rdA S.1))) (ix3 u d q) := by
  unfold aAt trip Tile.pieceA
  dsimp only

variable {u₁ u₂ : Fin 64} (h₁ : T₁.At u₁.val) (h₂ : T₂.At u₂.val)
include h₁ h₂

theorem trip_keep {u : Fin 64} (n₁ : u ≠ u₁) (n₂ : u ≠ u₂) : Keep S (trip g sc T₁ T₂ X6 X7 S) u := by
  refine fun q => ⟨?_, ?_, fun d => ?_⟩
  · rw [mAt_trip, two_none (n := 1) _ _ _ _ _ _ u u₁ u₂ h₁.m h₂.m 0 q n₁ n₂]; rfl
  · rw [lAt_trip, two_none (n := 1) _ _ _ _ _ _ u u₁ u₂ h₁.m h₂.m 0 q n₁ n₂]; rfl
  · rw [aAt_trip, two_none (n := 128) _ _ _ _ _ _ u u₁ u₂ h₁.a h₂.a d q n₁ n₂]; rfl

omit h₁ in
theorem trip_adv₂ (q : Fin 256) :
    Adv S (trip g sc T₁ T₂ X6 X7 S) u₂ q (fun j => T₂.s sc X6 X7 (ix2 j q)) (fun j d => T₂.rdV X7 (ix3 0 j d)) := by
  refine ⟨?_, ?_, fun d => ?_⟩
  · rw [mAt_trip, two_snd (n := 1) _ _ _ _ _ _ u₂ h₂.m 0 q, newM_apply, rowMax_apply, rdM_at h₂]
  · rw [lAt_trip, two_snd (n := 1) _ _ _ _ _ _ u₂ h₂.m 0 q]
    simp only [newL_apply, rescale_apply, probs_apply, rowMax_apply, rdM_at h₂, rdL_at h₂]
  · rw [aAt_trip, two_snd (n := 128) _ _ _ _ _ _ u₂ h₂.a d q]
    simp only [newA_apply, rescale_apply, probs_apply, rowMax_apply, rdM_at h₂, rdA_at h₂]

theorem trip_adv₁ (n : u₁ ≠ u₂) (q : Fin 256) :
    Adv S (trip g sc T₁ T₂ X6 X7 S) u₁ q (fun j => T₁.s sc X6 X7 (ix2 j q)) (fun j d => T₁.rdV X7 (ix3 0 j d)) := by
  refine ⟨?_, ?_, fun d => ?_⟩
  · rw [mAt_trip, two_fst (n := 1) _ _ _ _ _ _ u₁ u₂ h₁.m h₂.m 0 q n, newM_apply, rowMax_apply, rdM_at h₁]
  · rw [lAt_trip, two_fst (n := 1) _ _ _ _ _ _ u₁ u₂ h₁.m h₂.m 0 q n]
    simp only [newL_apply, rescale_apply, probs_apply, rowMax_apply, rdM_at h₁, rdL_at h₁]
  · rw [aAt_trip, two_fst (n := 128) _ _ _ _ _ _ u₁ u₂ h₁.a h₂.a d q n]
    simp only [newA_apply, rescale_apply, probs_apply, rowMax_apply, rdM_at h₁, rdA_at h₁]

end Trip

/-! ## Loops, slot by slot -/

theorem steps_keep {n : ℕ} (G : Fin n → StI → StI) (u : Fin 64) (hk : ∀ k S, Keep S (G k S) u) (S : StI) (k : ℕ) : Keep S (steps G k S) u := by
  induction k with
  | zero => exact Keep.refl S u
  | succ k ih =>
    unfold steps
    split_ifs with h
    · exact ih.trans (hk _ _)
    · exact ih

/-- A slot that one trip advances and the others keep. -/
theorem steps_once {n : ℕ} (G : Fin n → StI → StI) (u : Fin 64) (k₀ : Fin n) (hk : ∀ k, k ≠ k₀ → ∀ S, Keep S (G k S) u)
    (P Q : StI → Prop) (hP : ∀ S S', Keep S S' u → P S → P S') (hQ : ∀ S S', Keep S S' u → Q S → Q S')
    (h₀ : ∀ S, P S → Q (G k₀ S)) (S : StI) (hS : P S) : Q (stepsAll G S) := by
  have lo : ∀ k, k ≤ k₀.val → P (steps G k S) := by
    intro k
    induction k with
    | zero => exact fun _ => hS
    | succ k ih =>
      intro hle
      unfold steps
      split_ifs with h
      · exact hP _ _ (hk ⟨k, h⟩ (fun e => by have := congrArg Fin.val e; simp at this; omega) _) (ih (by omega))
      · exact ih (by omega)
  have hi : ∀ j, Q (steps G (k₀.val + 1 + j) S) := by
    intro j
    induction j with
    | zero => rw [Nat.add_zero, steps_succ]; exact h₀ _ (lo _ le_rfl)
    | succ j ih =>
      show Q (steps G ((k₀.val + 1 + j) + 1) S)
      unfold steps
      split_ifs with h
      · exact hQ _ _ (hk ⟨_, h⟩ (fun e => by have := congrArg Fin.val e; simp at this; omega) _) ih
      · exact ih
  have := hi (n - (k₀.val + 1))
  rwa [Nat.add_sub_cancel' k₀.isLt] at this

end Cert.Attn

end
-- ==== Proof.Queries.lean ====
/-
# The staged queries and the output product, entry by entry
-/
module

public import proofs.«01_k».proof.Proof.Slots
public import proofs.«01_k».proof.Proof.Body

@[expose] public section

set_option maxRecDepth 16384

noncomputable section

namespace Cert.Attn

open Cert.KernelIdeal Cert.KernelIdeal.Gen
open Idealize.ShloMosaic Idealize.ShloMosaic.TcCoe Idealize.ShloMosaic.Tactic

/-- One entry of the scaled projection of the rows by 256 columns. -/
abbrev proj (x : Vec Ideal S2048x1024 .bf16) (w : Vec Ideal S1024x256 .bf16) (r : Fin 2048) (d : Fin 256) : EReal :=
  (∑ e : Fin 1024, x (ix2 r e) * w (ix2 e d)) * Ideal.ofBits .f32 0x3DB504F3#32

section Pays

variable (x : Vec Ideal S2048x1024 .bf16) (w : Vec Ideal S1024x256 .bf16) (r : Fin 2048) (d : Fin 128)

theorem pay255_apply : k0_pay255 (F := Ideal) x w (ix3 0 r d) = proj x w r ⟨d.val, by omega⟩ := by
  unfold_payloads; pointwise
theorem pay256_apply : k0_pay256 (F := Ideal) x w (ix3 0 r d) = proj x w r ⟨128 + d.val, by omega⟩ := by
  unfold_payloads; pointwise
theorem pay258_apply : k0_pay258 (F := Ideal) x w (ix3 0 r d) = proj x w r ⟨d.val, by omega⟩ := by
  unfold_payloads; pointwise
theorem pay260_apply : k0_pay260 (F := Ideal) (k0_pay259 x w) (ix3 0 r d) = proj x w r ⟨128 + d.val, by omega⟩ := by
  unfold_payloads; pointwise
theorem pay262_apply : k0_pay262 (F := Ideal) x w (ix3 0 r d) = proj x w r ⟨d.val, by omega⟩ := by
  unfold_payloads; pointwise
theorem pay263_apply : k0_pay263 (F := Ideal) x w (ix3 0 r d) = proj x w r ⟨128 + d.val, by omega⟩ := by
  unfold_payloads; pointwise
theorem pay265_apply : k0_pay265 (F := Ideal) x w (ix3 0 r d) = proj x w r ⟨d.val, by omega⟩ := by
  unfold_payloads; pointwise
theorem pay267_apply : k0_pay267 (F := Ideal) (k0_pay266 x w) (ix3 0 r d) = proj x w r ⟨128 + d.val, by omega⟩ := by
  unfold_payloads; pointwise

end Pays

theorem put_head {sp : Space} {e : EltTy} (v : View sig .tc sp ⟨3, ![8, 2048, 128]⟩ e) (f : v.ty.Contents (Elt Ideal)) {o : Fin 3 → ℕ}
    (i : ∀ a, o a + (![1, 2048, 128] : Fin 3 → ℕ) a ≤ (![8, 2048, 128] : Fin 3 → ℕ) a) (w : (⟨3, ![1, 2048, 128]⟩ : Shape).Idx → Elt Ideal e)
    (L : List (View.Piece (Elt Ideal) ⟨3, ![8, 2048, 128]⟩ e)) (h h' : Fin 8) (he : o = ![h'.val, 0, 0]) (r : Fin 2048) (d : Fin 128) :
    v.read (Elt Ideal) (v.writes (Elt Ideal) f (⟨Rect.unit (s := ⟨3, ![8, 2048, 128]⟩) o ![1, 2048, 128] i, w⟩ :: L)) (ix3 h r d)
      = if h = h' then w (ix3 0 r d) else v.read (Elt Ideal) (v.writes (Elt Ideal) f L) (ix3 h r d) := by
  split_ifs with hh
  · subst hh
    exact View.read_writes_cons_unit_of_mem v f i w _ _ (ix3 0 r d) he fun a => by fin_cases a <;> simp [ix3]
  · have l : h.val < h'.val ∨ h'.val + 1 ≤ h.val := by have := Fin.val_ne_of_ne hh; omega
    exact View.read_writes_cons_unit_of_not_mem v f i w _ _ he 0 l

variable (X : XC (F := Ideal)) (Wq : WC (F := Ideal)) (f6 : QC (F := Ideal))

theorem qAt_heads (h : Fin 8) (r : Fin 2048) (d : Fin 128) :
    qAt (qAll X Wq f6) h r d
      = if h = 7 then k0_pay267 (k0_pay266 (rdX X) (rdW3 Wq)) (ix3 0 r d) else if h = 6 then k0_pay265 (rdX X) (rdW3 Wq) (ix3 0 r d)
        else if h = 5 then k0_pay263 (rdX X) (rdW2 Wq) (ix3 0 r d) else if h = 4 then k0_pay262 (rdX X) (rdW2 Wq) (ix3 0 r d)
        else if h = 3 then k0_pay260 (k0_pay259 (rdX X) (rdW1 Wq)) (ix3 0 r d) else if h = 2 then k0_pay258 (rdX X) (rdW1 Wq) (ix3 0 r d)
        else if h = 1 then k0_pay256 (rdX X) (rdW0 Wq) (ix3 0 r d) else if h = 0 then k0_pay255 (rdX X) (rdW0 Wq) (ix3 0 r d)
        else qAt f6 h r d := by
  unfold qAt qAll q8 q7 q3
  rw [put_head (o := ![7, 0, 0]) _ _ _ _ _ h 7 rfl, View.writes_nil, put_head (o := ![6, 0, 0]) _ _ _ _ _ h 6 rfl, put_head (o := ![5, 0, 0]) _ _ _ _ _ h 5 rfl, put_head (o := ![4, 0, 0]) _ _ _ _ _ h 4 rfl,
    put_head (o := ![3, 0, 0]) _ _ _ _ _ h 3 rfl, View.writes_nil, put_head (o := ![2, 0, 0]) _ _ _ _ _ h 2 rfl, put_head (o := ![1, 0, 0]) _ _ _ _ _ h 1 rfl, put_head (o := ![0, 0, 0]) _ _ _ _ _ h 0 rfl,
    View.writes_nil]

def xAt (X : XC (F := Ideal)) (r : Fin 2048) (e : Fin 1024) : EReal := xM.view.read (Elt Ideal) X (ix2 r e)
def wqAt (Wq : WC (F := Ideal)) (e n : Fin 1024) : EReal := wqM.view.read (Elt Ideal) Wq (ix2 e n)
def woAt (Wo : WoC (F := Ideal)) (e n : Fin 1024) : EReal := woM.view.read (Elt Ideal) Wo (ix2 e n)

theorem rdX_at (r : Fin 2048) (e : Fin 1024) : rdX X (ix2 r e) = xAt X r e :=
  readAt_at _ _ _ _ _ rfl fun a => by fin_cases a <;> simp [ix2]
theorem rdW0_at (e : Fin 1024) (d : Fin 256) : rdW0 Wq (ix2 e d) = wqAt Wq e ⟨d.val, by omega⟩ :=
  readAt_at _ _ _ _ _ rfl fun a => by fin_cases a <;> simp [ix2]
theorem rdW1_at (e : Fin 1024) (d : Fin 256) : rdW1 Wq (ix2 e d) = wqAt Wq e ⟨256 + d.val, by omega⟩ :=
  readAt_at _ _ _ _ _ rfl fun a => by fin_cases a <;> simp [ix2]
theorem rdW2_at (e : Fin 1024) (d : Fin 256) : rdW2 Wq (ix2 e d) = wqAt Wq e ⟨512 + d.val, by omega⟩ :=
  readAt_at _ _ _ _ _ rfl fun a => by fin_cases a <;> simp [ix2]
theorem rdW3_at (e : Fin 1024) (d : Fin 256) : rdW3 Wq (ix2 e d) = wqAt Wq e ⟨768 + d.val, by omega⟩ :=
  readAt_at _ _ _ _ _ rfl fun a => by fin_cases a <;> simp [ix2]

/-- Entry `d` of head `h`'s query, row `r`. -/
theorem qAt_qAll (h : Fin 8) (r : Fin 2048) (d : Fin 128) :
    qAt (qAll X Wq f6) h r d = (∑ e : Fin 1024, xAt X r e * wqAt Wq e ⟨128 * h.val + d.val, by omega⟩) * Ideal.ofBits .f32 0x3DB504F3#32 := by
  rw [qAt_heads]
  fin_cases h <;>
    simp only [Fin.reduceFinMk, Fin.reduceEq, Fin.isValue, reduceIte, pay255_apply, pay256_apply, pay258_apply, pay260_apply, pay262_apply,
      pay263_apply, pay265_apply, pay267_apply, proj, rdX_at, rdW0_at, rdW1_at, rdW2_at, rdW3_at, ← Nat.add_assoc, Nat.reduceMul, Nat.reduceAdd,
      Nat.zero_add]

/-! ## The context and the output -/

def ctxAt (C : CtxC (F := Ideal)) (e : Fin 1024) (r : Fin 2048) : EReal := ctxM.view.read (Elt Ideal) C (ix2 e r)
def outAt (X : OutC (F := Ideal)) (r : Fin 2048) (n : Fin 1024) : EReal := outM.view.read (Elt Ideal) X (ix3 0 r n)

theorem pay253_apply (a : Vec Ideal S1x128x256 .f32) (l : Vec Ideal S1x1x256 .f32) (d : Fin 128) (q : Fin 256) :
    k0_pay289 (F := Ideal) (k0_pay253 a l) (ix2 d q) = Ideal.div (a (ix3 0 d q)) (l (ix3 0 0 q)) := by
  unfold_payloads; pointwise

section OutPays

variable (a : Vec Ideal S1024x512 .bf16) (w : Vec Ideal S1024x1024 .bf16) (r : Fin 512) (n : Fin 1024)

theorem pay290_apply : k0_pay290 (F := Ideal) a w (ix3 0 r n) = ∑ e : Fin 1024, a (ix2 e r) * w (ix2 e n) := by unfold_payloads; pointwise
theorem pay291_apply : k0_pay291 (F := Ideal) a w (ix3 0 r n) = ∑ e : Fin 1024, a (ix2 e r) * w (ix2 e n) := by unfold_payloads; pointwise
theorem pay292_apply : k0_pay292 (F := Ideal) a w (ix3 0 r n) = ∑ e : Fin 1024, a (ix2 e r) * w (ix2 e n) := by unfold_payloads; pointwise
theorem pay1_apply : k0_pay1 (F := Ideal) a w (ix3 0 r n) = ∑ e : Fin 1024, a (ix2 e r) * w (ix2 e n) := by unfold_payloads; pointwise

end OutPays

theorem put_rows {sp : Space} {e : EltTy} (v : View sig .tc sp ⟨3, ![1, 2048, 1024]⟩ e) (f : v.ty.Contents (Elt Ideal)) {o : Fin 3 → ℕ}
    (i : ∀ a, o a + (![1, 512, 1024] : Fin 3 → ℕ) a ≤ (![1, 2048, 1024] : Fin 3 → ℕ) a) (w : (⟨3, ![1, 512, 1024]⟩ : Shape).Idx → Elt Ideal e)
    (L : List (View.Piece (Elt Ideal) ⟨3, ![1, 2048, 1024]⟩ e)) (b : ℕ) (he : o = ![0, b, 0]) (r : Fin 2048) (n : Fin 1024) :
    v.read (Elt Ideal) (v.writes (Elt Ideal) f (⟨Rect.unit (s := ⟨3, ![1, 2048, 1024]⟩) o ![1, 512, 1024] i, w⟩ :: L)) (ix3 0 r n)
      = if hr : b ≤ r.val ∧ r.val < b + 512 then w (ix3 0 ⟨r.val - b, by omega⟩ n)
        else v.read (Elt Ideal) (v.writes (Elt Ideal) f L) (ix3 0 r n) := by
  split_ifs with hh
  · exact View.read_writes_cons_unit_of_mem v f i w _ _ (ix3 0 ⟨r.val - b, by omega⟩ n) he fun a => by
      fin_cases a
      · rfl
      · show r.val = b + (r.val - b); omega
      · show n.val = 0 + n.val; omega
  · have l : r.val < b ∨ b + 512 ≤ r.val := by omega
    exact View.read_writes_cons_unit_of_not_mem v f i w _ _ he 1 l

theorem rdWo_at (Wo : WoC (F := Ideal)) (e n : Fin 1024) : rdWo Wo (ix2 e n) = woAt Wo e n :=
  readAt_at _ _ _ _ _ rfl fun a => by fin_cases a <;> simp [ix2]

theorem rdCtx_at (C : CtxC (F := Ideal)) {o : Fin 2 → ℕ} (i : ∀ a, o a + S1024x512.size a ≤ S1024x2048.size a) (b : ℕ) (ho : o = ![0, b])
    (e : Fin 1024) (r : Fin 512) (r' : Fin 2048) (hr : r'.val = b + r.val) :
    View.readAt (Elt Ideal) ctxM.view (Rect.unit (s := S1024x2048) o S1024x512.size i).toLoadRect C (ix2 e r) = ctxAt C e r' :=
  readAt_at _ _ _ _ _ ho fun a => by
    fin_cases a
    · show e.val = 0 + e.val; omega
    · exact hr

/-- The output's entries: the context's rows by the output projection. -/
theorem outAt_outOf (Wo : WoC (F := Ideal)) (C : CtxC (F := Ideal)) (f4 : OutC (F := Ideal)) (r : Fin 2048) (n : Fin 1024) :
    outAt (outOf Wo C f4) r n = ∑ e : Fin 1024, ctxAt C e r * woAt Wo e n := by
  unfold outAt outOf out4 out2
  rw [put_rows (o := ![0, 1536, 0]) _ _ _ _ _ 1536 rfl, put_rows (o := ![0, 1024, 0]) _ _ _ _ _ 1024 rfl, View.writes_nil, put_rows (o := ![0, 512, 0]) _ _ _ _ _ 512 rfl, put_rows (o := ![0, 0, 0]) _ _ _ _ _ 0 rfl]
  split_ifs with h1 h2 h3 h4
  · rw [pay1_apply]; exact Finset.sum_congr rfl fun e _ => by rw [rdWo_at, rdCtx_at C _ 1536 rfl e _ r (by simp only; omega)]
  · rw [pay292_apply]; exact Finset.sum_congr rfl fun e _ => by rw [rdWo_at, rdCtx_at C _ 1024 rfl e _ r (by simp only; omega)]
  · rw [pay291_apply]; exact Finset.sum_congr rfl fun e _ => by rw [rdWo_at, rdCtx_at C _ 512 rfl e _ r (by simp only; omega)]
  · rw [pay290_apply]; exact Finset.sum_congr rfl fun e _ => by rw [rdWo_at, rdCtx_at C _ 0 rfl e _ r (by simp only; omega)]
  · exfalso; have := r.isLt; omega

end Cert.Attn

end
-- ==== Proof.Context.lean ====
/-
# The context's entries: an accumulated row over its sum
-/
module

public import proofs.«01_k».proof.Proof.Queries

@[expose] public section

set_option maxRecDepth 16384

noncomputable section

namespace Cert.Attn

open Cert.KernelIdeal Cert.KernelIdeal.Gen
open Idealize.ShloMosaic Idealize.ShloMosaic.TcCoe Idealize.ShloMosaic.Tactic

/-- An entry that step `k₀` sets and the others keep. -/
theorem steps_hit {α : Type} {n : ℕ} (G : Fin n → α → α) (f : α → EReal) (k₀ : Fin n) (x : EReal) (hk : ∀ k, k ≠ k₀ → ∀ a, f (G k a) = f a)
    (h₀ : ∀ a, f (G k₀ a) = x) (a : α) : f (stepsAll G a) = x := by
  have hi : ∀ j, f (steps G (k₀.val + 1 + j) a) = x := by
    intro j
    induction j with
    | zero => rw [Nat.add_zero, steps_succ]; exact h₀ _
    | succ j ih =>
      show f (steps G ((k₀.val + 1 + j) + 1) a) = x
      unfold steps
      split_ifs with h
      · exact (hk ⟨_, h⟩ (fun e => by have := congrArg Fin.val e; simp at this; omega) _).trans ih
      · exact ih
  have := hi (n - (k₀.val + 1))
  rwa [Nat.add_sub_cancel' k₀.isLt] at this

theorem trips12 : k0_t12_loop.trips = 64 := by decide +kernel

theorem offs12 : ∀ k : Fin k0_t12_loop.trips,
    k0_off123 k = ![k.val, 0, 0] ∧ k0_off124 k = ![k.val, 0, 0] ∧ k0_off125 k = ![128 * (k.val / 8), 256 * (k.val % 8)] := by
  decide +kernel

theorem put_ctx {sp : Space} {e : EltTy} (v : View sig .tc sp ⟨2, ![1024, 2048]⟩ e) (f : v.ty.Contents (Elt Ideal)) {o : Fin 2 → ℕ}
    (i : ∀ a, o a + (![128, 256] : Fin 2 → ℕ) a ≤ (![1024, 2048] : Fin 2 → ℕ) a) (w : (⟨2, ![128, 256]⟩ : Shape).Idx → Elt Ideal e)
    (b b' : ℕ) (he : o = ![128 * b, 256 * b']) (x : Fin 1024) (r : Fin 2048) :
    v.read (Elt Ideal) (v.writes (Elt Ideal) f [⟨Rect.unit (s := ⟨2, ![1024, 2048]⟩) o ![128, 256] i, w⟩]) (ix2 x r)
      = if x.val / 128 = b ∧ r.val / 256 = b' then w (ix2 ⟨x.val % 128, by omega⟩ ⟨r.val % 256, by omega⟩) else v.read (Elt Ideal) f (ix2 x r) := by
  split_ifs with hh
  · exact View.read_writes_cons_unit_of_mem v f i w _ _ (ix2 ⟨x.val % 128, by omega⟩ ⟨r.val % 256, by omega⟩) he fun a => by
      fin_cases a
      · show x.val = 128 * b + x.val % 128; omega
      · show r.val = 256 * b' + r.val % 256; omega
  · rcases not_and_or.mp hh with h | h
    · have l : x.val < 128 * b ∨ 128 * b + 128 ≤ x.val := by omega
      exact (View.read_writes_cons_unit_of_not_mem v f i w _ _ he 0 l).trans (by rw [View.writes_nil])
    · have l : r.val < 256 * b' ∨ 256 * b' + 256 ≤ r.val := by omega
      exact (View.read_writes_cons_unit_of_not_mem v f i w _ _ he 1 l).trans (by rw [View.writes_nil])

/-- The slot of head `e / 128` and the row tile that holds row `r`. -/
abbrev slotOf (e : Fin 1024) (r : Fin 2048) : Fin 64 := ⟨e.val / 128 * 8 + r.val / 256, by omega⟩

theorem ctxAt_trip (S : StI) (k : Fin k0_t12_loop.trips) (C : CtxC (F := Ideal)) (e : Fin 1024) (r : Fin 2048) :
    ctxAt (ctxTrip S k C) e r
      = if e.val / 128 = k.val / 8 ∧ r.val / 256 = k.val % 8 then
          Ideal.div (aAt S ⟨k.val, k.isLt.trans_eq trips12⟩ ⟨e.val % 128, by omega⟩ ⟨r.val % 256, by omega⟩)
            (lAt S ⟨k.val, k.isLt.trans_eq trips12⟩ ⟨r.val % 256, by omega⟩)
        else ctxAt C e r := by
  unfold ctxAt ctxTrip
  rw [put_ctx (o := k0_off125 k) _ _ _ _ (k.val / 8) (k.val % 8) (offs12 k).2.2, pay253_apply]
  refine if_congr Iff.rfl (congrArg₂ Ideal.div ?_ ?_) rfl
  · exact readAt_at _ _ _ _ _ (offs12 k).1 fun a => by fin_cases a <;> simp [ix3]
  · exact readAt_at _ _ _ _ _ (offs12 k).2.1 fun a => by fin_cases a <;> simp [ix3]

/-- The context's entry: the slot's accumulator over its sum. -/
theorem ctxAt_ctxAll (S : StI) (C : CtxC (F := Ideal)) (e : Fin 1024) (r : Fin 2048) :
    ctxAt (ctxAll S C) e r
      = Ideal.div (aAt S (slotOf e r) ⟨e.val % 128, by omega⟩ ⟨r.val % 256, by omega⟩) (lAt S (slotOf e r) ⟨r.val % 256, by omega⟩) := by
  refine steps_hit _ (fun C => ctxAt C e r) ⟨(slotOf e r).val, by rw [trips12]; exact (slotOf e r).isLt⟩ _ (fun k hk C => ?_) (fun C => ?_) C
  · have := Fin.val_ne_of_ne hk
    rw [ctxAt_trip, if_neg]
    intro h
    refine this ?_
    show k.val = e.val / 128 * 8 + r.val / 256
    omega
  · rw [ctxAt_trip, if_pos]
    show e.val / 128 = (e.val / 128 * 8 + r.val / 256) / 8 ∧ r.val / 256 = (e.val / 128 * 8 + r.val / 256) % 8
    omega

end Cert.Attn

end
-- ==== Proof.Advance.lean ====
/-
# What each loop does to a slot

A slot's row starts with no key seen. The loops over the device's own block let it see the keys up to its own row's
chunk; the loops over the blocks of earlier devices let it see every key there.
-/
module

public import proofs.«01_k».proof.Proof.Slots
public import proofs.«01_k».proof.Proof.Softmax
public import proofs.«01_k».proof.Proof.Parts

@[expose] public section

set_option maxRecDepth 16384

noncomputable section

namespace Cert.Attn

open Cert.KernelIdeal Cert.KernelIdeal.Gen
open Idealize.ShloMosaic Idealize.ShloMosaic.TcCoe Idealize.ShloMosaic.Tactic

/-! ## Where the tiles of each loop lie -/

/-- The offsets of slot `u`'s operands. -/
abbrev OffsAt (q k v a m : Fin 3 → ℕ) (u : ℕ) : Prop :=
  q = ![u / 8, 256 * (u % 8), 0] ∧ k = ![u / 8, 0, 0] ∧ v = ![u / 8, 0, 128] ∧ a = ![u, 0, 0] ∧ m = ![u, 0, 0]

theorem Tile.At.of {K : ℕ} {T : Tile K} {u : ℕ} (h : OffsAt T.qo T.ko T.vo T.ao T.mo u) : T.At u :=
  ⟨h.1, h.2.1, h.2.2.1, h.2.2.2.1, h.2.2.2.2⟩

theorem offs1 : ∀ k : Fin k0_t1_loop.trips,
    OffsAt (k0_off7 k) (k0_off8 k) (k0_off11 k) (k0_off13 k) (k0_off12 k) (16 * k.val + 0)
    ∧ OffsAt (k0_off9 k) (k0_off10 k) (k0_off14 k) (k0_off16 k) (k0_off15 k) (16 * k.val + 8 + 0) := by
  decide +kernel

theorem offs2 : ∀ k : Fin k0_t2_loop.trips,
    OffsAt (k0_off17 k) (k0_off18 k) (k0_off21 k) (k0_off23 k) (k0_off22 k) (16 * k.val + 1)
    ∧ OffsAt (k0_off19 k) (k0_off20 k) (k0_off24 k) (k0_off26 k) (k0_off25 k) (16 * k.val + 8 + 1) := by
  decide +kernel

theorem offs3 : ∀ k : Fin k0_t3_loop.trips,
    OffsAt (k0_off27 k) (k0_off28 k) (k0_off31 k) (k0_off33 k) (k0_off32 k) (16 * k.val + 2)
    ∧ OffsAt (k0_off29 k) (k0_off30 k) (k0_off34 k) (k0_off36 k) (k0_off35 k) (16 * k.val + 8 + 2) := by
  decide +kernel

theorem offs4 : ∀ k : Fin k0_t4_loop.trips,
    OffsAt (k0_off37 k) (k0_off38 k) (k0_off41 k) (k0_off43 k) (k0_off42 k) (16 * k.val + 3)
    ∧ OffsAt (k0_off39 k) (k0_off40 k) (k0_off44 k) (k0_off46 k) (k0_off45 k) (16 * k.val + 8 + 3) := by
  decide +kernel

theorem offs5 : ∀ k : Fin k0_t5_loop.trips,
    OffsAt (k0_off47 k) (k0_off48 k) (k0_off51 k) (k0_off53 k) (k0_off52 k) (16 * k.val + 4)
    ∧ OffsAt (k0_off49 k) (k0_off50 k) (k0_off54 k) (k0_off56 k) (k0_off55 k) (16 * k.val + 8 + 4) := by
  decide +kernel

theorem offs6 : ∀ k : Fin k0_t6_loop.trips,
    OffsAt (k0_off57 k) (k0_off58 k) (k0_off61 k) (k0_off63 k) (k0_off62 k) (16 * k.val + 5)
    ∧ OffsAt (k0_off59 k) (k0_off60 k) (k0_off64 k) (k0_off66 k) (k0_off65 k) (16 * k.val + 8 + 5) := by
  decide +kernel

theorem offs7 : ∀ k : Fin k0_t7_loop.trips,
    OffsAt (k0_off67 k) (k0_off68 k) (k0_off71 k) (k0_off73 k) (k0_off72 k) (16 * k.val + 6)
    ∧ OffsAt (k0_off69 k) (k0_off70 k) (k0_off74 k) (k0_off76 k) (k0_off75 k) (16 * k.val + 8 + 6) := by
  decide +kernel

theorem offs8 : ∀ k : Fin k0_t8_loop.trips,
    OffsAt (k0_off77 k) (k0_off78 k) (k0_off81 k) (k0_off83 k) (k0_off82 k) (16 * k.val + 7)
    ∧ OffsAt (k0_off79 k) (k0_off80 k) (k0_off84 k) (k0_off86 k) (k0_off85 k) (16 * k.val + 8 + 7) := by
  decide +kernel

theorem offs9 : ∀ k : Fin k0_t9_loop.trips,
    OffsAt (k0_off89 k) (k0_off90 k) (k0_off93 k) (k0_off95 k) (k0_off94 k) (2 * k.val)
    ∧ OffsAt (k0_off91 k) (k0_off92 k) (k0_off96 k) (k0_off98 k) (k0_off97 k) (2 * k.val + 1) := by
  decide +kernel

theorem offs10 : ∀ k : Fin k0_t10_loop.trips,
    OffsAt (k0_off101 k) (k0_off102 k) (k0_off105 k) (k0_off107 k) (k0_off106 k) (2 * k.val)
    ∧ OffsAt (k0_off103 k) (k0_off104 k) (k0_off108 k) (k0_off110 k) (k0_off109 k) (2 * k.val + 1) := by
  decide +kernel

theorem offs11 : ∀ k : Fin k0_t11_loop.trips,
    OffsAt (k0_off113 k) (k0_off114 k) (k0_off117 k) (k0_off119 k) (k0_off118 k) (2 * k.val)
    ∧ OffsAt (k0_off115 k) (k0_off116 k) (k0_off120 k) (k0_off122 k) (k0_off121 k) (2 * k.val + 1) := by
  decide +kernel

/-! ## One row's online softmax -/

/-- The position of key `j` of block `p` in the whole sequence. -/
abbrev keyOf (p : Fin 4) (j : Fin 2048) : Fin 8192 := ⟨2048 * p.val + j.val, by omega⟩

theorem ownSc_apply {K : ℕ} (g : Geo K) (b : ℕ) (hb : b < 8) (hK : K ≤ 2048) (kt : Vec Ideal (S1KD K) .bf16) (qt : Vec Ideal S1x256x128 .bf16)
    (j : Fin K) (q : Fin 256) :
    ownSc g (BitVec.ofNat 32 (256 * b)) kt qt (ix2 j q)
      = if j.val / 64 ≤ (256 * b + q.val) / 64 then ∑ d, kt (ix3 0 j d) * qt (ix3 0 q d) else ⊥ := by
  have hm := mask_apply g (256 * b) (by omega) (by omega) j q
  have hs := scores_apply g kt qt j q
  unfold ownSc
  show (if mask g _ (ix2 j q) = 1#1 then scores g kt qt (ix2 j q) else _) = _
  rw [hs]
  exact if_congr hm rfl rfl

theorem fullSc_apply {K : ℕ} (g : Geo K) (kt : Vec Ideal (S1KD K) .bf16) (qt : Vec Ideal S1x256x128 .bf16) (j : Fin K) (q : Fin 256) :
    fullSc g kt qt (ix2 j q) = ∑ d, kt (ix3 0 j d) * qt (ix3 0 q d) :=
  scores_apply g kt qt j q

section Online

variable (s : Fin 64 → Fin 256 → Fin 8192 → ℝ) (v : Fin 64 → Fin 8192 → Fin 128 → EReal)

/-- Row `q` of slot `u` has seen the keys in `A`. -/
def On (S : StI) (u : Fin 64) (q : Fin 256) (A : Finset (Fin 8192)) : Prop :=
  Online (s u q) (v u) A (mAt S u q) (lAt S u q) (fun d => aAt S u d q)

/-- The staged queries and the staged block `p` give the scores `s` and the values `v`. -/
structure Reads (X6 : QC (F := Ideal)) (X7 : KVC (F := Ideal)) (p : Fin 4) : Prop where
  score : ∀ u q j, ∑ d : Fin 128, kvAt X7 (headOf u) j ⟨d.val, by omega⟩ * qAt X6 (headOf u) (rowOf u q) d = ((s u q (keyOf p j) : ℝ) : EReal)
  val : ∀ u j (d : Fin 128), kvAt X7 (headOf u) j ⟨128 + d.val, by omega⟩ = v u (keyOf p j) d

variable {s v}

theorem On.keep {S S' : StI} {u : Fin 64} {q : Fin 256} {A : Finset (Fin 8192)} (h : Keep S S' u) (hS : On s v S u q A) : On s v S' u q A := by
  unfold On at *
  rw [(h q).1, (h q).2.1, funext fun d => (h q).2.2 d]
  exact hS

theorem Adv.on {K : ℕ} {S S' : StI} {u : Fin 64} {q : Fin 256} {t : Fin K → EReal} {w : Fin K → Fin 128 → EReal} (ha : Adv S S' u q t w)
    {A A' : Finset (Fin 8192)} (hS : On s v S u q A) (κ : Fin K → Fin 8192) (hκ : Function.Injective κ) (keep : Fin K → Prop) [DecidablePred keep]
    (hd : ∀ j, keep j → κ j ∉ A) (ht : ∀ j, t j = if keep j then ((s u q (κ j) : ℝ) : EReal) else ⊥) (hw : ∀ j d, w j d = v u (κ j) d)
    (hA' : ∀ i, i ∈ A' ↔ i ∈ A ∨ ∃ j, keep j ∧ κ j = i) : On s v S' u q A' := by
  have e : A' = A ∪ (Finset.univ.filter keep).image κ := by
    ext i
    rw [hA' i]
    simp
  unfold On at *
  rw [e, ha.1, ha.2.1, funext fun d => ha.2.2 d]
  exact Online.step hS κ hκ keep hd t ht w hw

/-- The keys of block `p` that row `q` of slot `u` sees when the block is the device's own. -/
def ownKeys (p : Fin 4) (u : Fin 64) (q : Fin 256) : Finset (Fin 8192) :=
  Finset.univ.filter fun i => 2048 * p.val ≤ i.val ∧ i.val / 64 ≤ (2048 * p.val + (rowOf u q).val) / 64
/-- The keys of block `p`. -/
def allKeys (p : Fin 4) : Finset (Fin 8192) := Finset.univ.filter fun i => 2048 * p.val ≤ i.val ∧ i.val < 2048 * p.val + 2048

variable {X6 : QC (F := Ideal)} {X7 : KVC (F := Ideal)} {p : Fin 4} (hR : Reads s v X6 X7 p)

section Own

variable {n : ℕ} (hn : n = 4) (b : ℕ) (hb : b < 8) {K : ℕ} (hK : K = 256 * (b + 1)) (g : Geo K) (T : Fin n → Tile K × Tile K)
  (hT : ∀ k, (T k).1.At (16 * k.val + b) ∧ (T k).2.At (16 * k.val + 8 + b)) (u : Fin 64) (S : StI)
include hn hb hT

theorem own_other (hu : u.val % 8 ≠ b) :
    Keep S (stepsAll (fun k S => trip g (ownSc g (BitVec.ofNat 32 (256 * b))) (T k).1 (T k).2 X6 X7 S) S) u := by
  refine steps_keep _ u (fun k S => ?_) S n
  have hk := k.isLt
  refine trip_keep g _ X6 X7 S (u₁ := ⟨16 * k.val + b, by omega⟩) (u₂ := ⟨16 * k.val + 8 + b, by omega⟩) (hT k).1 (hT k).2 ?_ ?_ <;>
  · intro e
    have := congrArg Fin.val e
    simp only at this
    omega

include hR hK

theorem own_hit (hu : u.val % 8 = b) (q : Fin 256) (hS : On s v S u q ∅) :
    On s v (stepsAll (fun k S => trip g (ownSc g (BitVec.ofNat 32 (256 * b))) (T k).1 (T k).2 X6 X7 S) S) u q (ownKeys p u q) := by
  have hk4 : u.val / 16 < n := by omega
  refine steps_once _ u ⟨u.val / 16, hk4⟩ (fun k hk S => ?_) (fun S => On s v S u q ∅) (fun S => On s v S u q (ownKeys p u q))
    (fun S S' => On.keep) (fun S S' => On.keep) (fun S hS => ?_) S hS
  · have hk' := k.isLt
    have hne : k.val ≠ u.val / 16 := fun e => hk (Fin.ext e)
    refine trip_keep g _ X6 X7 S (u₁ := ⟨16 * k.val + b, by omega⟩) (u₂ := ⟨16 * k.val + 8 + b, by omega⟩) (hT k).1 (hT k).2 ?_ ?_ <;>
    · intro e
      have := congrArg Fin.val e
      simp only at this
      omega
  · have main : ∀ (T' : Tile K) (S' : StI) (hT' : T'.At u.val)
        (ha : Adv S S' u q (fun j => T'.s (ownSc g (BitVec.ofNat 32 (256 * b))) X6 X7 (ix2 j q)) (fun j d => T'.rdV X7 (ix3 0 j d))),
        On s v S' u q (ownKeys p u q) := by
      intro T' S' hT' ha
      refine ha.on hS (fun j => keyOf p ⟨j.val, by omega⟩) (fun j j' e => Fin.ext (by have := congrArg Fin.val e; simp only at this; omega))
        (fun j => j.val / 64 ≤ (256 * b + q.val) / 64) (fun j _ => by simp) (fun j => ?_) (fun j d => ?_) (fun i => ?_)
      · unfold Tile.s
        rw [ownSc_apply g b hb (by omega)]
        refine if_congr Iff.rfl ?_ rfl
        rw [← hR.score]
        exact Finset.sum_congr rfl fun d _ => by rw [rdK_at hT' X7 (by omega), rdQ_at hT']
      · rw [rdV_at hT' X7 (by omega)]
        exact hR.val _ _ _
      · unfold ownKeys
        simp only [Finset.mem_filter, Finset.mem_univ, true_and, Finset.notMem_empty, false_or]
        constructor
        · rintro ⟨h1, h2⟩
          exact ⟨⟨i.val - 2048 * p.val, by omega⟩, by simp only; omega, Fin.ext (by simp only; omega)⟩
        · rintro ⟨j, h1, rfl⟩
          simp only
          omega
    by_cases h8 : u.val % 16 < 8
    · have e : u.val = 16 * (u.val / 16) + b := by omega
      have h₁ : (T ⟨u.val / 16, hk4⟩).1.At u.val := by have := (hT ⟨u.val / 16, hk4⟩).1; simpa [← e] using this
      have h₂ := (hT ⟨u.val / 16, hk4⟩).2
      exact main _ _ h₁ (trip_adv₁ g _ X6 X7 S (u₁ := u) (u₂ := ⟨16 * (u.val / 16) + 8 + b, by omega⟩) h₁ h₂
        (fun e' => by have := congrArg Fin.val e'; simp only at this; omega) q)
    · have e : u.val = 16 * (u.val / 16) + 8 + b := by omega
      have h₂ : (T ⟨u.val / 16, hk4⟩).2.At u.val := by have := (hT ⟨u.val / 16, hk4⟩).2; simpa [← e] using this
      exact main _ _ h₂ (trip_adv₂ g _ X6 X7 S (u₂ := u) h₂ q)

end Own

section Full

variable {n : ℕ} (hn : n = 32) (g : Geo 2048) (T : Fin n → Tile 2048 × Tile 2048)
  (hT : ∀ k, (T k).1.At (2 * k.val) ∧ (T k).2.At (2 * k.val + 1)) (u : Fin 64) (S : StI)
include hn hT hR

theorem full_hit (q : Fin 256) (A : Finset (Fin 8192)) (hA : ∀ i ∈ A, i ∉ allKeys p) (hS : On s v S u q A) :
    On s v (stepsAll (fun k S => trip g (fullSc g) (T k).1 (T k).2 X6 X7 S) S) u q (A ∪ allKeys p) := by
  have hk4 : u.val / 2 < n := by omega
  refine steps_once _ u ⟨u.val / 2, hk4⟩ (fun k hk S => ?_) (fun S => On s v S u q A) (fun S => On s v S u q (A ∪ allKeys p))
    (fun S S' => On.keep) (fun S S' => On.keep) (fun S hS => ?_) S hS
  · have hk' := k.isLt
    have hne : k.val ≠ u.val / 2 := fun e => hk (Fin.ext e)
    refine trip_keep g _ X6 X7 S (u₁ := ⟨2 * k.val, by omega⟩) (u₂ := ⟨2 * k.val + 1, by omega⟩) (hT k).1 (hT k).2 ?_ ?_ <;>
    · intro e
      have := congrArg Fin.val e
      simp only at this
      omega
  · have main : ∀ (T' : Tile 2048) (S' : StI) (hT' : T'.At u.val)
        (ha : Adv S S' u q (fun j => T'.s (fullSc g) X6 X7 (ix2 j q)) (fun j d => T'.rdV X7 (ix3 0 j d))),
        On s v S' u q (A ∪ allKeys p) := by
      intro T' S' hT' ha
      have hmem : ∀ i, i ∈ allKeys p ↔ ∃ j : Fin 2048, keyOf p j = i := by
        intro i
        unfold allKeys
        simp only [Finset.mem_filter, Finset.mem_univ, true_and]
        constructor
        · rintro ⟨h1, h2⟩
          exact ⟨⟨i.val - 2048 * p.val, by omega⟩, Fin.ext (by simp only; omega)⟩
        · rintro ⟨j, rfl⟩
          simp only
          omega
      refine ha.on hS (fun j => keyOf p j) (fun j j' e => Fin.ext (by have := congrArg Fin.val e; simp only at this; omega))
        (fun _ => True) (fun j _ hj => hA _ hj ((hmem _).2 ⟨j, rfl⟩)) (fun j => ?_) (fun j d => ?_) (fun i => ?_)
      · unfold Tile.s
        rw [fullSc_apply, if_pos trivial, ← hR.score]
        exact Finset.sum_congr rfl fun d _ => by rw [rdK_at hT' X7 le_rfl, rdQ_at hT']
      · rw [rdV_at hT' X7 le_rfl]
        exact hR.val _ _ _
      · rw [Finset.mem_union, hmem]
        simp
    by_cases h8 : u.val % 2 = 0
    · have e : u.val = 2 * (u.val / 2) := by omega
      have h₁ : (T ⟨u.val / 2, hk4⟩).1.At u.val := by have := (hT ⟨u.val / 2, hk4⟩).1; simpa [← e] using this
      have h₂ := (hT ⟨u.val / 2, hk4⟩).2
      exact main _ _ h₁ (trip_adv₁ g _ X6 X7 S (u₁ := u) (u₂ := ⟨2 * (u.val / 2) + 1, by omega⟩) h₁ h₂
        (fun e' => by have := congrArg Fin.val e'; simp only at this; omega) q)
    · have e : u.val = 2 * (u.val / 2) + 1 := by omega
      have h₂ : (T ⟨u.val / 2, hk4⟩).2.At u.val := by have := (hT ⟨u.val / 2, hk4⟩).2; simpa [← e] using this
      exact main _ _ h₂ (trip_adv₂ g _ X6 X7 S (u₂ := u) h₂ q)

end Full

end Online

end Cert.Attn

end
-- ==== Proof.Rows.lean ====
/-
# The running state after the last block

Device `c`'s row `r` has then seen the keys up to its own row's chunk, those of the earlier devices and of its own block.
-/
module

public import proofs.«01_k».proof.Proof.Advance
public import proofs.«01_k».proof.Proof.Body

@[expose] public section

set_option maxRecDepth 16384

noncomputable section

namespace Cert.Attn

open Cert.KernelIdeal Cert.KernelIdeal.Gen
open Idealize.ShloMosaic Idealize.ShloMosaic.TcCoe Idealize.ShloMosaic.Tactic

section Own

variable {s : Fin 64 → Fin 256 → Fin 8192 → ℝ} {v : Fin 64 → Fin 8192 → Fin 128 → EReal} {X6 : QC (F := Ideal)} {X7 : KVC (F := Ideal)} {p : Fin 4}
  (c : Dev nD)

/-- What loop `b` over the own block does to slot `u`: a hit in row tile `b`, nothing in the others. -/
def OwnLoop (s : Fin 64 → Fin 256 → Fin 8192 → ℝ) (v : Fin 64 → Fin 8192 → Fin 128 → EReal) (p : Fin 4) (b : ℕ) (G : StI → StI) : Prop :=
  ∀ (u : Fin 64) (S : StI), (u.val % 8 ≠ b → Keep S (G S) u) ∧ (u.val % 8 = b → ∀ q, On s v S u q ∅ → On s v (G S) u q (ownKeys p u q))

theorem OwnLoop.mk (hR : Reads s v X6 X7 p) {n : ℕ} (hn : n = 4) (b : ℕ) (hb : b < 8) {K : ℕ} (hK : K = 256 * (b + 1)) (g : Geo K)
    (T : Fin n → Tile K × Tile K) (hT : ∀ k, (T k).1.At (16 * k.val + b) ∧ (T k).2.At (16 * k.val + 8 + b)) :
    OwnLoop s v p b (stepsAll (fun k S => trip g (ownSc g (BitVec.ofNat 32 (256 * b))) (T k).1 (T k).2 X6 X7 S)) := fun u S =>
  ⟨own_other hn b hb g T hT u S, fun hu q => own_hit hR hn b hb hK g T hT u S hu q⟩

variable (hR : Reads s v X6 X7 p)
include hR

theorem loop1 : OwnLoop s v p 0 (stepsAll (own1 c X6 X7)) :=
  OwnLoop.mk hR (by decide +kernel) 0 (by decide) rfl geo256 (fun k => tiles1 c (own_on c) k) fun k => ⟨.of (offs1 k).1, .of (offs1 k).2⟩
theorem loop2 : OwnLoop s v p 1 (stepsAll (own2 c X6 X7)) :=
  OwnLoop.mk hR (by decide +kernel) 1 (by decide) rfl geo512 (fun k => tiles2 c (own_on c) k) fun k => ⟨.of (offs2 k).1, .of (offs2 k).2⟩
theorem loop3 : OwnLoop s v p 2 (stepsAll (own3 c X6 X7)) :=
  OwnLoop.mk hR (by decide +kernel) 2 (by decide) rfl geo768 (fun k => tiles3 c (own_on c) k) fun k => ⟨.of (offs3 k).1, .of (offs3 k).2⟩
theorem loop4 : OwnLoop s v p 3 (stepsAll (own4 c X6 X7)) :=
  OwnLoop.mk hR (by decide +kernel) 3 (by decide) rfl geo1024 (fun k => tiles4 c (own_on c) k) fun k => ⟨.of (offs4 k).1, .of (offs4 k).2⟩
theorem loop5 : OwnLoop s v p 4 (stepsAll (own5 c X6 X7)) :=
  OwnLoop.mk hR (by decide +kernel) 4 (by decide) rfl geo1280 (fun k => tiles5 c (own_on c) k) fun k => ⟨.of (offs5 k).1, .of (offs5 k).2⟩
theorem loop6 : OwnLoop s v p 5 (stepsAll (own6 c X6 X7)) :=
  OwnLoop.mk hR (by decide +kernel) 5 (by decide) rfl geo1536 (fun k => tiles6 c (own_on c) k) fun k => ⟨.of (offs6 k).1, .of (offs6 k).2⟩
theorem loop7 : OwnLoop s v p 6 (stepsAll (own7 c X6 X7)) :=
  OwnLoop.mk hR (by decide +kernel) 6 (by decide) rfl geo1792 (fun k => tiles7 c (own_on c) k) fun k => ⟨.of (offs7 k).1, .of (offs7 k).2⟩
theorem loop8 : OwnLoop s v p 7 (stepsAll (own8 c X6 X7)) :=
  OwnLoop.mk hR (by decide +kernel) 7 (by decide) rfl geo2048 (fun k => tiles8 c (own_on c) k) fun k => ⟨.of (offs8 k).1, .of (offs8 k).2⟩

/-- Before loop `b`: the row tiles below `b` have seen their keys, the others none. -/
def Before (s : Fin 64 → Fin 256 → Fin 8192 → ℝ) (v : Fin 64 → Fin 8192 → Fin 128 → EReal) (p : Fin 4) (b : ℕ) (S : StI) : Prop :=
  ∀ u q, On s v S u q (if u.val % 8 < b then ownKeys p u q else ∅)

omit hR in
theorem Before.next {b : ℕ} {G : StI → StI} (hG : OwnLoop s v p b G) {S : StI} (h : Before s v p b S) : Before s v p (b + 1) (G S) := by
  intro u q
  by_cases hu : u.val % 8 = b
  · rw [if_pos (by omega)]
    refine (hG u S).2 hu q ?_
    have := h u q
    rwa [if_neg (by omega)] at this
  · have := h u q
    have e : (u.val % 8 < b + 1) ↔ (u.val % 8 < b) := by omega
    rw [if_congr e rfl rfl]
    exact this.keep ((hG u S).1 hu)

theorem ownAll_on {S : StI} (h : ∀ u q, On s v S u q ∅) (u : Fin 64) (q : Fin 256) : On s v (ownAll c X6 X7 S) u q (ownKeys p u q) := by
  have h0 : Before s v p 0 S := fun u q => by rw [if_neg (by omega)]; exact h u q
  have := (((((((h0.next (loop1 c hR)).next (loop2 c hR)).next (loop3 c hR)).next (loop4 c hR)).next (loop5 c hR)).next (loop6 c hR)).next
    (loop7 c hR)).next (loop8 c hR) u q
  rwa [if_pos (by omega)] at this

end Own

section All

variable {s : Fin 64 → Fin 256 → Fin 8192 → ℝ} {v : Fin 64 → Fin 8192 → Fin 128 → EReal} {X6 : QC (F := Ideal)} (KV : Packed (F := Ideal))
  (c : Dev nD)

theorem cond9 : ∀ c : Dev nD, (k0_cond5 c = 1#1 ↔ 1 ≤ c.val) ∧ (1 ≤ c.val → (peer c 2).val = c.val - 1) := by decide +kernel
theorem cond10 : ∀ c : Dev nD, (k0_cond6 c = 1#1 ↔ 2 ≤ c.val) ∧ (2 ≤ c.val → (peer c 1).val = c.val - 2) := by decide +kernel
theorem cond11 : ∀ c : Dev nD, (k0_cond7 c = 1#1 ↔ 3 ≤ c.val) ∧ (3 ≤ c.val → (peer c 0).val = c.val - 3) := by decide +kernel

/-- The keys device `c`'s row has seen after the blocks of the `k` devices before it, as many as there are. -/
def seen (c : Dev nD) (k : ℕ) (u : Fin 64) (q : Fin 256) : Finset (Fin 8192) :=
  Finset.univ.filter fun i => 2048 * (c.val - k) ≤ i.val ∧ i.val / 64 ≤ (2048 * c.val + (rowOf u q).val) / 64

theorem seen_zero (u : Fin 64) (q : Fin 256) : seen c 0 u q = ownKeys c u q := rfl

theorem seen_succ (k : ℕ) (hk : k + 1 ≤ c.val) (p : Dev nD) (hp : p.val = c.val - (k + 1)) (u : Fin 64) (q : Fin 256) :
    seen c k u q ∪ allKeys p = seen c (k + 1) u q := by
  ext i
  unfold seen allKeys
  have hq := (rowOf u q).isLt
  simp only [Finset.mem_union, Finset.mem_filter, Finset.mem_univ, true_and]
  omega

theorem seen_same (k : ℕ) (hk : ¬ k + 1 ≤ c.val) (u : Fin 64) (q : Fin 256) : seen c k u q = seen c (k + 1) u q := by
  unfold seen
  rw [show c.val - k = c.val - (k + 1) by omega]

theorem seen_disj (k : ℕ) (hk : k + 1 ≤ c.val) (p : Dev nD) (hp : p.val = c.val - (k + 1)) (u : Fin 64) (q : Fin 256) :
    ∀ i ∈ seen c k u q, i ∉ allKeys p := by
  intro i
  unfold seen allKeys
  simp only [Finset.mem_filter, Finset.mem_univ, true_and]
  omega

variable (hR : ∀ p : Dev nD, Reads s v X6 (stage (KV p)) p)
include hR

theorem upd9_on {S : StI} (u : Fin 64) (q : Fin 256) (h : On s v S u q (seen c 0 u q)) : On s v (upd9 KV c X6 S) u q (seen c 1 u q) := by
  unfold upd9
  split_ifs with hc
  · have hc' := (cond9 c).1.1 hc
    rw [← seen_succ c 0 hc' _ ((cond9 c).2 hc')]
    exact full_hit (hR _) (by decide +kernel) geo2048 (fun k => tiles9 c hc k) (fun k => ⟨.of (offs9 k).1, .of (offs9 k).2⟩) u S q _
      (seen_disj c 0 hc' _ ((cond9 c).2 hc') u q) h
  · rw [← seen_same c 0 (fun hc' => hc ((cond9 c).1.2 hc'))]
    exact h

theorem upd10_on {S : StI} (u : Fin 64) (q : Fin 256) (h : On s v S u q (seen c 1 u q)) : On s v (upd10 KV c X6 S) u q (seen c 2 u q) := by
  unfold upd10
  split_ifs with hc
  · have hc' := (cond10 c).1.1 hc
    rw [← seen_succ c 1 hc' _ ((cond10 c).2 hc')]
    exact full_hit (hR _) (by decide +kernel) geo2048 (fun k => tiles10 c hc k) (fun k => ⟨.of (offs10 k).1, .of (offs10 k).2⟩) u S q _
      (seen_disj c 1 hc' _ ((cond10 c).2 hc') u q) h
  · rw [← seen_same c 1 (fun hc' => hc ((cond10 c).1.2 hc'))]
    exact h

theorem upd11_on {S : StI} (u : Fin 64) (q : Fin 256) (h : On s v S u q (seen c 2 u q)) : On s v (upd11 KV c X6 S) u q (seen c 3 u q) := by
  unfold upd11
  split_ifs with hc
  · have hc' := (cond11 c).1.1 hc
    rw [← seen_succ c 2 hc' _ ((cond11 c).2 hc')]
    exact full_hit (hR _) (by decide +kernel) geo2048 (fun k => tiles11 c hc k) (fun k => ⟨.of (offs11 k).1, .of (offs11 k).2⟩) u S q _
      (seen_disj c 2 hc' _ ((cond11 c).2 hc') u q) h
  · rw [← seen_same c 2 (fun hc' => hc ((cond11 c).1.2 hc'))]
    exact h

omit hR in
/-- The state the loops start from: a finite maximum, no sum, no accumulator. -/
theorem st0_on (S : StI) (u : Fin 64) (q : Fin 256) : On s v (st0 S) u q ∅ := by
  have hm : mAt (st0 S) u q = Ideal.ofBits .f32 0xF149F2CA#32 := by
    refine (View.read_writes_cons_unit_of_mem mM.view _ inb_S64x1x256_S64x1x256_0_0_0 _ _ _ (ix3 u 0 q) rfl fun a => by fin_cases a <;> simp [ix3]).trans ?_
    unfold k0_pay268
    pointwise
  have hl : lAt (st0 S) u q = 0 := by
    refine (View.read_writes_cons_unit_of_mem lM.view _ inb_S64x1x256_S64x1x256_0_0_0 _ _ _ (ix3 u 0 q) rfl fun a => by fin_cases a <;> simp [ix3]).trans ?_
    unfold k0_pay269
    pointwise
  have ha : ∀ d, aAt (st0 S) u d q = 0 := fun d => by
    refine (View.read_writes_cons_unit_of_mem accM.view _ inb_S64x128x256_S64x128x256_0_0_0 _ _ _ (ix3 u d q) rfl fun a => by fin_cases a <;> simp [ix3]).trans ?_
    unfold k0_pay270
    pointwise
  unfold On
  rw [hm, hl, funext ha]
  exact Online.init _

theorem stAll_on (X : XC (F := Ideal)) (Wq : WC (F := Ideal)) (f6 : QC (F := Ideal)) (S : StI) (hX : X6 = qAll X Wq f6) (u : Fin 64) (q : Fin 256) :
    On s v (stAll KV c X Wq f6 S) u q (seen c 3 u q) := by
  unfold stAll
  rw [← hX]
  exact upd11_on KV c hR u q (upd10_on KV c hR u q (upd9_on KV c hR u q (ownAll_on c (hR c) (fun u q => st0_on S u q) u q)))

end All

end Cert.Attn

end
-- ==== Proof.Inputs.lean ====
/-
# What the kernel finds in its inputs
-/
module

public import proofs.«01_k».proof.Proof.Queries
public import proofs.«01_k».proof.Proof.Region
public import Idealize.ShloMosaic.Lib.StableHlo.ReadAt

@[expose] public section

set_option maxRecDepth 16384

noncomputable section

namespace Cert.Attn

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

theorem stage_at (X : BufTy.Contents (Elt Ideal) (main_v6 : Ref sig .tc).ty) (h : Fin 8) (j : Fin 2048) (d : Fin 256) :
    kvAt (stage (F := Ideal) X) h j d = (X : S8x2048x256.Idx → EReal) (ix3 h j d) := rfl

/-- The packed block's left half holds the keys, -/
theorem kvAt_key (h : Fin 8) (j : Fin 2048) (d : Fin 128) :
    kvAt (stage (kvOf m c)) h j ⟨d.val, by omega⟩ = (m ((c : Thread nD τ).loc main_arg2) : S1x2048x8x128.Idx → EReal) (ix4 0 j h d) := by
  rw [stage_at]
  unfold kvOf V
  after_reads_at

/-- and its right half the values. -/
theorem kvAt_val (h : Fin 8) (j : Fin 2048) (d : Fin 128) :
    kvAt (stage (kvOf m c)) h j ⟨128 + d.val, by omega⟩ = (m ((c : Thread nD τ).loc main_arg3) : S1x2048x8x128.Idx → EReal) (ix4 0 j h d) := by
  rw [stage_at]
  unfold kvOf V
  after_reads_at

theorem xIn_arr (r : Fin 2048) (e : Fin 1024) : xAt (xIn m c) r e = (V m c main_v1 : S2048x1024.Idx → EReal) (ix2 r e) := by
  unfold xAt xIn iblk
  refine congrArg (V m c main_v1 : S2048x1024.Idx → EReal) (funext fun a => Fin.ext ?_)
  fin_cases a <;> exact (Nat.zero_add _).trans (Nat.one_mul _)

theorem xAt_in (r : Fin 2048) (e : Fin 1024) :
    xAt (xIn m c) r e = (m ((c : Thread nD τ).loc main_arg0) : S1x2048x1024.Idx → EReal) (ix3 0 r e) := by
  rw [xIn_arr]
  unfold V
  after_reads_at

theorem wqAt_in (e n : Fin 1024) : wqAt (wqIn m c) e n = (m ((c : Thread nD τ).loc main_arg1) : S1024x1024.Idx → EReal) (ix2 e n) := by
  unfold wqAt wqIn iblk
  refine congrArg (m ((c : Thread nD τ).loc main_arg1) : S1024x1024.Idx → EReal) (funext fun a => Fin.ext ?_)
  fin_cases a <;> exact (Nat.zero_add _).trans (Nat.one_mul _)

theorem woAt_in (e n : Fin 1024) : woAt (woIn m c) e n = (m ((c : Thread nD τ).loc main_arg4) : S1024x1024.Idx → EReal) (ix2 e n) := by
  unfold woAt woIn iblk
  refine congrArg (m ((c : Thread nD τ).loc main_arg4) : S1024x1024.Idx → EReal) (funext fun a => Fin.ext ?_)
  fin_cases a <;> exact (Nat.zero_add _).trans (Nat.one_mul _)

end Cert.Attn

end
-- ==== Proof.Refer.lean ====
/-
# The reference, entry by entry
-/
module

public import proofs.«01_k».proof.Proof.Gen.ReferenceIdeal.Run
public import proofs.«01_k».proof.Proof.Softmax
public import Idealize.ShloMosaic.Lib.Pointwise
public import Idealize.ShloMosaic.Lib.ValueLayout

@[expose] public section

set_option maxRecDepth 16384

noncomputable section

namespace Cert.Attn.Refer

open Cert.ReferenceIdeal Cert.ReferenceIdeal.Gen
open Idealize.ShloMosaic Idealize.ShloMosaic.TcCoe Idealize.ShloMosaic.Tactic

/-! ## The stages -/

/-- The chunk of each position. -/
def chunk : IVec S8192 32 :=
  select
    (andi (cmpi .ne (signi (iotaInDim S8192 32 0)) (broadcastInDim S8192 ![] bcast_S_S8192 (signi (id (constantI S_ 32 64#32)))))
      (cmpi .ne (Host.remsi (iotaInDim S8192 32 0) (broadcastInDim S8192 ![] bcast_S_S8192 (id (constantI S_ 32 64#32))))
        (broadcastInDim S8192 ![] bcast_S_S8192 (constantI S_ 32 0#32))))
    (subi (Host.divsi (iotaInDim S8192 32 0) (broadcastInDim S8192 ![] bcast_S_S8192 (id (constantI S_ 32 64#32))))
      (broadcastInDim S8192 ![] bcast_S_S8192 (constantI S_ 32 1#32)))
    (Host.divsi (iotaInDim S8192 32 0) (broadcastInDim S8192 ![] bcast_S_S8192 (id (constantI S_ 32 64#32))))

/-- Which keys a row sees. -/
def sees : IVec S8192x8192 1 :=
  cmpi .sle (broadcastInDim S8192x8192 ![0, 1] bcast_S1x8192_S8192x8192_0_1 (broadcastInDim S1x8192 ![1] bcast_S8192_S1x8192_1 chunk))
    (broadcastInDim S8192x8192 ![0, 1] bcast_S8192x1_S8192x8192_0_1 (broadcastInDim S8192x1 ![0] bcast_S8192_S8192x1_0 chunk))

/-- Which rows see any key. -/
def kept : IVec S1x1x8192x1 1 :=
  broadcastInDim S1x1x8192x1 ![2] bcast_S8192_S1x1x8192x1_2 (Host.reduce IntOp.ori sees (constantI S_ 1 0#1) reducesTo_S8192x8192_S8192_d1 h_S_)

/-- The scores, those of unseen keys masked. -/
def scores (x : FVec Ideal S1x8192x1024 .bf16) (w : FVec Ideal S1024x1024 .bf16) (k : FVec Ideal S1x8192x8x128 .bf16) : FVec Ideal S1x8x8192x8192 .f32 :=
  select
    (broadcastInDim S1x8x8192x8192 ![0, 1, 2, 3] bcast_S1x1x8192x8192_S1x8x8192x8192_0_1_2_3
      (broadcastInDim S1x1x8192x8192 ![2, 3] bcast_S8192x8192_S1x1x8192x8192_2_3 sees))
    (mulf (extf .f32 (truncf .bf16 (Host.dotGeneral dot_S1x8192x8x128_S1x8192x8x128_S1x8x8192x8192_3_3_1_1_02_02 none
        (shapeCast _ (truncf .bf16 (Host.dotGeneral dot_S1x8192x1024_S1024x1024_S1x8192x1024_2_0_01_1_n_n none x w) bitsLt_bf16_f32)
          shapeCasts_S1x8192x1024_S1x8192x8x128) k) bitsLt_bf16_f32) bitsLt_bf16_f32)
      (broadcastInDim S1x8x8192x8192 ![] bcast_S_S1x8x8192x8192 (constant S_ .f32 0x3DB504F3#32)))
    (broadcastInDim S1x8x8192x8192 ![] bcast_S_S1x8x8192x8192 (id (constant S_ .f32 0xFF800000#32)))

variable (s : FVec Ideal S1x8x8192x8192 .f32)

/-- The exponentials of the scores less their row's largest. -/
def exps : FVec Ideal S1x8x8192x8192 .f32 :=
  Host.exp (subf s (broadcastInDim S1x8x8192x8192 ![0, 1, 2, 3] bcast_S1x8x8192x1_S1x8x8192x8192_0_1_2_3
    (broadcastInDim S1x8x8192x1 ![0, 1, 2] bcast_S1x8x8192_S1x8x8192x1_0_1_2
      (Host.reduce FloatOps.maximumf s (constant S_ .f32 0xFF800000#32) reducesTo_S1x8x8192x8192_S1x8x8192_d3 h_S_))))

/-- The weights. -/
def weights : FVec Ideal S1x8x8192x8192 .f32 :=
  select (broadcastInDim S1x8x8192x8192 ![0, 1, 2, 3] bcast_S1x1x8192x1_S1x8x8192x8192_0_1_2_3 kept)
    (Host.divf (exps s) (broadcastInDim S1x8x8192x8192 ![0, 1, 2, 3] bcast_S1x8x8192x1_S1x8x8192x8192_0_1_2_3
      (select (broadcastInDim S1x8x8192x1 ![0, 1, 2, 3] bcast_S1x1x8192x1_S1x8x8192x1_0_1_2_3 kept)
        (broadcastInDim S1x8x8192x1 ![0, 1, 2] bcast_S1x8x8192_S1x8x8192x1_0_1_2
          (Host.reduceAdd (exps s) (constant S_ .f32 0x00000000#32) reducesTo_S1x8x8192x8192_S1x8x8192_d3 h_S_))
        (broadcastInDim S1x8x8192x1 ![] bcast_S_S1x8x8192x1 (id (constant S_ .f32 0x3F800000#32))))))
    (broadcastInDim S1x8x8192x8192 ![] bcast_S_S1x8x8192x8192 (id (constant S_ .f32 0x00000000#32)))

/-- The context. -/
def context (v : FVec Ideal S1x8192x8x128 .bf16) (p : FVec Ideal S1x8x8192x8192 .f32) : FVec Ideal S1x8192x1024 .f32 :=
  shapeCast _ (transpose S1x8192x8x128 [0, 3, 1, 2] (Host.dotGeneral dot_S1x8192x8x128_S1x8x8192x8192_S1x8x128x8192_1_3_3_2_02_01 none
    (extf .f32 v bitsLt_bf16_f32) p) transposes_S1x8x128x8192_S1x8192x8x128_0_3_1_2) shapeCasts_S1x8192x8x128_S1x8192x1024

/-- The output. -/
def output (x : FVec Ideal S1x8192x1024 .bf16) (w : FVec Ideal S1024x1024 .bf16) (k v : FVec Ideal S1x8192x8x128 .bf16)
    (o : FVec Ideal S1024x1024 .bf16) : FVec Ideal S1x8192x1024 .f32 :=
  Host.dotGeneral dot_S1x8192x1024_S1024x1024_S1x8192x1024_2_0_01_1_n_n none (context v (weights (scores x w k))) (extf .f32 o bitsLt_bf16_f32)

theorem output_eq (m : (ℓ : Loc nD τ sig) → Buf (Elt Ideal) ℓ) (c : Dev nD) :
    Value.res_main_v38 m c = output (m ((c : Thread nD τ).loc main_arg0)) (m ((c : Thread nD τ).loc main_arg1)) (m ((c : Thread nD τ).loc main_arg2))
      (m ((c : Thread nD τ).loc main_arg3)) (m ((c : Thread nD τ).loc main_arg4)) := by
  unfold Value.res_main_v38 output context weights exps scores kept sees chunk
  rfl

/-! ## Their entries -/

theorem chunk_small : ∀ i : Fin 8192, Scalar.select
      (IntOp.andi (IntOp.cmpi .ne ((if BitVec.ofNat 32 i.val = 0 then 0 else if (BitVec.ofNat 32 i.val).msb then -1 else 1 : BitVec 32)) (1#32)) (IntOp.cmpi .ne (IntOp.remsi .host (BitVec.ofNat 32 i.val) 64#32) 0#32))
      (IntOp.subi (IntOp.divsi .host (BitVec.ofNat 32 i.val) 64#32) 1#32) (IntOp.divsi .host (BitVec.ofNat 32 i.val) 64#32) = BitVec.ofNat 32 (i.val / 64) := by
  decide +kernel

theorem chunk_apply (i : Fin 8192) : chunk (ix1 i) = BitVec.ofNat 32 (i.val / 64) := by
  unfold chunk
  pointwise
  exact chunk_small i

theorem sle_chunk (a b : Fin 128) : IntOp.cmpi .sle (BitVec.ofNat 32 a.val) (BitVec.ofNat 32 b.val) = 1#1 ↔ a.val ≤ b.val := by
  revert a b
  decide +kernel

theorem sees_apply (r i : Fin 8192) : sees (ix2 r i) = 1#1 ↔ i.val / 64 ≤ r.val / 64 := by
  have h : sees (ix2 r i) = IntOp.cmpi .sle (chunk (ix1 i)) (chunk (ix1 r)) := by
    unfold sees
    pointwise
  rw [h, chunk_apply, chunk_apply]
  exact sle_chunk ⟨i.val / 64, by omega⟩ ⟨r.val / 64, by omega⟩

theorem ori_one : ∀ a : BitVec 1, IntOp.ori 1#1 a = 1#1 := by decide

theorem kept_apply (r : Fin 8192) : kept (ix4 0 0 r 0) = 1#1 := by
  unfold kept
  pointwise
  rw [← Finset.insert_erase (Finset.mem_univ r), Finset.fold_insert (Finset.notMem_erase _ _), (sees_apply r r).2 le_rfl]
  exact ori_one _

theorem neg_inf : Ideal.ofBits .f32 0xFF800000#32 = ⊥ := by simp [Ideal.ofBits, Ideal.ieee]

theorem scores_apply (x : FVec Ideal S1x8192x1024 .bf16) (w : FVec Ideal S1024x1024 .bf16) (k : FVec Ideal S1x8192x8x128 .bf16)
    (h : Fin 8) (r i : Fin 8192) :
    scores x w k (ix4 0 h r i) = if i.val / 64 ≤ r.val / 64 then
      (∑ d : Fin 128, (∑ e : Fin 1024, x (ix3 0 r e) * w (ix2 e ⟨h.val * 128 + d.val, by omega⟩)) * k (ix4 0 i h d)) * Ideal.ofBits .f32 0x3DB504F3#32
      else ⊥ := by
  unfold scores
  pointwise
  rw [← neg_inf]
  exact if_congr (sees_apply r i) rfl rfl

theorem exps_apply (h : Fin 8) (r i : Fin 8192) :
    exps s (ix4 0 h r i) = Ideal.exp (s (ix4 0 h r i) - Finset.univ.fold max ⊥ fun j : Fin 8192 => s (ix4 0 h r j)) := by
  unfold exps
  pointwise
  rw [neg_inf]

theorem row_sum (e : FVec Ideal S1x8x8192x8192 .f32) (h : Fin 8) (r : Fin 8192) :
    Host.reduceAdd e (constant S_ .f32 0x00000000#32) reducesTo_S1x8x8192x8192_S1x8x8192_d3 h_S_ (ix3 0 h r) = ∑ j : Fin 8192, e (ix4 0 h r j) := by
  pointwise

theorem per_row (t : FVec Ideal S1x8x8192 .f32) (h : Fin 8) (r : Fin 8192) :
    broadcastInDim S1x8x8192x1 ![0, 1, 2] bcast_S1x8x8192_S1x8x8192x1_0_1_2 t (ix4 0 h r 0) = t (ix3 0 h r) := by
  pointwise

theorem along_row (t : FVec Ideal S1x8x8192x1 .f32) (h : Fin 8) (r i : Fin 8192) :
    broadcastInDim S1x8x8192x8192 ![0, 1, 2, 3] bcast_S1x8x8192x1_S1x8x8192x8192_0_1_2_3 t (ix4 0 h r i) = t (ix4 0 h r 0) := by
  pointwise

theorem keep_row (k : IVec S1x1x8192x1 1) (h : Fin 8) (r i : Fin 8192) :
    broadcastInDim S1x8x8192x8192 ![0, 1, 2, 3] bcast_S1x1x8192x1_S1x8x8192x8192_0_1_2_3 k (ix4 0 h r i) = k (ix4 0 0 r 0) := by
  pointwise

theorem keep_sum (k : IVec S1x1x8192x1 1) (h : Fin 8) (r : Fin 8192) :
    broadcastInDim S1x8x8192x1 ![0, 1, 2, 3] bcast_S1x1x8192x1_S1x8x8192x1_0_1_2_3 k (ix4 0 h r 0) = k (ix4 0 0 r 0) := by
  pointwise

theorem select_kept {t : Shape} {c : IVec t 1} {a b : FVec Ideal t .f32} {i : t.Idx} (hc : c i = 1#1) : select c a b i = a i := by
  show (if c i = 1#1 then a i else b i) = a i
  rw [if_pos hc]

theorem weights_apply (h : Fin 8) (r i : Fin 8192) :
    weights s (ix4 0 h r i) = Ideal.div (exps s (ix4 0 h r i)) (∑ j : Fin 8192, exps s (ix4 0 h r j)) := by
  unfold weights
  rw [select_kept ((keep_row kept h r i).trans (kept_apply r))]
  have hd : ∀ a b : FVec Ideal S1x8x8192x8192 .f32, Host.divf a b (ix4 0 h r i) = Ideal.div (a (ix4 0 h r i)) (b (ix4 0 h r i)) := fun a b => by pointwise
  rw [hd, along_row, select_kept ((keep_sum kept h r).trans (kept_apply r)), per_row, row_sum]

theorem seen_dot (v : FVec Ideal S1x8192x8x128 .f32) (p : FVec Ideal S1x8x8192x8192 .f32) (r : Fin 8192) (h : Fin 8) (d : Fin 128) :
    Host.dotGeneral (F := Ideal) (φ₁ := .f32) (φ₂ := .f32) dot_S1x8192x8x128_S1x8x8192x8192_S1x8x128x8192_1_3_3_2_02_01 none v p (ix4 0 h d r)
      = ∑ i : Fin 8192, v (ix4 0 i h d) * p (ix4 0 h r i) := by
  pointwise

theorem rows_first (v : FVec Ideal S1x8x128x8192 .f32) (r : Fin 8192) (h : Fin 8) (d : Fin 128) :
    transpose S1x8192x8x128 [0, 3, 1, 2] v transposes_S1x8x128x8192_S1x8192x8x128_0_3_1_2 (ix4 0 r h d) = v (ix4 0 h d r) := by
  pointwise

theorem heads_joined (v : FVec Ideal S1x8192x8x128 .f32) (r : Fin 8192) (e : Fin 1024) :
    shapeCast S1x8192x1024 v shapeCasts_S1x8192x8x128_S1x8192x1024 (ix3 0 r e) = v (ix4 0 r ⟨e.val / 128, by omega⟩ ⟨e.val % 128, by omega⟩) := by
  pointwise

theorem context_apply (v : FVec Ideal S1x8192x8x128 .bf16) (p : FVec Ideal S1x8x8192x8192 .f32) (r : Fin 8192) (e : Fin 1024) :
    context v p (ix3 0 r e) = ∑ i : Fin 8192, v (ix4 0 i ⟨e.val / 128, by omega⟩ ⟨e.val % 128, by omega⟩) * p (ix4 0 ⟨e.val / 128, by omega⟩ r i) := by
  unfold context
  rw [heads_joined, rows_first]
  exact seen_dot v p r _ _

theorem out_dot (a : FVec Ideal S1x8192x1024 .f32) (o : FVec Ideal S1024x1024 .bf16) (r : Fin 8192) (n : Fin 1024) :
    Host.dotGeneral (F := Ideal) (φ₁ := .f32) (φ₂ := .f32) dot_S1x8192x1024_S1024x1024_S1x8192x1024_2_0_01_1_n_n none a (extf .f32 o bitsLt_bf16_f32) (ix3 0 r n)
      = ∑ e : Fin 1024, a (ix3 0 r e) * o (ix2 e n) := by
  pointwise

/-- An entry of the reference's output: the softmax of the row's scores over the values, by the output projection. -/
theorem output_apply (x : FVec Ideal S1x8192x1024 .bf16) (w : FVec Ideal S1024x1024 .bf16) (k v : FVec Ideal S1x8192x8x128 .bf16)
    (o : FVec Ideal S1024x1024 .bf16) (r : Fin 8192) (n : Fin 1024) :
    output x w k v o (ix3 0 r n) = ∑ e : Fin 1024, softmaxRow (fun i => scores x w k (ix4 0 ⟨e.val / 128, by omega⟩ r i))
      (fun i (d : Fin 128) => v (ix4 0 i ⟨e.val / 128, by omega⟩ d)) ⟨e.val % 128, by omega⟩ * o (ix2 e n) := by
  unfold output
  rw [out_dot]
  refine Finset.sum_congr rfl fun e _ => congrArg (· * _) ?_
  rw [context_apply]
  unfold softmaxRow
  refine Finset.sum_congr rfl fun i _ => congrArg (_ * ·) ?_
  rw [weights_apply, exps_apply]
  exact congrArg (Ideal.div _) (Finset.sum_congr rfl fun j _ => exps_apply _ _ _ _)

end Cert.Attn.Refer

end
-- ==== Proof.Answer.lean ====
/-
# What the kernel leaves is the reference's output
-/
module

public import proofs.«01_k».proof.Proof.Context
public import proofs.«01_k».proof.Proof.Rows
public import proofs.«01_k».proof.Proof.Inputs
public import proofs.«01_k».proof.Proof.Refer
public import proofs.«01_k».proof.Proof.Region
public import Idealize.ShloMosaic.Lib.Layout

@[expose] public section

set_option maxRecDepth 16384

noncomputable section

namespace Cert.Attn

open Cert.KernelIdeal Cert.KernelIdeal.Gen
open Idealize.ShloMosaic Idealize.ShloMosaic.TcCoe Idealize.ShloMosaic.Tactic

/-! ## Scores of real rows -/

/-- A row's score against a key. -/
def score (x : Fin 1024 → ℝ) (w : Fin 1024 → Fin 128 → ℝ) (k : Fin 128 → ℝ) (κ : ℝ) : ℝ := (∑ d, (∑ e, x e * w e d) * k d) * κ

section Score

variable (x : Fin 1024 → ℝ) (w : Fin 1024 → Fin 128 → ℝ) (k : Fin 128 → ℝ) (κ : ℝ)

/-- The queries scaled before the product, as the kernel has it, -/
theorem score_kernel : ∑ d, (k d : EReal) * ((∑ e, (x e : EReal) * (w e d : EReal)) * (κ : EReal)) = ((score x w k κ : ℝ) : EReal) := by
  simp only [← EReal.coe_mul, ← coe_sum_real]
  refine congrArg _ ?_
  unfold score
  rw [Finset.sum_mul]
  exact Finset.sum_congr rfl fun d _ => by ring

/-- and the product scaled, as the reference has it. -/
theorem score_refer : (∑ d, (∑ e, (x e : EReal) * (w e d : EReal)) * (k d : EReal)) * (κ : EReal) = ((score x w k κ : ℝ) : EReal) := by
  simp only [← EReal.coe_mul, ← coe_sum_real]
  rfl

end Score

theorem scale_real : ∃ κ : ℝ, Ideal.ofBits .f32 0x3DB504F3#32 = (κ : EReal) := ⟨_, rfl⟩

/-! ## The whole arrays and the devices' blocks of them -/

/-- The whole arrays, and what each device holds of them. -/
structure Holds (m : (ℓ : Loc nD τ sig) → Buf (Elt Ideal) ℓ) (x : (⟨3, ![1, 8192, 1024]⟩ : Shape).Idx → EReal) (w : S1024x1024.Idx → EReal)
    (k v : (⟨4, ![1, 8192, 8, 128]⟩ : Shape).Idx → EReal) (o : S1024x1024.Idx → EReal) : Prop where
  x (p : Dev nD) (r : Fin 2048) (e : Fin 1024) : (m ((p : Thread nD τ).loc main_arg0) : S1x2048x1024.Idx → EReal) (ix3 0 r e) = x (ix3 0 (keyOf p r) e)
  w (p : Dev nD) (e n : Fin 1024) : (m ((p : Thread nD τ).loc main_arg1) : S1024x1024.Idx → EReal) (ix2 e n) = w (ix2 e n)
  k (p : Dev nD) (j : Fin 2048) (h : Fin 8) (d : Fin 128) :
    (m ((p : Thread nD τ).loc main_arg2) : S1x2048x8x128.Idx → EReal) (ix4 0 j h d) = k (ix4 0 (keyOf p j) h d)
  v (p : Dev nD) (j : Fin 2048) (h : Fin 8) (d : Fin 128) :
    (m ((p : Thread nD τ).loc main_arg3) : S1x2048x8x128.Idx → EReal) (ix4 0 j h d) = v (ix4 0 (keyOf p j) h d)
  o (p : Dev nD) (e n : Fin 1024) : (m ((p : Thread nD τ).loc main_arg4) : S1024x1024.Idx → EReal) (ix2 e n) = o (ix2 e n)

section Join

variable {m : (ℓ : Loc nD τ sig) → Buf (Elt Ideal) ℓ} {x : (⟨3, ![1, 8192, 1024]⟩ : Shape).Idx → EReal} {w : S1024x1024.Idx → EReal}
  {k v : (⟨4, ![1, 8192, 8, 128]⟩ : Shape).Idx → EReal} {o : S1024x1024.Idx → EReal} (H : Holds m x w k v o)
  {xr : Fin 8192 → Fin 1024 → ℝ} (hx : ∀ r e, x (ix3 0 r e) = (xr r e : EReal))
  {wr : Fin 1024 → Fin 1024 → ℝ} (hw : ∀ e n, w (ix2 e n) = (wr e n : EReal))
  {kr : Fin 8192 → Fin 8 → Fin 128 → ℝ} (hk : ∀ i h d, k (ix4 0 i h d) = (kr i h d : EReal))
  {κ : ℝ} (hκ : Ideal.ofBits .f32 0x3DB504F3#32 = (κ : EReal)) (c : Dev nD)

/-- The score of a row against a key, by head. -/
def headScore (xr : Fin 8192 → Fin 1024 → ℝ) (wr : Fin 1024 → Fin 1024 → ℝ) (kr : Fin 8192 → Fin 8 → Fin 128 → ℝ) (κ : ℝ)
    (h : Fin 8) (r i : Fin 8192) : ℝ :=
  score (xr r) (fun e d => wr e ⟨128 * h.val + d.val, by omega⟩) (kr i h) κ

/-- The scores of the rows of device `c`, by slot. -/
def scoreOf (xr : Fin 8192 → Fin 1024 → ℝ) (wr : Fin 1024 → Fin 1024 → ℝ) (kr : Fin 8192 → Fin 8 → Fin 128 → ℝ) (κ : ℝ) (c : Dev nD)
    (u : Fin 64) (q : Fin 256) (i : Fin 8192) : ℝ :=
  headScore xr wr kr κ (headOf u) (keyOf c (rowOf u q)) i

/-- The values, by slot. -/
def valOf (v : (⟨4, ![1, 8192, 8, 128]⟩ : Shape).Idx → EReal) (u : Fin 64) (i : Fin 8192) (d : Fin 128) : EReal := v (ix4 0 i (headOf u) d)

include H hx hw hk hκ

theorem reads (f6 : QC (F := Ideal)) (p : Dev nD) :
    Reads (scoreOf xr wr kr κ c) (valOf v) (qAll (xIn m c) (wqIn m c) f6) (stage (kvOf m p)) p where
  score u q j := by
    unfold scoreOf headScore
    rw [← score_kernel]
    refine Finset.sum_congr rfl fun d _ => ?_
    rw [kvAt_key, H.k, hk, qAt_qAll, hκ]
    refine congrArg (fun z => (kr (keyOf p j) (headOf u) d : EReal) * (z * (κ : EReal))) (Finset.sum_congr rfl fun e _ => ?_)
    rw [xAt_in, H.x, hx, wqAt_in, H.w, hw]
  val u j d := by
    rw [kvAt_val, H.v]
    rfl

theorem ctx_entry (f6 : QC (F := Ideal)) (S : StI) (C : CtxC (F := Ideal)) (e : Fin 1024) (r : Fin 2048) :
    ctxAt (ctxAll (stAll (kvOf m) c (xIn m c) (wqIn m c) f6 S) C) e r
      = softmaxRow (fun i => Refer.scores x w k (ix4 0 ⟨e.val / 128, by omega⟩ (keyOf c r) i))
          (fun i (d : Fin 128) => v (ix4 0 i ⟨e.val / 128, by omega⟩ d)) ⟨e.val % 128, by omega⟩ := by
  have hon := stAll_on (kvOf m) c (reads H hx hw hk hκ c f6) (xIn m c) (wqIn m c) f6 S rfl (slotOf e r) ⟨r.val % 256, by omega⟩
  have hh : headOf (slotOf e r) = ⟨e.val / 128, by omega⟩ := Fin.ext (by show (e.val / 128 * 8 + r.val / 256) / 8 = e.val / 128; omega)
  have hr : rowOf (slotOf e r) ⟨r.val % 256, by omega⟩ = r :=
    Fin.ext (by show 256 * ((e.val / 128 * 8 + r.val / 256) % 8) + r.val % 256 = r.val; omega)
  have hc : c.val < 4 := c.isLt
  rw [ctxAt_ctxAll]
  refine (Online.out hon ?_ (fun i => Refer.scores x w k (ix4 0 ⟨e.val / 128, by omega⟩ (keyOf c r) i)) (fun i => ?_) ⟨e.val % 128, by omega⟩).trans ?_
  · refine ⟨keyOf c r, Finset.mem_filter.2 ⟨Finset.mem_univ _, ?_⟩⟩
    rw [hr]
    show 2048 * (c.val - 3) ≤ 2048 * c.val + r.val ∧ (2048 * c.val + r.val) / 64 ≤ (2048 * c.val + r.val) / 64
    omega
  · rw [Refer.scores_apply]
    refine if_congr ?_ ?_ rfl
    · unfold seen
      rw [Finset.mem_filter, hr]
      show i.val / 64 ≤ (2048 * c.val + r.val) / 64 ↔ _
      simp only [Finset.mem_univ, true_and]
      omega
    · unfold scoreOf
      rw [hr, hh, hκ]
      unfold headScore
      rw [← score_refer]
      refine congrArg (· * (κ : EReal)) (Finset.sum_congr rfl fun d _ => ?_)
      rw [hk]
      refine congrArg (· * (kr i ⟨e.val / 128, by omega⟩ d : EReal)) (Finset.sum_congr rfl fun a _ => ?_)
      rw [hx, ← hw]
      refine congrArg (fun z => (xr (keyOf c r) a : EReal) * w (ix2 a z)) (Fin.ext ?_)
      show e.val / 128 * 128 + d.val = 128 * (e.val / 128) + d.val
      omega
  · refine congrArg (fun z => softmaxRow _ z _) (funext fun i => funext fun d => ?_)
    unfold valOf
    rw [hh]

/-- What device `c` leaves, entry by entry. -/
theorem out_entry {X : OutC (F := Ideal)} (hX : OutOk m c X) (r : Fin 2048) (n : Fin 1024) :
    outAt X r n = Refer.output x w k v o (ix3 0 (keyOf c r) n) := by
  obtain ⟨f6, S, C, f4, rfl⟩ := hX
  unfold outAll
  rw [outAt_outOf, Refer.output_apply]
  refine Finset.sum_congr rfl fun e _ => ?_
  rw [ctx_entry H hx hw hk hκ, woAt_in, H.o]

end Join

/-! ## The blocks -/

theorem block_rows (c : Fin 4) (x : (⟨3, ![1, 8192, 1024]⟩ : Shape).Idx → EReal) (r : Fin 2048) (n : Fin 1024) :
    Layout.block ⟨3, ![1, 2048, 1024]⟩ ⟨3, ![1, 8192, 1024]⟩ 1 4 c x (by decide) (ix3 0 r n) = x (ix3 0 (keyOf c r) n) := by
  rw [Layout.block_apply]
  refine congrArg x (funext fun a => Fin.ext ?_)
  rw [Layout.Tiles.idx_val]
  fin_cases a
  · rfl
  · show c.val * 2048 + r.val = 2048 * c.val + r.val; omega
  · rfl

theorem block_keys (c : Fin 4) (x : (⟨4, ![1, 8192, 8, 128]⟩ : Shape).Idx → EReal) (j : Fin 2048) (h : Fin 8) (d : Fin 128) :
    Layout.block ⟨4, ![1, 2048, 8, 128]⟩ ⟨4, ![1, 8192, 8, 128]⟩ 1 4 c x (by decide) (ix4 0 j h d) = x (ix4 0 (keyOf c j) h d) := by
  rw [Layout.block_apply]
  refine congrArg x (funext fun a => Fin.ext ?_)
  rw [Layout.Tiles.idx_val]
  fin_cases a
  · rfl
  · show c.val * 2048 + j.val = 2048 * c.val + j.val; omega
  · rfl
  · rfl

/-- A position is a row of some device's block. -/
theorem keyOf_all (i : Fin 8192) : ∃ (c : Fin 4) (r : Fin 2048), keyOf c r = i :=
  ⟨⟨i.val / 2048, by omega⟩, ⟨i.val % 2048, by omega⟩, Fin.ext (by show 2048 * (i.val / 2048) + i.val % 2048 = i.val; omega)⟩

theorem ext_rows {X Y : S1x2048x1024.Idx → EReal} (h : ∀ r n, X (ix3 0 r n) = Y (ix3 0 r n)) : X = Y := by
  funext i
  have hi : i = ix3 0 (i 1) (i 2) := by
    funext a
    fin_cases a
    · exact Subsingleton.elim (α := Fin 1) _ _
    · rfl
    · rfl
  rw [hi]
  exact h _ _

/-- The kernel's output on device `c` is that device's block of the reference's. -/
theorem answer {m : (ℓ : Loc nD τ sig) → Buf (Elt Ideal) ℓ} {x : (⟨3, ![1, 8192, 1024]⟩ : Shape).Idx → EReal} {w : S1024x1024.Idx → EReal}
    {k v : (⟨4, ![1, 8192, 8, 128]⟩ : Shape).Idx → EReal} {o : S1024x1024.Idx → EReal} (H : Holds m x w k v o)
    (fx : ∀ (p : Dev nD) i, ∃ a : ℝ, (m ((p : Thread nD τ).loc main_arg0) : S1x2048x1024.Idx → EReal) i = (a : EReal))
    (fw : ∀ (p : Dev nD) i, ∃ a : ℝ, (m ((p : Thread nD τ).loc main_arg1) : S1024x1024.Idx → EReal) i = (a : EReal))
    (fk : ∀ (p : Dev nD) i, ∃ a : ℝ, (m ((p : Thread nD τ).loc main_arg2) : S1x2048x8x128.Idx → EReal) i = (a : EReal))
    (c : Dev nD) {X : S1x2048x1024.Idx → EReal} (hX : OutOk (F := Ideal) m c X) :
    X = Layout.block ⟨3, ![1, 2048, 1024]⟩ ⟨3, ![1, 8192, 1024]⟩ 1 4 c (Refer.output x w k v o) := by
  have hx : ∀ r e, ∃ a : ℝ, x (ix3 0 r e) = (a : EReal) := fun r e => by
    obtain ⟨p, j, rfl⟩ := keyOf_all r
    rw [← H.x p j e]
    exact fx p _
  have hw : ∀ e n, ∃ a : ℝ, w (ix2 e n) = (a : EReal) := fun e n => by
    rw [← H.w c e n]
    exact fw c _
  have hk : ∀ i h d, ∃ a : ℝ, k (ix4 0 i h d) = (a : EReal) := fun i h d => by
    obtain ⟨p, j, rfl⟩ := keyOf_all i
    rw [← H.k p j h d]
    exact fk p _
  choose xr hx using hx
  choose wr hw using hw
  choose kr hk using hk
  obtain ⟨κ, hκ⟩ := scale_real
  refine ext_rows fun r n => ?_
  rw [block_rows]
  exact out_entry H hx hw hk hκ c hX r n

end Cert.Attn

end
-- ==== Proof.Finite.lean ====
/-
# What the precondition says: the entries of the rows, the query weights and the keys are real
-/
module

public import proofs.«01_k».proof.Defs
public import Idealize.ShloMosaic.Lib.ReduceAll
public import Idealize.ShloMosaic.Lib.KernelVsHost

@[expose] public section

noncomputable section

namespace Cert.Attn

open Idealize.ShloMosaic

instance preFacts : Cert.Pre_finite_KernelIdeal.Facts where
  bitsLt_bf16_f32 := by decide
  bcast_S_S1x2048x1024 := by decide
  reducesTo_S1x2048x1024_S_d0_1_2 := by decide
  h_S_ := by decide
  bcast_S_S1024x1024 := by decide
  reducesTo_S1024x1024_S_d0_1 := by decide
  bcast_S_S1x2048x8x128 := by decide
  reducesTo_S1x2048x8x128_S_d0_1_2_3 := by decide

instance preFactsRef : Cert.Pre_finite_ReferenceIdeal.Facts where
  bitsLt_bf16_f32 := by decide
  bcast_S_S1x8192x1024 := by decide
  reducesTo_S1x8192x1024_S_d0_1_2 := by decide
  h_S_ := by decide
  bcast_S_S1024x1024 := by decide
  reducesTo_S1024x1024_S_d0_1 := by decide
  bcast_S_S1x8192x8x128 := by decide
  reducesTo_S1x8192x8x128_S_d0_1_2_3 := by decide

/-- A number below infinity in absolute value is real. -/
theorem real_of_olt (x : EReal) (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  rw [← Ideal.xori_weird_eq_hostAbsf_olt_inf] at h
  have h' : ¬ (x = ⊤ ∨ x = ⊥) := fun hx => by
    have : IntOp.xori (BitVec.ofBool (decide ((x : EReal) = ⊤ ∨ (x : EReal) = ⊥))) 1#1 = 1#1 := h
    rw [decide_eq_true hx] at this
    exact absurd this (by decide)
  push Not at h'
  exact ⟨x.toReal, (EReal.coe_toReal h'.1 h'.2).symm⟩

theorem all_real {s : Shape} {axes : List (Fin s.rank)} (x : FVec Ideal s .bf16) (hb) (hc) (hr : s.ReducesTo axes ⟨0, ![]⟩) (hu) (j)
    (h : Host.reduce IntOp.andi (cmpf .olt (Host.absf (extf .f32 x hb)) (broadcastInDim s ![] hc (constant ⟨0, ![]⟩ .f32 0x7F800000#32)))
      (constantI ⟨0, ![]⟩ 1 1#1) hr hu j = 1#1) (i : s.Idx) : ∃ r : ℝ, x i = (r : EReal) :=
  real_of_olt (x i) (Host.reduce_andi_all _ _ _ _ j h i)

open Cert.Pre_finite_KernelIdeal in
theorem fn_real (x : FVec Ideal S1x2048x1024 .bf16) (w : FVec Ideal S1024x1024 .bf16) (k v : FVec Ideal S1x2048x8x128 .bf16) (o : FVec Ideal S1024x1024 .bf16)
    (h : ∀ i, fn x w k v o i = 1#1) :
    (∀ i, ∃ r : ℝ, x i = (r : EReal)) ∧ (∀ i, ∃ r : ℝ, w i = (r : EReal)) ∧ ∀ i, ∃ r : ℝ, k i = (r : EReal) := by
  have h0 := IntOp.andi_eq_one.1 (h default)
  have h1 := IntOp.andi_eq_one.1 h0.1
  exact ⟨all_real x _ _ _ _ _ h1.1, all_real w _ _ _ _ _ h1.2, all_real k _ _ _ _ _ h0.2⟩

end Cert.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Answer
public import proofs.«01_k».proof.Proof.Finite
public import Idealize.ShloMosaic.Adequacy
public import Idealize.ShloMosaic.Init

@[expose] public section

noncomputable section

namespace Cert.Proof

open Idealize.ShloMosaic Idealize.SL.Sem

/-- At the bits a named constant is the constant as printed, so the kernel is the ideal program's text read at the bits. -/
@[reducible] def namedBits : Named Bits where
  named _ _ b := FloatOps.ofBits b

section

attribute [local instance] namedBits

set_option maxRecDepth 65536
set_option backward.isDefEq.respectTransparency.types false

theorem body_text : @Cert.Kernel.cc0_body Bits _ Cert.Kernel.Gen.facts = @Cert.KernelIdeal.cc0_body Bits _ _ Cert.KernelIdeal.Gen.facts := rfl

theorem bodies_text : Cert.Kernel.defs₀ (F := Bits) = Cert.KernelIdeal.defs₀ (F := Bits) := by
  refine congrArg Defs.onTc ?_
  funext l x
  match l, x with
  | ⟨0, _⟩, (t, s) => rfl
  | ⟨k + 1, h⟩, _ => exact absurd h (Nat.not_lt.2 (Nat.le_add_left _ _))

theorem defs_text : Cert.Kernel.defs (F := Bits) = Cert.KernelIdeal.defs (F := Bits) := by
  unfold Cert.Kernel.defs Cert.KernelIdeal.defs
  rw [bodies_text]
  rfl

theorem frame_kernel : Cert.quiescent_Kernel := fun m ρ _ => by
  have h := Cert.Attn.run_main (F := Bits) m ρ
  have h' := (θ_run (Cert.KernelIdeal.defs (F := Bits)) _ _).mono (fun _ h => (⟨fun c => (h.1 c).1, h.2⟩ : _ ∧ _)) h
  rw [defs_text]
  exact h'

end

theorem frame_ideal : Cert.quiescent_KernelIdeal := fun m ρ _ =>
  (θ_run Cert.KernelIdeal.defs _ _).mono (fun _ h => ⟨fun c => (h.1 c).1, h.2⟩) (Cert.Attn.run_main (F := Ideal) m ρ)

theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

theorem preserves : Cert.preserves_Kernel_KernelIdeal := IdealRules.named_const.statement Cert.KernelIdeal.κ "mask" .f32 _ ⊥ rfl

theorem frame_ideal_finite : Cert.quiescent_KernelIdeal_pre_finite_KernelIdeal (hPre_finite_KernelIdeal := Cert.Attn.preFacts) :=
  fun m ρ _ => frame_ideal m ρ trivial

theorem frame_reference_finite : Cert.quiescent_ReferenceIdeal_pre_finite_ReferenceIdeal (hPre_finite_ReferenceIdeal := Cert.Attn.preFactsRef) :=
  fun m ρ _ => frame_reference m ρ trivial

/-- Every device ends with its block of the reference's output. -/
theorem algebraic : Cert.algebraic_KernelIdeal_ReferenceIdeal_pre_finite_KernelIdeal (hPre_finite_KernelIdeal := Cert.Attn.preFacts) := by
  intro m ρ m' ρ' hpre hm
  have fin := fun c => Cert.Attn.fn_real _ _ _ _ _ fun i => congrFun (hpre c) i
  refine ⟨Cert.ReferenceIdeal.Value.res_main_v38 m' 0, ?_, ?_⟩
  · refine (θ_run Cert.KernelIdeal.defs _ _).mono (fun r h c => ⟨?_, (h.1 c).1⟩) (Cert.Attn.run_main (F := Ideal) m ρ)
    rw [Cert.Attn.Refer.output_eq]
    refine Cert.Attn.answer ⟨fun p r e => ?_, fun p e n => ?_, fun p j h d => ?_, fun p j h d => ?_, fun p e n => ?_⟩
      (fun p => (fin p).1) (fun p => (fin p).2.1) (fun p => (fin p).2.2) c (h.1 c).2
    · exact (congrFun (hm p).1 _).trans (Cert.Attn.block_rows p _ r e)
    · exact congrFun (hm p).2.1 _
    · exact (congrFun (hm p).2.2.1 _).trans (Cert.Attn.block_keys p _ j h d)
    · exact (congrFun (hm p).2.2.2.1 _).trans (Cert.Attn.block_keys p _ j h d)
    · exact congrFun (hm p).2.2.2.2 _
  · exact (θ_run Cert.ReferenceIdeal.defs _ _).mono (fun r h => h 0) (Cert.ReferenceIdeal.Value.run (F := Ideal) m' ρ')

theorem claim : Cert.Claim := ⟨Cert.Kernel.Gen.facts, Cert.KernelIdeal.Gen.facts, Cert.ReferenceIdeal.Gen.facts, Cert.Attn.preFacts, Cert.Attn.preFactsRef,
  frame_kernel, frame_ideal, frame_ideal_finite, frame_reference, frame_reference_finite, preserves, algebraic⟩

end Cert.Proof

end
